-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Transform (m : (ℓ : Loc Cert.Transform.nD Cert.Transform.τ Cert.Transform.sig) → Buf (Elt Bits) ℓ) : Prop :=
  True

def Pre_TransformIdeal (m : (ℓ : Loc Cert.TransformIdeal.nD Cert.TransformIdeal.τ Cert.TransformIdeal.sig) → Buf (Elt Ideal) ℓ) : Prop :=
  True

def Pre_TransformReferenceIdeal (m : (ℓ : Loc Cert.TransformReferenceIdeal.nD Cert.TransformReferenceIdeal.τ Cert.TransformReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Transform [hTransform : Cert.Transform.Facts] : Prop :=
  ∀ (m : (ℓ : Loc Cert.Transform.nD Cert.Transform.τ Cert.Transform.sig) → Buf (Elt Bits) ℓ) (g : Dev Cert.Transform.nD → PrngReg), Pre_Transform m →
    θ_run (Cert.Transform.defs (F := Bits)) (onTc (τ := Cert.Transform.τ) (Cert.Transform.main (F := Bits))) ⟨m, fun _ => 0, g⟩ (fun r => (∀ c : Dev Cert.Transform.nD,
      r.2.mem ((c.tc : Thread Cert.Transform.nD Cert.Transform.τ).loc Cert.Transform.main_arg0) = m ((c.tc : Thread Cert.Transform.nD Cert.Transform.τ).loc Cert.Transform.main_arg0)
      ∧ r.2.mem ((c.tc : Thread Cert.Transform.nD Cert.Transform.τ).loc Cert.Transform.main_arg1) = m ((c.tc : Thread Cert.Transform.nD Cert.Transform.τ).loc Cert.Transform.main_arg1)
      ∧ r.2.mem ((c.tc : Thread Cert.Transform.nD Cert.Transform.τ).loc Cert.Transform.main_arg2) = m ((c.tc : Thread Cert.Transform.nD Cert.Transform.τ).loc Cert.Transform.main_arg2)
      ∧ r.2.mem ((c.tc : Thread Cert.Transform.nD Cert.Transform.τ).loc Cert.Transform.main_arg3) = m ((c.tc : Thread Cert.Transform.nD Cert.Transform.τ).loc Cert.Transform.main_arg3)
      ∧ r.2.mem ((c.tc : Thread Cert.Transform.nD Cert.Transform.τ).loc Cert.Transform.main_arg4) = m ((c.tc : Thread Cert.Transform.nD Cert.Transform.τ).loc Cert.Transform.main_arg4))
      ∧ r.2.sem = fun _ => 0)

def quiescent_TransformIdeal [hTransformIdeal : Cert.TransformIdeal.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
      ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
      ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4))
      ∧ r.2.sem = fun _ => 0)

def quiescent_TransformReferenceIdeal [hTransformReferenceIdeal : Cert.TransformReferenceIdeal.Facts] : Prop :=
  ∀ (m : (ℓ : Loc Cert.TransformReferenceIdeal.nD Cert.TransformReferenceIdeal.τ Cert.TransformReferenceIdeal.sig) → Buf (Elt Ideal) ℓ) (g : Dev Cert.TransformReferenceIdeal.nD → PrngReg), Pre_TransformReferenceIdeal m →
    θ_run (Cert.TransformReferenceIdeal.defs (F := Ideal)) (onTc (τ := Cert.TransformReferenceIdeal.τ) (Cert.TransformReferenceIdeal.main (F := Ideal))) ⟨m, fun _ => 0, g⟩ (fun r => (∀ c : Dev Cert.TransformReferenceIdeal.nD,
      r.2.mem ((c.tc : Thread Cert.TransformReferenceIdeal.nD Cert.TransformReferenceIdeal.τ).loc Cert.TransformReferenceIdeal.main_arg0) = m ((c.tc : Thread Cert.TransformReferenceIdeal.nD Cert.TransformReferenceIdeal.τ).loc Cert.TransformReferenceIdeal.main_arg0)
      ∧ r.2.mem ((c.tc : Thread Cert.TransformReferenceIdeal.nD Cert.TransformReferenceIdeal.τ).loc Cert.TransformReferenceIdeal.main_arg1) = m ((c.tc : Thread Cert.TransformReferenceIdeal.nD Cert.TransformReferenceIdeal.τ).loc Cert.TransformReferenceIdeal.main_arg1)
      ∧ r.2.mem ((c.tc : Thread Cert.TransformReferenceIdeal.nD Cert.TransformReferenceIdeal.τ).loc Cert.TransformReferenceIdeal.main_arg2) = m ((c.tc : Thread Cert.TransformReferenceIdeal.nD Cert.TransformReferenceIdeal.τ).loc Cert.TransformReferenceIdeal.main_arg2)
      ∧ r.2.mem ((c.tc : Thread Cert.TransformReferenceIdeal.nD Cert.TransformReferenceIdeal.τ).loc Cert.TransformReferenceIdeal.main_arg3) = m ((c.tc : Thread Cert.TransformReferenceIdeal.nD Cert.TransformReferenceIdeal.τ).loc Cert.TransformReferenceIdeal.main_arg3)
      ∧ r.2.mem ((c.tc : Thread Cert.TransformReferenceIdeal.nD Cert.TransformReferenceIdeal.τ).loc Cert.TransformReferenceIdeal.main_arg4) = m ((c.tc : Thread Cert.TransformReferenceIdeal.nD Cert.TransformReferenceIdeal.τ).loc Cert.TransformReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Transform_TransformIdeal : Prop :=
  IdealRules.bf16_pair.BufferStatement Cert.TransformIdeal.S2x2880x2x128 Cert.TransformIdeal.S2x2880x1x128
  ∧ IdealRules.bf16_pair.PackStatement Cert.TransformIdeal.S80x256
  ∧ IdealRules.bf16_pair.Statement Cert.TransformIdeal.S1x80x2x128 Cert.TransformIdeal.S1x80x1x128
  ∧ IdealRules.bf16_pair.Statement Cert.TransformIdeal.S1x32x2x128 Cert.TransformIdeal.S1x32x1x128
  ∧ IdealRules.bf16_pair.Statement Cert.TransformIdeal.S64x128 Cert.TransformIdeal.S32x128

def algebraic_TransformIdeal_TransformReferenceIdeal [hTransformIdeal : Cert.TransformIdeal.Facts] [hTransformReferenceIdeal : Cert.TransformReferenceIdeal.Facts] : Prop :=
  ∀ (m : (ℓ : Loc Cert.TransformIdeal.nD Cert.TransformIdeal.τ Cert.TransformIdeal.sig) → Buf (Elt Ideal) ℓ) (g : Dev Cert.TransformIdeal.nD → PrngReg)
    (m' : (ℓ : Loc Cert.TransformReferenceIdeal.nD Cert.TransformReferenceIdeal.τ Cert.TransformReferenceIdeal.sig) → Buf (Elt Ideal) ℓ) (g' : Dev Cert.TransformReferenceIdeal.nD → PrngReg), Pre_TransformIdeal m →
    (∀ c : Dev Cert.TransformIdeal.nD,
      m' ((c.tc : Thread Cert.TransformReferenceIdeal.nD Cert.TransformReferenceIdeal.τ).loc Cert.TransformReferenceIdeal.main_arg0) = m ((c.tc : Thread Cert.TransformIdeal.nD Cert.TransformIdeal.τ).loc Cert.TransformIdeal.main_arg0)
      ∧ m' ((c.tc : Thread Cert.TransformReferenceIdeal.nD Cert.TransformReferenceIdeal.τ).loc Cert.TransformReferenceIdeal.main_arg1) = m ((c.tc : Thread Cert.TransformIdeal.nD Cert.TransformIdeal.τ).loc Cert.TransformIdeal.main_arg1)
      ∧ m' ((c.tc : Thread Cert.TransformReferenceIdeal.nD Cert.TransformReferenceIdeal.τ).loc Cert.TransformReferenceIdeal.main_arg2) = m ((c.tc : Thread Cert.TransformIdeal.nD Cert.TransformIdeal.τ).loc Cert.TransformIdeal.main_arg2)
      ∧ m' ((c.tc : Thread Cert.TransformReferenceIdeal.nD Cert.TransformReferenceIdeal.τ).loc Cert.TransformReferenceIdeal.main_arg3) = m ((c.tc : Thread Cert.TransformIdeal.nD Cert.TransformIdeal.τ).loc Cert.TransformIdeal.main_arg3)
      ∧ m' ((c.tc : Thread Cert.TransformReferenceIdeal.nD Cert.TransformReferenceIdeal.τ).loc Cert.TransformReferenceIdeal.main_arg4) = m ((c.tc : Thread Cert.TransformIdeal.nD Cert.TransformIdeal.τ).loc Cert.TransformIdeal.main_arg4)) →
    ∃ (v0 : (c : Dev Cert.TransformIdeal.nD) → Buf (Elt Ideal) ((c.tc : Thread Cert.TransformIdeal.nD Cert.TransformIdeal.τ).loc Cert.TransformIdeal.main_v50_0)) (v1 : (c : Dev Cert.TransformIdeal.nD) → Buf (Elt Ideal) ((c.tc : Thread Cert.TransformIdeal.nD Cert.TransformIdeal.τ).loc Cert.TransformIdeal.main_v50_1)) (v2 : (c : Dev Cert.TransformIdeal.nD) → Buf (Elt Ideal) ((c.tc : Thread Cert.TransformIdeal.nD Cert.TransformIdeal.τ).loc Cert.TransformIdeal.main_v50_2)) (v3 : (c : Dev Cert.TransformIdeal.nD) → Buf (Elt Ideal) ((c.tc : Thread Cert.TransformIdeal.nD Cert.TransformIdeal.τ).loc Cert.TransformIdeal.main_v50_3)),
      θ_run (Cert.TransformIdeal.defs (F := Ideal)) (onTc (τ := Cert.TransformIdeal.τ) (Cert.TransformIdeal.main (F := Ideal))) ⟨m, fun _ => 0, g⟩ (fun r => ∀ c : Dev Cert.TransformIdeal.nD,
          r.2.mem ((c.tc : Thread Cert.TransformIdeal.nD Cert.TransformIdeal.τ).loc Cert.TransformIdeal.main_v50_0) = v0 c
          ∧ r.2.mem ((c.tc : Thread Cert.TransformIdeal.nD Cert.TransformIdeal.τ).loc Cert.TransformIdeal.main_v50_1) = v1 c
          ∧ r.2.mem ((c.tc : Thread Cert.TransformIdeal.nD Cert.TransformIdeal.τ).loc Cert.TransformIdeal.main_v50_2) = v2 c
          ∧ r.2.mem ((c.tc : Thread Cert.TransformIdeal.nD Cert.TransformIdeal.τ).loc Cert.TransformIdeal.main_v50_3) = v3 c
          ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
          ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
          ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
          ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
          ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4))
      ∧ θ_run (Cert.TransformReferenceIdeal.defs (F := Ideal)) (onTc (τ := Cert.TransformReferenceIdeal.τ) (Cert.TransformReferenceIdeal.main (F := Ideal))) ⟨m', fun _ => 0, g'⟩ (fun r => ∀ c : Dev Cert.TransformReferenceIdeal.nD,
          r.2.mem ((c.tc : Thread Cert.TransformReferenceIdeal.nD Cert.TransformReferenceIdeal.τ).loc Cert.TransformReferenceIdeal.main_v32_0) = v0 c
          ∧ r.2.mem ((c.tc : Thread Cert.TransformReferenceIdeal.nD Cert.TransformReferenceIdeal.τ).loc Cert.TransformReferenceIdeal.main_v32_1) = v1 c
          ∧ r.2.mem ((c.tc : Thread Cert.TransformReferenceIdeal.nD Cert.TransformReferenceIdeal.τ).loc Cert.TransformReferenceIdeal.main_v29) = v2 c
          ∧ r.2.mem ((c.tc : Thread Cert.TransformReferenceIdeal.nD Cert.TransformReferenceIdeal.τ).loc Cert.TransformReferenceIdeal.main_v31) = v3 c
          ∧ r.2.mem ((c.tc : Thread Cert.TransformReferenceIdeal.nD Cert.TransformReferenceIdeal.τ).loc Cert.TransformReferenceIdeal.main_arg0) = m' ((c.tc : Thread Cert.TransformReferenceIdeal.nD Cert.TransformReferenceIdeal.τ).loc Cert.TransformReferenceIdeal.main_arg0)
          ∧ r.2.mem ((c.tc : Thread Cert.TransformReferenceIdeal.nD Cert.TransformReferenceIdeal.τ).loc Cert.TransformReferenceIdeal.main_arg1) = m' ((c.tc : Thread Cert.TransformReferenceIdeal.nD Cert.TransformReferenceIdeal.τ).loc Cert.TransformReferenceIdeal.main_arg1)
          ∧ r.2.mem ((c.tc : Thread Cert.TransformReferenceIdeal.nD Cert.TransformReferenceIdeal.τ).loc Cert.TransformReferenceIdeal.main_arg2) = m' ((c.tc : Thread Cert.TransformReferenceIdeal.nD Cert.TransformReferenceIdeal.τ).loc Cert.TransformReferenceIdeal.main_arg2)
          ∧ r.2.mem ((c.tc : Thread Cert.TransformReferenceIdeal.nD Cert.TransformReferenceIdeal.τ).loc Cert.TransformReferenceIdeal.main_arg3) = m' ((c.tc : Thread Cert.TransformReferenceIdeal.nD Cert.TransformReferenceIdeal.τ).loc Cert.TransformReferenceIdeal.main_arg3)
          ∧ r.2.mem ((c.tc : Thread Cert.TransformReferenceIdeal.nD Cert.TransformReferenceIdeal.τ).loc Cert.TransformReferenceIdeal.main_arg4) = m' ((c.tc : Thread Cert.TransformReferenceIdeal.nD Cert.TransformReferenceIdeal.τ).loc Cert.TransformReferenceIdeal.main_arg4))

def Claim : Prop :=
  ∃ (hKernel : Cert.Kernel.Facts) (hKernelIdeal : Cert.KernelIdeal.Facts) (hReferenceIdeal : Cert.ReferenceIdeal.Facts) (hTransform : Cert.Transform.Facts) (hTransformIdeal : Cert.TransformIdeal.Facts) (hTransformReferenceIdeal : Cert.TransformReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Transform (hTransform := hTransform)
    ∧ quiescent_TransformIdeal (hTransformIdeal := hTransformIdeal)
    ∧ quiescent_TransformReferenceIdeal (hTransformReferenceIdeal := hTransformReferenceIdeal)
    ∧ preserves_Kernel_KernelIdeal
    ∧ algebraic_KernelIdeal_ReferenceIdeal (hKernelIdeal := hKernelIdeal) (hReferenceIdeal := hReferenceIdeal)
    ∧ preserves_Transform_TransformIdeal
    ∧ algebraic_TransformIdeal_TransformReferenceIdeal (hTransformIdeal := hTransformIdeal) (hTransformReferenceIdeal := hTransformReferenceIdeal)
-- ==== Kernel.lean ====
abbrev S12288x5120 : Shape := ⟨2, ![12288, 5120]⟩
abbrev S12288 : Shape := ⟨1, ![12288]⟩
abbrev S2560x27648 : Shape := ⟨2, ![2560, 27648]⟩
abbrev S27648 : Shape := ⟨1, ![27648]⟩
abbrev S12288x1 : Shape := ⟨2, ![12288, 1]⟩
abbrev S12288x128 : Shape := ⟨2, ![12288, 128]⟩
abbrev S1x27648 : Shape := ⟨2, ![1, 27648]⟩
abbrev S12288x27648 : Shape := ⟨2, ![12288, 27648]⟩
abbrev S1024x5120 : Shape := ⟨2, ![1024, 5120]⟩
abbrev S2560x1024 : Shape := ⟨2, ![2560, 1024]⟩
abbrev S1x1024 : Shape := ⟨2, ![1, 1024]⟩
abbrev S1024x128 : Shape := ⟨2, ![1024, 128]⟩
abbrev S1024x1024 : Shape := ⟨2, ![1024, 1024]⟩
abbrev S5120x1024 : Shape := ⟨2, ![5120, 1024]⟩
abbrev S2560x1x1024 : Shape := ⟨3, ![2560, 1, 1024]⟩
abbrev S2560x2x1024 : Shape := ⟨3, ![2560, 2, 1024]⟩

abbrev nBuf : Space → Nat
  | .hbm => 8
  | .vmem => 11
  | .smem => 0
  | _ => 0

abbrev bufTy : (tb : Table) → Fin (tcTables nBuf tb) → BufTy
  | .hbm, ⟨0, _⟩ => ⟨S12288x5120, .fp8e4m3⟩
  | .hbm, ⟨1, _⟩ => ⟨S12288, .f32⟩
  | .hbm, ⟨2, _⟩ => ⟨S2560x27648, .i8⟩
  | .hbm, ⟨3, _⟩ => ⟨S27648, .f32⟩
  | .hbm, ⟨4, _⟩ => ⟨S12288x1, .f32⟩
  | .hbm, ⟨5, _⟩ => ⟨S12288x128, .f32⟩
  | .hbm, ⟨6, _⟩ => ⟨S1x27648, .f32⟩
  | .hbm, ⟨7, _⟩ => ⟨S12288x27648, .bf16⟩
  | .local _ .vmem, ⟨0, _⟩ => ⟨S1024x5120, .fp8e4m3⟩
  | .local _ .vmem, ⟨1, _⟩ => ⟨S1024x5120, .fp8e4m3⟩
  | .local _ .vmem, ⟨2, _⟩ => ⟨S2560x1024, .i8⟩
  | .local _ .vmem, ⟨3, _⟩ => ⟨S2560x1024, .i8⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S5120x1024, .fp8e4m3⟩
  | _, _ => ⟨S12288x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![27, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S12288x5120 : Shape := ⟨2, ![12288, 5120]⟩
abbrev S12288 : Shape := ⟨1, ![12288]⟩
abbrev S2560x27648 : Shape := ⟨2, ![2560, 27648]⟩
abbrev S27648 : Shape := ⟨1, ![27648]⟩
abbrev S12288x2560 : Shape := ⟨2, ![12288, 2560]⟩
abbrev S12288x1 : Shape := ⟨2, ![12288, 1]⟩
abbrev S1x27648 : Shape := ⟨2, ![1, 27648]⟩
abbrev S12288x27648 : Shape := ⟨2, ![12288, 27648]⟩

abbrev nBuf : Space → Nat
  | .hbm => 9
  | .vmem => 6
  | .smem => 0
  | _ => 0

abbrev bufTy : (tb : Table) → Fin (tcTables nBuf tb) → BufTy
  | .hbm, ⟨0, _⟩ => ⟨S12288x5120, .fp8e4m3⟩
  | .hbm, ⟨1, _⟩ => ⟨S12288, .f32⟩
  | .hbm, ⟨2, _⟩ => ⟨S2560x27648, .i8⟩
  | .hbm, ⟨3, _⟩ => ⟨S27648, .f32⟩
  | .hbm, ⟨4, _⟩ => ⟨S12288x2560, .fp8e4m3⟩
  | .hbm, ⟨5, _⟩ => ⟨S12288x2560, .fp8e4m3⟩
  | .hbm, ⟨6, _⟩ => ⟨S12288x1, .f32⟩
  | .hbm, ⟨7, _⟩ => ⟨S1x27648, .f32⟩
  | .hbm, ⟨8, _⟩ => ⟨S12288x27648, .bf16⟩
  | .local _ .vmem, ⟨0, _⟩ => ⟨S12288x2560, .fp8e4m3⟩
  | .local _ .vmem, ⟨1, _⟩ => ⟨S12288x2560, .fp8e4m3⟩
  | .local _ .vmem, ⟨2, _⟩ => ⟨S12288x1, .f32⟩
  | .local _ .vmem, ⟨3, _⟩ => ⟨S2560x27648, .i8⟩
  | .local _ .vmem, ⟨4, _⟩ => ⟨S1x27648, .f32⟩
  | .local _ .vmem, ⟨5, _⟩ => ⟨S12288x27648, .bf16⟩
  | _, _ => ⟨S12288x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x27648 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x27648 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x27648 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Transform.lean ====
abbrev S6x2048x5120 : Shape := ⟨3, ![6, 2048, 5120]⟩
abbrev S5120 : Shape := ⟨1, ![5120]⟩
abbrev S64x64 : Shape := ⟨2, ![64, 64]⟩
abbrev S80x80 : Shape := ⟨2, ![80, 80]⟩
abbrev S_ : Shape := ⟨0, ![]⟩
abbrev S12288x5120 : Shape := ⟨2, ![12288, 5120]⟩
abbrev S80x256 : Shape := ⟨2, ![80, 256]⟩
abbrev S1280x256 : Shape := ⟨2, ![1280, 256]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x5120 : Shape := ⟨2, ![1, 5120]⟩
abbrev S1 : Shape := ⟨1, ![1]⟩
abbrev S48x1x256 : Shape := ⟨3, ![48, 1, 256]⟩
abbrev S12288x128 : Shape := ⟨2, ![12288, 128]⟩
abbrev S256x5120 : Shape := ⟨2, ![256, 5120]⟩
abbrev S1x1x256 : Shape := ⟨3, ![1, 1, 256]⟩
abbrev S256x128 : Shape := ⟨2, ![256, 128]⟩
abbrev S2x2880x128 : Shape := ⟨3, ![2, 2880, 128]⟩
abbrev S2x5376x128 : Shape := ⟨3, ![2, 5376, 128]⟩
abbrev S5120x256 : Shape := ⟨2, ![5120, 256]⟩
abbrev S240x256 : Shape := ⟨2, ![240, 256]⟩
abbrev S80x128 : Shape := ⟨2, ![80, 128]⟩
abbrev S1x80x128 : Shape := ⟨3, ![1, 80, 128]⟩
abbrev S160x256 : Shape := ⟨2, ![160, 256]⟩
abbrev S64x256 : Shape := ⟨2, ![64, 256]⟩
abbrev S1x32x128 : Shape := ⟨3, ![1, 32, 128]⟩
abbrev S32x128 : Shape := ⟨2, ![32, 128]⟩
abbrev S64x128 : Shape := ⟨2, ![64, 128]⟩
abbrev S1x64x128 : Shape := ⟨3, ![1, 64, 128]⟩
abbrev S256 : Shape := ⟨1, ![256]⟩
abbrev S1x256 : Shape := ⟨2, ![1, 256]⟩
abbrev S128x256 : Shape := ⟨2, ![128, 256]⟩
abbrev S1x128 : Shape := ⟨2, ![1, 128]⟩
abbrev S160x128 : Shape := ⟨2, ![160, 128]⟩

abbrev nBuf : Space → Nat
  | .hbm => 98
  | .vmem => 18
  | .smem => 1
  | _ => 0

abbrev bufTy : (tb : Table) → Fin (tcTables nBuf tb) → BufTy
  | .hbm, ⟨0, _⟩ => ⟨S6x2048x5120, .bf16⟩
  | .hbm, ⟨1, _⟩ => ⟨S5120, .f32⟩
  | .hbm, ⟨2, _⟩ => ⟨S64x64, .bf16⟩
  | .hbm, ⟨3, _⟩ => ⟨S80x80, .bf16⟩
  | .hbm, ⟨4, _⟩ => ⟨S_, .f32⟩
  | .hbm, ⟨5, _⟩ => ⟨S12288x5120, .bf16⟩
  | .hbm, ⟨6, _⟩ => ⟨S80x80, .bf16⟩
  | .hbm, ⟨7, _⟩ => ⟨S_, .i32⟩
  | .hbm, ⟨8, _⟩ => ⟨S_, .bf16⟩
  | .hbm, ⟨9, _⟩ => ⟨S80x256, .bf16⟩
  | .hbm, ⟨10, _⟩ => ⟨S80x80, .bf16⟩
  | .hbm, ⟨11, _⟩ => ⟨S_, .i32⟩
  | .hbm, ⟨12, _⟩ => ⟨S_, .bf16⟩
  | .hbm, ⟨13, _⟩ => ⟨S80x256, .bf16⟩
  | .hbm, ⟨14, _⟩ => ⟨S80x80, .bf16⟩
  | .hbm, ⟨15, _⟩ => ⟨S_, .i32⟩
  | .hbm, ⟨16, _⟩ => ⟨S_, .bf16⟩
  | .hbm, ⟨17, _⟩ => ⟨S80x256, .bf16⟩
  | .hbm, ⟨18, _⟩ => ⟨S80x80, .bf16⟩
  | .hbm, ⟨19, _⟩ => ⟨S_, .i32⟩
  | .hbm, ⟨20, _⟩ => ⟨S_, .bf16⟩
  | .hbm, ⟨21, _⟩ => ⟨S80x256, .bf16⟩
  | .hbm, ⟨22, _⟩ => ⟨S80x80, .bf16⟩
  | .hbm, ⟨23, _⟩ => ⟨S_, .i32⟩
  | .hbm, ⟨24, _⟩ => ⟨S_, .bf16⟩
  | .hbm, ⟨25, _⟩ => ⟨S80x256, .bf16⟩
  | .hbm, ⟨26, _⟩ => ⟨S80x80, .bf16⟩
  | .hbm, ⟨27, _⟩ => ⟨S_, .i32⟩
  | .hbm, ⟨28, _⟩ => ⟨S_, .bf16⟩
  | .hbm, ⟨29, _⟩ => ⟨S80x256, .bf16⟩
  | .hbm, ⟨30, _⟩ => ⟨S80x80, .bf16⟩
  | .hbm, ⟨31, _⟩ => ⟨S_, .i32⟩
  | .hbm, ⟨32, _⟩ => ⟨S_, .bf16⟩
  | .hbm, ⟨33, _⟩ => ⟨S80x256, .bf16⟩
  | .hbm, ⟨34, _⟩ => ⟨S80x80, .bf16⟩
  | .hbm, ⟨35, _⟩ => ⟨S_, .i32⟩
  | .hbm, ⟨36, _⟩ => ⟨S_, .bf16⟩
  | .hbm, ⟨37, _⟩ => ⟨S80x256, .bf16⟩
  | .hbm, ⟨38, _⟩ => ⟨S80x80, .bf16⟩
  | .hbm, ⟨39, _⟩ => ⟨S_, .i32⟩
  | .hbm, ⟨40, _⟩ => ⟨S_, .bf16⟩
  | .hbm, ⟨41, _⟩ => ⟨S80x256, .bf16⟩
  | .hbm, ⟨42, _⟩ => ⟨S80x80, .bf16⟩
  | .hbm, ⟨43, _⟩ => ⟨S_, .i32⟩
  | .hbm, ⟨44, _⟩ => ⟨S_, .bf16⟩
  | .hbm, ⟨45, _⟩ => ⟨S80x256, .bf16⟩
  | .hbm, ⟨46, _⟩ => ⟨S80x80, .bf16⟩
  | .hbm, ⟨47, _⟩ => ⟨S_, .i32⟩
  | .hbm, ⟨48, _⟩ => ⟨S_, .bf16⟩
  | .hbm, ⟨49, _⟩ => ⟨S80x256, .bf16⟩
  | .hbm, ⟨50, _⟩ => ⟨S80x80, .bf16⟩
  | .hbm, ⟨51, _⟩ => ⟨S_, .i32⟩
  | .hbm, ⟨52, _⟩ => ⟨S_, .bf16⟩
  | .hbm, ⟨53, _⟩ => ⟨S80x256, .bf16⟩
  | .hbm, ⟨54, _⟩ => ⟨S80x80, .bf16⟩
  | .hbm, ⟨55, _⟩ => ⟨S_, .i32⟩
  | .hbm, ⟨56, _⟩ => ⟨S_, .bf16⟩
  | .hbm, ⟨57, _⟩ => ⟨S80x256, .bf16⟩
  | .hbm, ⟨58, _⟩ => ⟨S80x80, .bf16⟩
  | .hbm, ⟨59, _⟩ => ⟨S_, .i32⟩
  | .hbm, ⟨60, _⟩ => ⟨S_, .bf16⟩
  | .hbm, ⟨61, _⟩ => ⟨S80x256, .bf16⟩
  | .hbm, ⟨62, _⟩ => ⟨S80x80, .bf16⟩
  | .hbm, ⟨63, _⟩ => ⟨S_, .i32⟩
  | .hbm, ⟨64, _⟩ => ⟨S_, .bf16⟩
  | .hbm, ⟨65, _⟩ => ⟨S80x256, .bf16⟩
  | .hbm, ⟨66, _⟩ => ⟨S80x80, .bf16⟩
  | .hbm, ⟨67, _⟩ => ⟨S_, .i32⟩
  | .hbm, ⟨68, _⟩ => ⟨S_, .bf16⟩
  | .hbm, ⟨69, _⟩ => ⟨S80x256, .bf16⟩
  | .hbm, ⟨70, _⟩ => ⟨S1280x256, .bf16⟩
  | .hbm, ⟨71, _⟩ => ⟨S4x4, .i32⟩
  | .hbm, ⟨72, _⟩ => ⟨S4x4, .i32⟩
  | .hbm, ⟨73, _⟩ => ⟨S_, .i32⟩
  | .hbm, ⟨74, _⟩ => ⟨S4x4, .i32⟩
  | .hbm, ⟨75, _⟩ => ⟨S4x4, .i32⟩
  | .hbm, ⟨76, _⟩ => ⟨S4x4, .i1⟩
  | .hbm, ⟨77, _⟩ => ⟨S4x4, .bf16⟩
  | .hbm, ⟨78, _⟩ => ⟨S64x64, .bf16⟩
  | .hbm, ⟨79, _⟩ => ⟨S4x1x4x1, .bf16⟩
  | .hbm, ⟨80, _⟩ => ⟨S1x64x1x64, .bf16⟩
  | .hbm, ⟨81, _⟩ => ⟨S4x64x4x64, .bf16⟩
  | .hbm, ⟨82, _⟩ => ⟨S4x64x4x64, .bf16⟩
  | .hbm, ⟨83, _⟩ => ⟨S4x64x4x64, .bf16⟩
  | .hbm, ⟨84, _⟩ => ⟨S256x256, .bf16⟩
  | .hbm, ⟨85, _⟩ => ⟨S256x256, .i32⟩
  | .hbm, ⟨86, _⟩ => ⟨S256x256, .i32⟩
  | .hbm, ⟨87, _⟩ => ⟨S_, .i32⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S256x256, .bf16⟩
  | .hbm, ⟨92, _⟩ => ⟨S1x5120, .f32⟩
  | .hbm, ⟨93, _⟩ => ⟨S1, .f32⟩
  | .hbm, ⟨94, _⟩ => ⟨S12288x5120, .i8⟩
  | .hbm, ⟨95, _⟩ => ⟨S12288x5120, .fp8e4m3⟩
  | .hbm, ⟨96, _⟩ => ⟨S48x1x256, .f32⟩
  | .hbm, ⟨97, _⟩ => ⟨S12288x128, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S1280x256, .bf16⟩
  | .local _ .vmem, ⟨4, _⟩ => ⟨S256x256, .bf16⟩
  | .local _ .vmem, ⟨5, _⟩ => ⟨S256x256, .bf16⟩
  | .local _ .vmem, ⟨6, _⟩ => ⟨S256x5120, .i8⟩
  | .local _ .vmem, ⟨7, _⟩ => ⟨S256x5120, .i8⟩
  | .local _ .vmem, ⟨8, _⟩ => ⟨S256x5120, .fp8e4m3⟩
  | .local _ .vmem, ⟨9, _⟩ => ⟨S256x5120, .fp8e4m3⟩
  | .local _ .vmem, ⟨10, _⟩ => ⟨S1x1x256, .f32⟩
  | .local _ .vmem, ⟨11, _⟩ => ⟨S1x1x256, .f32⟩
  | .local _ .vmem, ⟨12, _⟩ => ⟨S256x128, .f32⟩
  | .local _ .vmem, ⟨13, _⟩ => ⟨S256x128, .f32⟩
  | .local _ .vmem, ⟨14, _⟩ => ⟨S256x5120, .bf16⟩
  | .local _ .vmem, ⟨15, _⟩ => ⟨S2x2880x128, .i32⟩
  | .local _ .vmem, ⟨16, _⟩ => ⟨S2x5376x128, .f32⟩
  | .local _ .vmem, ⟨17, _⟩ => ⟨S5120x256, .fp8e4m3⟩
  | .local _ .smem, ⟨0, _⟩ => ⟨S1, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_call4_v0 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_call5_v0 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_call6_v0 : Ref sig .tc := ⟨.hbm, 32, rfl⟩
abbrev main_v14 : Ref sig .tc := ⟨.hbm, 33, rfl⟩
abbrev main_v15 : Ref sig .tc := ⟨.hbm, 34, rfl⟩
abbrev main_c_6 : Ref sig .tc := ⟨.hbm, 35, rfl⟩
abbrev main_call7_v0 : Ref sig .tc := ⟨.hbm, 36, rfl⟩
abbrev main_v16 : Ref sig .tc := ⟨.hbm, 37, rfl⟩
abbrev main_v17 : Ref sig .tc := ⟨.hbm, 38, rfl⟩
abbrev main_c_7 : Ref sig .tc := ⟨.hbm, 39, rfl⟩
abbrev main_call8_v0 : Ref sig .tc := ⟨.hbm, 40, rfl⟩
abbrev main_v18 : Ref sig .tc := ⟨.hbm, 41, rfl⟩
abbrev main_v19 : Ref sig .tc := ⟨.hbm, 42, rfl⟩
abbrev main_c_8 : Ref sig .tc := ⟨.hbm, 43, rfl⟩
abbrev main_call9_v0 : Ref sig .tc := ⟨.hbm, 44, rfl⟩
abbrev main_v20 : Ref sig .tc := ⟨.hbm, 45, rfl⟩
abbrev main_v21 : Ref sig .tc := ⟨.hbm, 46, rfl⟩
abbrev main_c_9 : Ref sig .tc := ⟨.hbm, 47, rfl⟩
abbrev main_call10_v0 : Ref sig .tc := ⟨.hbm, 48, rfl⟩
abbrev main_v22 : Ref sig .tc := ⟨.hbm, 49, rfl⟩
abbrev main_v23 : Ref sig .tc := ⟨.hbm, 50, rfl⟩
abbrev main_c_10 : Ref sig .tc := ⟨.hbm, 51, rfl⟩
abbrev main_call11_v0 : Ref sig .tc := ⟨.hbm, 52, rfl⟩
abbrev main_v24 : Ref sig .tc := ⟨.hbm, 53, rfl⟩
abbrev main_v25 : Ref sig .tc := ⟨.hbm, 54, rfl⟩
abbrev main_c_11 : Ref sig .tc := ⟨.hbm, 55, rfl⟩
abbrev main_call12_v0 : Ref sig .tc := ⟨.hbm, 56, rfl⟩
abbrev main_v26 : Ref sig .tc := ⟨.hbm, 57, rfl⟩
abbrev main_v27 : Ref sig .tc := ⟨.hbm, 58, rfl⟩
abbrev main_c_12 : Ref sig .tc := ⟨.hbm, 59, rfl⟩
abbrev main_call13_v0 : Ref sig .tc := ⟨.hbm, 60, rfl⟩
abbrev main_v28 : Ref sig .tc := ⟨.hbm, 61, rfl⟩
abbrev main_v29 : Ref sig .tc := ⟨.hbm, 62, rfl⟩
abbrev main_c_13 : Ref sig .tc := ⟨.hbm, 63, rfl⟩
abbrev main_call14_v0 : Ref sig .tc := ⟨.hbm, 64, rfl⟩
abbrev main_v30 : Ref sig .tc := ⟨.hbm, 65, rfl⟩
abbrev main_v31 : Ref sig .tc := ⟨.hbm, 66, rfl⟩
abbrev main_c_14 : Ref sig .tc := ⟨.hbm, 67, rfl⟩
abbrev main_call15_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_15 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call16_v0 : Ref sig .tc := ⟨.hbm, 79, rfl⟩
abbrev main_call16_v1 : Ref sig .tc := ⟨.hbm, 80, rfl⟩
abbrev main_call16_v2 : Ref sig .tc := ⟨.hbm, 81, rfl⟩
abbrev main_call16_v3 : Ref sig .tc := ⟨.hbm, 82, rfl⟩
abbrev main_call16_v4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_16 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50_0 : Ref sig .tc := ⟨.hbm, 94, rfl⟩
abbrev main_v50_1 : Ref sig .tc := ⟨.hbm, 95, rfl⟩
abbrev main_v50_2 : Ref sig .tc := ⟨.hbm, 96, rfl⟩
abbrev main_v50_3 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TransformIdeal.lean ====
abbrev S2x2880x2x128 : Shape := ⟨4, ![2, 2880, 2, 128]⟩
abbrev S2x2880x1x128 : Shape := ⟨4, ![2, 2880, 1, 128]⟩
abbrev S1x80x2x128 : Shape := ⟨4, ![1, 80, 2, 128]⟩
abbrev S1x80x1x128 : Shape := ⟨4, ![1, 80, 1, 128]⟩
abbrev S1x32x2x128 : Shape := ⟨4, ![1, 32, 2, 128]⟩
abbrev S1x32x1x128 : Shape := ⟨4, ![1, 32, 1, 128]⟩
  | .local _ .vmem, ⟨15, _⟩ => ⟨S2x2880x2x128, .bf16⟩
variable {F : FTy → Type} [FloatOps F]
-- ==== TransformReferenceIdeal.lean ====
abbrev S6x2048x5120 : Shape := ⟨3, ![6, 2048, 5120]⟩
abbrev S5120 : Shape := ⟨1, ![5120]⟩
abbrev S64x64 : Shape := ⟨2, ![64, 64]⟩
abbrev S80x80 : Shape := ⟨2, ![80, 80]⟩
abbrev S_ : Shape := ⟨0, ![]⟩
abbrev S1x1x5120 : Shape := ⟨3, ![1, 1, 5120]⟩
abbrev S12288x64x80 : Shape := ⟨3, ![12288, 64, 80]⟩
abbrev S12288x80x64 : Shape := ⟨3, ![12288, 80, 64]⟩
abbrev S12288x5120 : Shape := ⟨2, ![12288, 5120]⟩
abbrev S12288 : Shape := ⟨1, ![12288]⟩
abbrev S12288x1 : Shape := ⟨2, ![12288, 1]⟩
abbrev S48x1x256 : Shape := ⟨3, ![48, 1, 256]⟩
abbrev S12288x128 : Shape := ⟨2, ![12288, 128]⟩

abbrev nBuf : Space → Nat
  | .hbm => 54
  | .vmem => 3
  | .smem => 0
  | _ => 0

abbrev bufTy : (tb : Table) → Fin (tcTables nBuf tb) → BufTy
  | .hbm, ⟨0, _⟩ => ⟨S6x2048x5120, .bf16⟩
  | .hbm, ⟨1, _⟩ => ⟨S5120, .f32⟩
  | .hbm, ⟨2, _⟩ => ⟨S64x64, .bf16⟩
  | .hbm, ⟨3, _⟩ => ⟨S80x80, .bf16⟩
  | .hbm, ⟨4, _⟩ => ⟨S_, .f32⟩
  | .hbm, ⟨5, _⟩ => ⟨S6x2048x5120, .f32⟩
  | .hbm, ⟨6, _⟩ => ⟨S1x1x5120, .f32⟩
  | .hbm, ⟨7, _⟩ => ⟨S6x2048x5120, .f32⟩
  | .hbm, ⟨8, _⟩ => ⟨S6x2048x5120, .f32⟩
  | .hbm, ⟨9, _⟩ => ⟨S6x2048x5120, .bf16⟩
  | .hbm, ⟨10, _⟩ => ⟨S12288x64x80, .bf16⟩
  | .hbm, ⟨11, _⟩ => ⟨S12288x64x80, .f32⟩
  | .hbm, ⟨12, _⟩ => ⟨S12288x64x80, .bf16⟩
  | .hbm, ⟨13, _⟩ => ⟨S12288x80x64, .f32⟩
  | .hbm, ⟨14, _⟩ => ⟨S12288x64x80, .f32⟩
  | .hbm, ⟨15, _⟩ => ⟨S12288x5120, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S12288x5120, .f32⟩
  | .hbm, ⟨23, _⟩ => ⟨S_, .f32⟩
  | .hbm, ⟨24, _⟩ => ⟨S12288, .f32⟩
  | .hbm, ⟨25, _⟩ => ⟨S_, .f32⟩
  | .hbm, ⟨26, _⟩ => ⟨S12288, .f32⟩
  | .hbm, ⟨27, _⟩ => ⟨S12288, .i1⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .f32⟩
  | .hbm, ⟨33, _⟩ => ⟨S_, .f32⟩
  | .hbm, ⟨34, _⟩ => ⟨S_, .f32⟩
  | .hbm, ⟨35, _⟩ => ⟨S12288, .f32⟩
  | .hbm, ⟨36, _⟩ => ⟨S12288, .f32⟩
  | .hbm, ⟨37, _⟩ => ⟨S12288x1, .f32⟩
  | .hbm, ⟨38, _⟩ => ⟨S12288x5120, .f32⟩
  | .hbm, ⟨39, _⟩ => ⟨S12288x5120, .f32⟩
  | .hbm, ⟨40, _⟩ => ⟨S12288x5120, .f32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S12288x5120, .f32⟩
  | .hbm, ⟨45, _⟩ => ⟨S12288x5120, .f32⟩
  | .hbm, ⟨46, _⟩ => ⟨S_, .f32⟩
  | .hbm, ⟨47, _⟩ => ⟨S12288x5120, .f32⟩
  | .hbm, ⟨48, _⟩ => ⟨S12288x5120, .f32⟩
  | .hbm, ⟨49, _⟩ => ⟨S48x1x256, .f32⟩
  | .hbm, ⟨50, _⟩ => ⟨S12288x1, .f32⟩
  | .hbm, ⟨51, _⟩ => ⟨S12288x128, .f32⟩
  | .hbm, ⟨52, _⟩ => ⟨S12288x5120, .i8⟩
  | .hbm, ⟨53, _⟩ => ⟨S12288x5120, .fp8e4m3⟩
  | .local _ .vmem, ⟨0, _⟩ => ⟨S12288x5120, .f32⟩
  | .local _ .vmem, ⟨1, _⟩ => ⟨S12288x5120, .i8⟩
  | .local _ .vmem, ⟨2, _⟩ => ⟨S12288x5120, .fp8e4m3⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_c_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12288x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelBlocks.lean ====
/-
  What one grid point of the matrix product leaves behind. The grid runs over 27 column blocks and, inside each, over
  12 row blocks (324 points, point `12 * j + i`). At the first row block of a column block the body unpacks the int4
  weights of that column block into a scratch, which the other eleven row blocks read back. So at every point the
  scratch holds the unpacked weights of the point's own column block (`scratch_eq`), and the output block is one
  product of the point's input blocks with them (`block_eq`).
-/
module

public import proofs.«01_k».proof.Proof.Gen.KernelIdeal.Value
public import Idealize.ShloMosaic.Lib.Tactic

@[expose] public section

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

section Cases

variable (c : Dev nD) (i : grid0.Coords) (a2 : Memref sig .tc .vmem S1024x5120 .fp8e4m3) (h2 : a2.IsWhole)
  (a3 : Memref sig .tc .vmem S2560x1024 .i8) (h3 : a3.IsWhole) (a4 : Memref sig .tc .vmem S1x1024 .f32) (h4 : a4.IsWhole)
  (a5 : Memref sig .tc .vmem S1024x128 .f32) (h5 : a5.IsWhole) (a6 : Memref sig .tc .vmem S1024x1024 .bf16) (h6 : a6.IsWhole)
  (a7 : Memref sig .tc .vmem S5120x1024 .fp8e4m3) (h7 : a7.IsWhole)
  (x0 : Vec F S1024x5120 .fp8e4m3) (x1 : Vec F S2560x1024 .i8) (x2 : Vec F S1x1024 .f32) (x3 : Vec F S1024x128 .f32)

/-- At a first row block the scratch is stored whole with the unpacked weights. -/
theorem sout_A (hc : cond0_0 i) :
    sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h3.read_unread, View.ld_unit_zero (S := S2560x1024) hz]

/-- At a first row block the output block is the product with the weights just unpacked. -/
theorem out_A (hc : cond0_0 i) :
    out0_A_4 c i a2 h2 a3 h3 a4 h4 a5 h5 a6 h6 a7 h7 hc x0 x1 x2 x3 = k0_pay2 x3 x0 (k0_pay1 x1) x2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz, View.readCov_unit_zero (S := S5120x1024) _ hz]
  simp only [View.readAt_eq_ld, h2.read_unread, h3.read_unread, h4.read_unread, h5.read_unread,
    View.ld_unit_zero (S := S2560x1024) hz, View.ld_unit_zero (S := S1024x5120) hz,
    View.ld_unit_zero (S := S1x1024) hz, View.ld_unit_zero (S := S1024x128) hz]

/-- At the other row blocks the output block is the product with what the scratch holds. -/
theorem out_B (hc : ¬cond0_0 i) (xs : Vec F S5120x1024 .fp8e4m3) :
    out0_B_4 c i a2 h2 a3 h3 a4 h4 a5 h5 a6 h6 a7 h7 hc x0 x1 x2 x3 xs = k0_pay2 x3 x0 xs x2 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero hz]
  simp only [View.readAt_eq_ld, h2.read_unread, h4.read_unread, h5.read_unread, h7.read_unread,
    View.ld_unit_zero (S := S5120x1024) hz, View.ld_unit_zero (S := S1024x5120) hz,
    View.ld_unit_zero (S := S1x1024) hz, View.ld_unit_zero (S := S1024x128) hz]

end Cases

/-- The weight window's block is the point's column block: `t / 12`. -/
theorem idx1 : ∀ t : Fin cfg0.N, win0_1.index t (0 : Fin 2) = 0 ∧ win0_1.index t (1 : Fin 2) = t.val / 12 :=
  (by decide +kernel : ∀ t : Fin grid0.N, win0_1.index t (0 : Fin 2) = 0 ∧ win0_1.index t (1 : Fin 2) = t.val / 12)

/-- Two points of one column block see the same block of packed weights. -/
theorem iblk1_congr (c : Dev nD) (t s : Fin cfg0.N) (h : t.val / 12 = s.val / 12) :
    (iblk m c 1 t : Vec F S2560x1024 .i8) = iblk m c 1 s := by
  have hi : win0_1.index t = win0_1.index s := funext fun a => by
    match a with
    | ⟨0, _⟩ => exact (idx1 t).1.trans (idx1 s).1.symm
    | ⟨1, _⟩ => exact (idx1 t).2.trans (h.trans (idx1 s).2.symm)
  funext j
  unfold iblk
  rw [View.read_apply, View.read_apply]
  show V m c (Pipeline.arrRef spec0 1) _ = V m c (Pipeline.arrRef spec0 1) _
  congr 1
  funext a
  apply Fin.ext
  match a with
  | ⟨0, _⟩ => show win0_1.index t 0 * 2560 + 1 * (j 0).val = win0_1.index s 0 * 2560 + 1 * (j 0).val; rw [hi]
  | ⟨1, _⟩ => show win0_1.index t 1 * 1024 + 1 * (j 1).val = win0_1.index s 1 * 1024 + 1 * (j 1).val; rw [hi]

/-- At a first row block the scratch holds the weights just unpacked. -/
theorem scratch_A (c : Dev nD) (t : Fin cfg0.N) (h0 : t.val % 12 = 0) :
    (outsAt0 m c t.val t.isLt).2 = k0_pay1 (iblk m c 1 t) := by
  rw [outsAt0_A m c t h0]
  dsimp only
  rw [sout_A]

/-- At the other row blocks the scratch holds what the point before left. -/
theorem scratch_B (c : Dev nD) (t : Fin cfg0.N) (h0 : ¬t.val % 12 = 0) :
    (outsAt0 m c t.val t.isLt).2 = (outsAt0 m c (t.val - 1) (Nat.lt_of_le_of_lt (Nat.sub_le _ _) t.isLt)).2 := by
  rw [outsAt0_B m c t h0]
  dsimp only
  rw [sout0_B_0]

/-- After every point the scratch holds the unpacked weights of the point's column block. -/
theorem scratch_eq (c : Dev nD) (n : ℕ) (h : n < cfg0.N) : (outsAt0 m c n h).2 = k0_pay1 (iblk m c 1 ⟨n, h⟩) := by
  induction n with
  | zero => exact scratch_A m c ⟨0, h⟩ (Nat.zero_mod _)
  | succ n ih =>
    by_cases h0 : (n + 1) % 12 = 0
    · exact scratch_A m c ⟨n + 1, h⟩ h0
    · have hn : n < cfg0.N := Nat.lt_of_succ_lt h
      have e1 : (outsAt0 m c (n + 1) h).2 = (outsAt0 m c n hn).2 := scratch_B m c ⟨n + 1, h⟩ h0
      rw [e1, ih hn, iblk1_congr m c ⟨n, hn⟩ ⟨n + 1, h⟩ (by show n / 12 = (n + 1) / 12; omega)]

/-- After every point the output block is the product of the point's input blocks. -/
theorem block_eq (c : Dev nD) (t : Fin cfg0.N) :
    (outsAt0 m c t.val t.isLt).1 = k0_pay2 (iblk m c 3 t) (iblk m c 0 t) (k0_pay1 (iblk m c 1 t)) (iblk m c 2 t) := by
  by_cases h0 : t.val % 12 = 0
  · rw [outsAt0_A m c t h0]
    dsimp only
    rw [out_A]
  · have hn : t.val - 1 < cfg0.N := Nat.lt_of_le_of_lt (Nat.sub_le _ _) t.isLt
    rw [outsAt0_B m c t h0]
    dsimp only
    rw [out_B, scratch_eq m c (t.val - 1) hn, iblk1_congr m c ⟨t.val - 1, hn⟩ t (by show (t.val - 1) / 12 = t.val / 12; omega)]

end Cert.KernelIdeal.Blocks

end
-- ==== Proof.Nibbles.lean ====
/-
  The arithmetic that both programs share: the two signed four-bit numbers in a byte, and the sum over the 5120 inputs
  of a row split into its even and its odd inputs.
-/
module

public import Idealize.ShloMosaic.Lib.Pointwise
public import Idealize.ShloMosaic.Lib.Pipeline.Value

@[expose] public section

noncomputable section

namespace Cert.Nibbles

open Idealize.ShloMosaic

/-- The low four bits of a byte, read as a signed number from -8 to 7. -/
def lo (b : BitVec 8) : ℤ := (BitVec.setWidth 4 b).toInt

/-- The high four bits of a byte, read as a signed number from -8 to 7. -/
def hi (b : BitVec 8) : ℤ := (BitVec.setWidth 4 (b >>> 4)).toInt

/-- A statement about every byte is decided over the 256 of them. -/
theorem forall_byte {p : BitVec 8 → Prop} (h : ∀ n : Fin 256, p (BitVec.ofFin n)) (b : BitVec 8) : p b := h b.toFin

/-- Truncating the widened byte to four bits gives the low number. -/
theorem lo_trunc (b : BitVec 8) : (BitVec.setWidth 4 (BitVec.setWidth 32 b)).toInt = lo b :=
  forall_byte (p := fun b => (BitVec.setWidth 4 (BitVec.setWidth 32 b)).toInt = lo b) (by decide +kernel) b

/-- Shifting the widened byte right by four and truncating gives the high number. -/
theorem hi_trunc (b : BitVec 8) :
    (BitVec.setWidth 4 (IntOp.shrsi ArithUnit.vector (BitVec.setWidth 32 b) 4#32)).toInt = hi b :=
  forall_byte (p := fun b => (BitVec.setWidth 4 (IntOp.shrsi ArithUnit.vector (BitVec.setWidth 32 b) 4#32)).toInt = hi b)
    (by decide +kernel) b

/-- Masking out the low four bits and taking 16 off where they are 8 or more gives the low number. -/
theorem lo_mask (b : BitVec 8) :
    (IntOp.subi (IntOp.andi (BitVec.setWidth 32 b) 15#32) (IntOp.muli 16#32 (BitVec.setWidth 32
      (IntOp.cmpi CmpIPredicate.sge (IntOp.andi (BitVec.setWidth 32 b) 15#32) 8#32)))).toInt = lo b :=
  forall_byte (p := fun b => (IntOp.subi (IntOp.andi (BitVec.setWidth 32 b) 15#32) (IntOp.muli 16#32 (BitVec.setWidth 32
      (IntOp.cmpi CmpIPredicate.sge (IntOp.andi (BitVec.setWidth 32 b) 15#32) 8#32)))).toInt = lo b) (by decide +kernel) b

/-- Shifting right by four and taking 16 off where the result is 8 or more gives the high number. -/
theorem hi_mask (b : BitVec 8) :
    (IntOp.subi (IntOp.shrsi ArithUnit.vector (BitVec.setWidth 32 b) 4#32) (IntOp.muli 16#32 (BitVec.setWidth 32
      (IntOp.cmpi CmpIPredicate.sge (IntOp.shrsi ArithUnit.vector (BitVec.setWidth 32 b) 4#32) 8#32)))).toInt = hi b :=
  forall_byte (p := fun b => (IntOp.subi (IntOp.shrsi ArithUnit.vector (BitVec.setWidth 32 b) 4#32) (IntOp.muli 16#32 (BitVec.setWidth 32
      (IntOp.cmpi CmpIPredicate.sge (IntOp.shrsi ArithUnit.vector (BitVec.setWidth 32 b) 4#32) 8#32)))).toInt = hi b) (by decide +kernel) b

/-- A sum over 5120 positions is the sum over the even ones plus the sum over the odd ones. -/
theorem sum_even_odd (f : Fin 5120 → EReal) :
    ∑ k, f k = ∑ k : Fin 2560, f ⟨2 * k.val, by omega⟩ + ∑ k : Fin 2560, f ⟨2 * k.val + 1, by omega⟩ := by
  rw [← Finset.sum_add_distrib, ← Equiv.sum_comp (finProdFinEquiv (m := 2560) (n := 2)) f, Fintype.sum_prod_type]
  refine Finset.sum_congr rfl fun k _ => ?_
  rw [Fin.sum_univ_two]
  congr 1 <;> congr 1 <;> apply Fin.ext <;> simp [finProdFinEquiv] <;> omega

/-- A vector as one row. -/
theorem cast_row {α : Type} {n : Nat} (x : (⟨1, ![n]⟩ : Shape).Idx → α) (h : (⟨1, ![n]⟩ : Shape).ShapeCasts ⟨2, ![1, n]⟩) (b : Fin n) :
    shapeCast ⟨2, ![1, n]⟩ x h (ix2 0 b) = x (ix1 b) := by
  refine shapeCast_apply x h _ _ ?_
  rw [Shape.rowMajor_val_two, Shape.rowMajor_val_one]
  show b.val = 0 * n + b.val
  omega

/-- A vector as one column. -/
theorem cast_col {α : Type} {n : Nat} (x : (⟨1, ![n]⟩ : Shape).Idx → α) (h : (⟨1, ![n]⟩ : Shape).ShapeCasts ⟨2, ![n, 1]⟩) (a : Fin n) :
    shapeCast ⟨2, ![n, 1]⟩ x h (ix2 a 0) = x (ix1 a) := by
  refine shapeCast_apply x h _ _ ?_
  rw [Shape.rowMajor_val_two, Shape.rowMajor_val_one]
  show a.val = a.val * 1 + 0
  omega

/-- Two scaled sums of two parts are equal when the parts are. -/
theorem scaled_congr {a a' b b' : EReal} (s t : EReal) (h : a = a') (h' : b = b') : (a + b) * s * t = (a' + b') * s * t := by
  rw [h, h']

/-- One entry of the result: row `r` of the codes `x` against column `q` of the packed weights `w`, whose byte at
    `(k, q)` holds the weight of input `2k` in its low half and of input `2k + 1` in its high half, times the row's
    scale and the column's scale. -/
def entry (x : (⟨2, ![12288, 5120]⟩ : Shape).Idx → EReal) (s : (⟨1, ![12288]⟩ : Shape).Idx → EReal)
    (w : (⟨2, ![2560, 27648]⟩ : Shape).Idx → BitVec 8) (ws : (⟨1, ![27648]⟩ : Shape).Idx → EReal)
    (r : Fin 12288) (q : Fin 27648) : EReal :=
  (∑ k : Fin 2560, x (ix2 r ⟨2 * k.val, by omega⟩) * ((lo (w (ix2 k q)) : ℝ) : EReal)
    + ∑ k : Fin 2560, x (ix2 r ⟨2 * k.val + 1, by omega⟩) * ((hi (w (ix2 k q)) : ℝ) : EReal)) * s (ix1 r) * ws (ix1 q)

end Cert.Nibbles

end
-- ==== Proof.KernelValue.lean ====
/-
  What the kernel's result array holds over the extended reals: at row `r`, column `q` the entry of Nibbles.lean of the
  four argument arrays. A block of the result is one product of blocks (KernelBlocks.lean); here the blocks are read in
  the arrays, and the sum over the 5120 inputs is split into the even and the odd ones.
-/
module

public import proofs.«01_k».proof.Proof.KernelBlocks
public import proofs.«01_k».proof.Proof.Nibbles

@[expose] public section

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Cert.Nibbles

variable (m : (ℓ : Loc nD τ sig) → Buf (Elt Ideal) ℓ)

/-- The unpacked weights: row `2k` is the low half of packed row `k`, row `2k + 1` its high half. -/
theorem pay1_apply (w : Vec Ideal S2560x1024 .i8) (j0 : Fin 5120) (j1 : Fin 1024) :
    k0_pay1 (F := Ideal) w (ix2 j0 j1)
      = if j0.val % 2 < 1 then ((lo (w (ix2 ⟨j0.val / 2, by omega⟩ j1)) : ℝ) : EReal)
        else ((hi (w (ix2 ⟨j0.val / 2, by omega⟩ j1)) : ℝ) : EReal) := by
  pointwise [k0_pay1]
  show (((BitVec.toInt _ : ℤ) : ℝ) : EReal) = _
  split
  · rw [lo_trunc]
  · rw [hi_trunc]

/-- One entry of a block's product, the row's scale standing in all 128 lanes of its row. -/
theorem pay2_apply (s : Vec Ideal S1024x128 .f32) (x : Vec Ideal S1024x5120 .fp8e4m3) (w : Vec Ideal S2560x1024 .i8)
    (ws : Vec Ideal S1x1024 .f32) (j0 j1 : Fin 1024) (f : Fin 1024 → EReal) (hs : ∀ a b, s (ix2 a b) = f a) :
    k0_pay2 (F := Ideal) s x (k0_pay1 w) ws (ix2 j0 j1)
      = (∑ k : Fin 2560, x (ix2 j0 ⟨2 * k.val, by omega⟩) * ((lo (w (ix2 k j1)) : ℝ) : EReal)
        + ∑ k : Fin 2560, x (ix2 j0 ⟨2 * k.val + 1, by omega⟩) * ((hi (w (ix2 k j1)) : ℝ) : EReal)) * f j0 * ws (ix2 0 j1) := by
  have e : k0_pay2 (F := Ideal) s x (k0_pay1 w) ws (ix2 j0 j1)
      = (∑ k : Fin 5120, x (ix2 j0 k) * k0_pay1 (F := Ideal) w (ix2 k j1)) * f j0 * ws (ix2 0 j1) := by
    generalize k0_pay1 (F := Ideal) w = u
    pointwise [k0_pay2]
    simp only [hs, ite_self, dite_eq_ite]
  rw [e, sum_even_odd]
  simp only [pay1_apply]
  refine scaled_congr _ _ (Finset.sum_congr rfl fun k _ => ?_) (Finset.sum_congr rfl fun k _ => ?_)
  · have hk : (⟨2 * k.val / 2, by omega⟩ : Fin 2560) = k := Fin.ext (by show 2 * k.val / 2 = k.val; omega)
    rw [if_pos (by omega), hk]
  · have hk : (⟨(2 * k.val + 1) / 2, by omega⟩ : Fin 2560) = k := Fin.ext (by show (2 * k.val + 1) / 2 = k.val; omega)
    rw [if_neg (by omega), hk]

/-! ## The arrays the pipeline finds, and their blocks -/

/-- The array of row scales: each scale in all 128 lanes of its row. -/
theorem V_scol (c : Dev nD) (a : Fin 12288) (b : Fin 128) :
    (V m c main_v1 : Vec Ideal S12288x128 .f32) (ix2 a b) = (m ((c : Thread nD τ).loc main_arg1) : Vec Ideal S12288 .f32) (ix1 a) := by
  have e : (V m c main_v1 : Vec Ideal S12288x128 .f32)
      = broadcastInDim S12288x128 ![0, 1] bcast_S12288x1_S12288x128_0_1
          (broadcastInDim S12288x1 ![0] bcast_S12288_S12288x1_0 (m ((c : Thread nD τ).loc main_arg1) : Vec Ideal S12288 .f32)) := by
    show StableHlo.after hostOps0 (fun b => m (c, b)) main_v1 = _
    after_results
  rw [e]
  pointwise

/-- The row of column scales. -/
theorem V_ws (c : Dev nD) (b : Fin 27648) :
    (V m c main_v2 : Vec Ideal S1x27648 .f32) (ix2 0 b) = (m ((c : Thread nD τ).loc main_arg3) : Vec Ideal S27648 .f32) (ix1 b) := by
  have e : (V m c main_v2 : Vec Ideal S1x27648 .f32)
      = shapeCast S1x27648 (m ((c : Thread nD τ).loc main_arg3) : Vec Ideal S27648 .f32) shapeCasts_S27648_S1x27648 := by
    show StableHlo.after hostOps0 (fun b => m (c, b)) main_v2 = _
    after_results
    rfl
  rw [e]
  exact cast_row _ _ b

/-- The block each window shows at point `t`: row block `t % 12` and column block `t / 12`. -/
theorem idx_all : ∀ t : Fin cfg0.N,
    (win0_0.index t (0 : Fin 2) = t.val % 12 ∧ win0_0.index t (1 : Fin 2) = 0)
    ∧ (win0_2.index t (0 : Fin 2) = 0 ∧ win0_2.index t (1 : Fin 2) = t.val / 12)
    ∧ (win0_3.index t (0 : Fin 2) = t.val % 12 ∧ win0_3.index t (1 : Fin 2) = 0) :=
  (by decide +kernel : ∀ t : Fin grid0.N, _)

variable (c : Dev nD) (t : Fin cfg0.N)

theorem lt324 : t.val < 324 := lt_of_lt_of_eq t.isLt N_0

theorem iblk0_apply (a : Fin 1024) (b : Fin 5120) : (iblk m c 0 t : Vec Ideal S1024x5120 .fp8e4m3) (ix2 a b)
    = (m ((c : Thread nD τ).loc main_arg0) : Vec Ideal S12288x5120 .fp8e4m3) (ix2 ⟨t.val % 12 * 1024 + a.val, by omega⟩ b) := by
  obtain ⟨⟨i0, i1⟩, -, -⟩ := idx_all t
  rw [← V_main_arg0 m c]
  unfold iblk
  rw [View.read_apply]
  show V m c main_arg0 _ = V m c main_arg0 _
  congr 1
  funext d
  apply Fin.ext
  match d with
  | ⟨0, _⟩ => show win0_0.index t 0 * 1024 + 1 * a.val = t.val % 12 * 1024 + a.val; rw [i0]; omega
  | ⟨1, _⟩ => show win0_0.index t 1 * 5120 + 1 * b.val = b.val; rw [i1]; omega

theorem iblk1_apply (a : Fin 2560) (b : Fin 1024) : (iblk m c 1 t : Vec Ideal S2560x1024 .i8) (ix2 a b)
    = (m ((c : Thread nD τ).loc main_arg2) : Vec Ideal S2560x27648 .i8) (ix2 a ⟨t.val / 12 * 1024 + b.val, by have := lt324 t; omega⟩) := by
  obtain ⟨i0, i1⟩ := idx1 t
  rw [← V_main_arg2 m c]
  unfold iblk
  rw [View.read_apply]
  show V m c main_arg2 _ = V m c main_arg2 _
  congr 1
  funext d
  apply Fin.ext
  match d with
  | ⟨0, _⟩ => show win0_1.index t 0 * 2560 + 1 * a.val = a.val; rw [i0]; omega
  | ⟨1, _⟩ => show win0_1.index t 1 * 1024 + 1 * b.val = t.val / 12 * 1024 + b.val; rw [i1]; omega

theorem iblk2_apply (b : Fin 1024) : (iblk m c 2 t : Vec Ideal S1x1024 .f32) (ix2 0 b)
    = (m ((c : Thread nD τ).loc main_arg3) : Vec Ideal S27648 .f32) (ix1 ⟨t.val / 12 * 1024 + b.val, by have := lt324 t; omega⟩) := by
  obtain ⟨-, ⟨i0, i1⟩, -⟩ := idx_all t
  rw [← V_ws m c]
  unfold iblk
  rw [View.read_apply]
  show V m c main_v2 _ = V m c main_v2 _
  congr 1
  funext d
  apply Fin.ext
  match d with
  | ⟨0, _⟩ => show win0_2.index t 0 * 1 + 1 * 0 = 0; rw [i0]
  | ⟨1, _⟩ => show win0_2.index t 1 * 1024 + 1 * b.val = t.val / 12 * 1024 + b.val; rw [i1]; omega

theorem iblk3_apply (a : Fin 1024) (b : Fin 128) : (iblk m c 3 t : Vec Ideal S1024x128 .f32) (ix2 a b)
    = (m ((c : Thread nD τ).loc main_arg1) : Vec Ideal S12288 .f32) (ix1 ⟨t.val % 12 * 1024 + a.val, by omega⟩) := by
  obtain ⟨-, -, ⟨i0, i1⟩⟩ := idx_all t
  rw [← V_scol m c _ b]
  unfold iblk
  rw [View.read_apply]
  show V m c main_v1 _ = V m c main_v1 _
  congr 1
  funext d
  apply Fin.ext
  match d with
  | ⟨0, _⟩ => show win0_3.index t 0 * 1024 + 1 * a.val = t.val % 12 * 1024 + a.val; rw [i0]; omega
  | ⟨1, _⟩ => show win0_3.index t 1 * 128 + 1 * b.val = b.val; rw [i1]; omega

/-- One entry of the block that point `t` leaves: the entry of the argument arrays at the block's place. -/
theorem block_apply (a b : Fin 1024) : (outsAt0 m c t.val t.isLt).1 (ix2 a b)
    = entry (m ((c : Thread nD τ).loc main_arg0)) (m ((c : Thread nD τ).loc main_arg1)) (m ((c : Thread nD τ).loc main_arg2))
        (m ((c : Thread nD τ).loc main_arg3)) ⟨t.val % 12 * 1024 + a.val, by omega⟩ ⟨t.val / 12 * 1024 + b.val, by have := lt324 t; omega⟩ := by
  rw [block_eq, pay2_apply _ _ _ _ a b _ (fun a b => iblk3_apply m c t a b)]
  simp only [iblk0_apply, iblk1_apply, iblk2_apply]
  rfl

/-- One entry of the result array. -/
theorem result_apply (r : Fin 12288) (q : Fin 27648) : (G4 m c : Vec Ideal S12288x27648 .bf16) (ix2 r q)
    = entry (m ((c : Thread nD τ).loc main_arg0)) (m ((c : Thread nD τ).loc main_arg1)) (m ((c : Thread nD τ).loc main_arg2))
        (m ((c : Thread nD τ).loc main_arg3)) r q := by
  have hp : pt4Of (ix2 r q) = r.val / 1024 + 12 * (q.val / 1024) := by
    show 1 * (r.val / 1024 - 0) + 12 * (q.val / 1024 - 0) = _; omega
  have hN : pt4Of (ix2 r q) < cfg0.N := by rw [hp, show cfg0.N = 324 from N_0]; omega
  have hl : loc4Of (ix2 r q) = ix2 ⟨r.val % 1024, Nat.mod_lt _ (by decide)⟩ ⟨q.val % 1024, Nat.mod_lt _ (by decide)⟩ := by
    funext a; apply Fin.ext
    match a with
    | ⟨0, _⟩ => rfl
    | ⟨1, _⟩ => rfl
  unfold G4
  rw [dif_pos hN, ← outsAt0_sweep m c _ hN, hl]
  refine (block_apply m c ⟨_, hN⟩ _ _).trans ?_
  congr 1 <;> apply Fin.ext
  · show pt4Of (ix2 r q) % 12 * 1024 + r.val % 1024 = r.val; rw [hp]; omega
  · show pt4Of (ix2 r q) / 12 * 1024 + q.val % 1024 = q.val; rw [hp]; omega

end Cert.KernelIdeal.Blocks

end
-- ==== Proof.ReferenceValue.lean ====
/-
  What the reference's result array holds over the extended reals: at row `r`, column `q` the entry of Nibbles.lean of
  the four argument arrays. The reference is one body over whole arrays, whose even and odd columns of `x` the host
  slices apart.
-/
module

public import proofs.«01_k».proof.Proof.Gen.ReferenceIdeal.Value
public import proofs.«01_k».proof.Proof.Nibbles
public import Idealize.ShloMosaic.Lib.Affine
public import Idealize.ShloMosaic.Lib.Tactic

@[expose] public section

set_option maxRecDepth 16384

noncomputable section

namespace Cert.ReferenceIdeal.Whole

open Cert.ReferenceIdeal Cert.ReferenceIdeal.Gen Cert.ReferenceIdeal.Value Idealize.ShloMosaic Idealize.ShloMosaic.TcCoe Idealize.SL.Sem
open Cert.Nibbles

variable (m : (ℓ : Loc nD τ sig) → Buf (Elt Ideal) ℓ) (ρ : Dev nD → PrngReg)

theorem hz : (![0, 0] : Fin 2 → Nat) = fun _ => 0 := funext fun a => by fin_cases a <;> rfl

/-- One entry of the body's result, from the blocks it loads. -/
theorem pay1_apply (w : Vec Ideal S2560x27648 .i8) (xe xo : Vec Ideal S12288x2560 .fp8e4m3) (s : Vec Ideal S12288x1 .f32)
    (ws : Vec Ideal S1x27648 .f32) (r : Fin 12288) (q : Fin 27648) :
    k0_pay1 (F := Ideal) w xe xo s ws (ix2 r q)
      = (∑ k : Fin 2560, xe (ix2 r k) * ((lo (w (ix2 k q)) : ℝ) : EReal)
        + ∑ k : Fin 2560, xo (ix2 r k) * ((hi (w (ix2 k q)) : ℝ) : EReal)) * s (ix2 r 0) * ws (ix2 0 q) := by
  pointwise [k0_pay1]
  refine scaled_congr _ _ (Finset.sum_congr rfl fun k _ => ?_) (Finset.sum_congr rfl fun k _ => ?_)
  · rw [← lo_mask (w (ix2 k q))]; rfl
  · rw [← hi_mask (w (ix2 k q))]; rfl

/-- The whole-buffer loads read the buffers and the one covering store leaves its payload. -/
theorem out_eq (x0 x1 : Vec Ideal S12288x2560 .fp8e4m3) (x2 : Vec Ideal S12288x1 .f32) (x3 : Vec Ideal S2560x27648 .i8)
    (x4 : Vec Ideal S1x27648 .f32) : out0_5 (F := Ideal) x0 x1 x2 x3 x4 = k0_pay1 x3 x0 x1 x2 x4 := by
  unfold out0_5
  rw [View.canon_unit_zero hz, View.ld_unit_zero (S := S2560x27648) hz, View.ld_unit_zero (S := S12288x2560) hz,
    View.ld_unit_zero (S := S12288x2560) hz, View.ld_unit_zero (S := S12288x1) hz, View.ld_unit_zero (S := S1x27648) hz]

/-! ## The arrays the pipeline finds -/

theorem V_even (c : Dev nD) (a : Fin 12288) (b : Fin 2560) : (V m c main_v0 : Vec Ideal S12288x2560 .fp8e4m3) (ix2 a b)
    = (m ((c : Thread nD τ).loc main_arg0) : Vec Ideal S12288x5120 .fp8e4m3) (ix2 a ⟨2 * b.val, by omega⟩) := by
  have e : (V m c main_v0 : Vec Ideal S12288x2560 .fp8e4m3)
      = Host.slice S12288x2560 ![0, 0] ![1, 2] (m ((c : Thread nD τ).loc main_arg0) : Vec Ideal S12288x5120 .fp8e4m3)
          slicesBy_S12288x5120_S12288x2560_0s1_0s2 := by
    show StableHlo.after hostOps0 (fun b => m (c, b)) main_v0 = _
    after_results
  rw [e]
  pointwise

theorem V_odd (c : Dev nD) (a : Fin 12288) (b : Fin 2560) : (V m c main_v1 : Vec Ideal S12288x2560 .fp8e4m3) (ix2 a b)
    = (m ((c : Thread nD τ).loc main_arg0) : Vec Ideal S12288x5120 .fp8e4m3) (ix2 a ⟨2 * b.val + 1, by omega⟩) := by
  have e : (V m c main_v1 : Vec Ideal S12288x2560 .fp8e4m3)
      = Host.slice S12288x2560 ![0, 1] ![1, 2] (m ((c : Thread nD τ).loc main_arg0) : Vec Ideal S12288x5120 .fp8e4m3)
          slicesBy_S12288x5120_S12288x2560_0s1_1s2 := by
    show StableHlo.after hostOps0 (fun b => m (c, b)) main_v1 = _
    after_results
  rw [e]
  pointwise
  congr 2
  apply Fin.ext; show 1 + 2 * b.val = 2 * b.val + 1; omega

theorem V_s (c : Dev nD) (a : Fin 12288) : (V m c main_v2 : Vec Ideal S12288x1 .f32) (ix2 a 0)
    = (m ((c : Thread nD τ).loc main_arg1) : Vec Ideal S12288 .f32) (ix1 a) := by
  have e : (V m c main_v2 : Vec Ideal S12288x1 .f32)
      = shapeCast S12288x1 (m ((c : Thread nD τ).loc main_arg1) : Vec Ideal S12288 .f32) shapeCasts_S12288_S12288x1 := by
    show StableHlo.after hostOps0 (fun b => m (c, b)) main_v2 = _
    after_results
    rfl
  rw [e]
  exact cast_col _ _ a

theorem V_ws (c : Dev nD) (b : Fin 27648) : (V m c main_v3 : Vec Ideal S1x27648 .f32) (ix2 0 b)
    = (m ((c : Thread nD τ).loc main_arg3) : Vec Ideal S27648 .f32) (ix1 b) := by
  have e : (V m c main_v3 : Vec Ideal S1x27648 .f32)
      = shapeCast S1x27648 (m ((c : Thread nD τ).loc main_arg3) : Vec Ideal S27648 .f32) shapeCasts_S27648_S1x27648 := by
    show StableHlo.after hostOps0 (fun b => m (c, b)) main_v3 = _
    after_results
    rfl
  rw [e]
  exact cast_row _ _ b

/-! ## The result -/

/-- The one grid point. -/
def t₀ : Fin cfg0.N := ⟨0, by decide⟩

theorem iblk0 (c : Dev nD) : (iblk m c 0 t₀ : Vec Ideal S12288x2560 .fp8e4m3) = V m c main_v0 :=
  Memref.read_access_unit_zero (Elt Ideal) main_v0 (show (fun a => (win0_0.index t₀) a * main_v0.ty.shape.size a) = fun _ => 0 from
    funext fun a => by fin_cases a <;> decide) (fun a => by fin_cases a <;> decide) (V m c main_v0)
theorem iblk1 (c : Dev nD) : (iblk m c 1 t₀ : Vec Ideal S12288x2560 .fp8e4m3) = V m c main_v1 :=
  Memref.read_access_unit_zero (Elt Ideal) main_v1 (show (fun a => (win0_1.index t₀) a * main_v1.ty.shape.size a) = fun _ => 0 from
    funext fun a => by fin_cases a <;> decide) (fun a => by fin_cases a <;> decide) (V m c main_v1)
theorem iblk2 (c : Dev nD) : (iblk m c 2 t₀ : Vec Ideal S12288x1 .f32) = V m c main_v2 :=
  Memref.read_access_unit_zero (Elt Ideal) main_v2 (show (fun a => (win0_2.index t₀) a * main_v2.ty.shape.size a) = fun _ => 0 from
    funext fun a => by fin_cases a <;> decide) (fun a => by fin_cases a <;> decide) (V m c main_v2)
theorem iblk3 (c : Dev nD) : (iblk m c 3 t₀ : Vec Ideal S2560x27648 .i8) = V m c main_arg2 :=
  Memref.read_access_unit_zero (Elt Ideal) main_arg2 (show (fun a => (win0_3.index t₀) a * main_arg2.ty.shape.size a) = fun _ => 0 from
    funext fun a => by fin_cases a <;> decide) (fun a => by fin_cases a <;> decide) (V m c main_arg2)
theorem iblk4 (c : Dev nD) : (iblk m c 4 t₀ : Vec Ideal S1x27648 .f32) = V m c main_v3 :=
  Memref.read_access_unit_zero (Elt Ideal) main_v3 (show (fun a => (win0_4.index t₀) a * main_v3.ty.shape.size a) = fun _ => 0 from
    funext fun a => by fin_cases a <;> decide) (fun a => by fin_cases a <;> decide) (V m c main_v3)

/-- The result array after the run is the body's result over the whole arrays. -/
theorem final_eq (c : Dev nD) : ((dats m 0 c).arrAt 5 cfg0.N : Vec Ideal S12288x27648 .bf16)
    = k0_pay1 (V m c main_arg2) (V m c main_v0) (V m c main_v1) (V m c main_v2) (V m c main_v3) := by
  have ho := blocks5 m c t₀ (by decide)
  have hz5 : (fun a => (win0_5.index t₀) a * main_v4.ty.shape.size a) = fun _ => 0 := funext fun a => by fin_cases a <;> decide
  have hr5 := fun f => Memref.read_access_unit_zero (Elt Ideal) main_v4 hz5 (fun a => by fin_cases a <;> decide) f
  rw [hr5] at ho
  rw [ho, flushed5, out_eq, iblk0, iblk1, iblk2, iblk3, iblk4]
  rfl

/-- One entry of the result array. -/
theorem result_apply (c : Dev nD) (r : Fin 12288) (q : Fin 27648) :
    ((dats m 0 c).arrAt 5 cfg0.N : Vec Ideal S12288x27648 .bf16) (ix2 r q)
    = entry (m ((c : Thread nD τ).loc main_arg0)) (m ((c : Thread nD τ).loc main_arg1)) (m ((c : Thread nD τ).loc main_arg2))
        (m ((c : Thread nD τ).loc main_arg3)) r q := by
  refine (congrFun (final_eq m c) (ix2 r q)).trans ((pay1_apply _ _ _ _ _ r q).trans ?_)
  rw [V_s, V_ws]
  unfold entry
  refine scaled_congr _ _ (Finset.sum_congr rfl fun k _ => ?_) (Finset.sum_congr rfl fun k _ => ?_)
  · rw [V_even, V_main_arg2]
  · rw [V_odd, V_main_arg2]

end Cert.ReferenceIdeal.Whole

end
-- ==== Proof.Rotate.lean ====
/-
  The transform of the linear layer, entry by entry over the extended reals: a token's 5120 channels are a 64 x 80 table,
  turned by an 80 x 80 matrix along its rows (`mid`) and by a 64 x 64 matrix along its columns (`rot`); the step of the
  token is `alpha / 7` times the greatest magnitude of the turned table (`peak`, `step`), 1 where that is zero; a code is
  the turned entry over the step, rounded half to even and clipped to -7 … 7 (`code`). And the arithmetic both programs'
  texts need: a code is a whole number of eight bits, and a sum against a row that is zero outside a window is the sum over
  the window.
-/
module

public import Idealize.ShloMosaic.PureOps.Ideal
public import Idealize.ShloMosaic.Lib.Pointwise

@[expose] public section

noncomputable section

namespace Cert.Rotate

open Idealize.ShloMosaic

/-- The table turned along its rows: entry (i, k). -/
def mid (X : Fin 5120 → EReal) (Q : Fin 80 → Fin 80 → EReal) (i : Fin 64) (k : Fin 80) : EReal :=
  ∑ j : Fin 80, X ⟨i.val * 80 + j.val, by omega⟩ * Q j k

/-- … and along its columns: entry (a, k). -/
def rot (X : Fin 5120 → EReal) (P : Fin 64 → Fin 64 → EReal) (Q : Fin 80 → Fin 80 → EReal) (a : Fin 64) (k : Fin 80) : EReal :=
  ∑ i : Fin 64, P i a * mid X Q i k

/-- The greatest magnitude of a table. -/
def peak (Z : Fin 64 → Fin 80 → EReal) : EReal := ⨆ a, ⨆ k, max (Z a k) (-(Z a k))

/-- The step of a token whose greatest magnitude is `p`, at clip logit `c`. -/
def step (c p : EReal) : EReal := if p = 0 then 1 else Ideal.div (Ideal.logistic c * p) 7

/-- The code of the entry `z` at step `s`. -/
def code (z s : EReal) : EReal := min 7 (max (-7) (Ideal.liftRound Ideal.roundHalfEven (Ideal.div z s)))

theorem peak_le_iff (Z : Fin 64 → Fin 80 → EReal) (b : EReal) : peak Z ≤ b ↔ ∀ a k, max (Z a k) (-(Z a k)) ≤ b := by
  simp only [peak, iSup_le_iff]

theorem magnitude_nonneg (z : EReal) : 0 ≤ max z (-z) := by
  rcases le_total 0 z with h | h
  · exact le_max_of_le_left h
  · exact le_max_of_le_right (by simpa using EReal.neg_le_neg_iff.mpr h)

/-- A number that every bound of the table's magnitudes bounds, and that bounds nothing less, is the table's peak. -/
theorem eq_peak {Z : Fin 64 → Fin 80 → EReal} {v : EReal} (h : ∀ b, v ≤ b ↔ ∀ a k, max (Z a k) (-(Z a k)) ≤ b) : v = peak Z :=
  le_antisymm ((h _).2 ((peak_le_iff Z _).1 le_rfl)) ((peak_le_iff Z _).2 ((h _).1 le_rfl))

/-- A code is a whole number between -7 and 7. -/
theorem code_int (z s : EReal) : ∃ n : ℤ, -7 ≤ n ∧ n ≤ 7 ∧ code z s = ((n : ℝ) : EReal) := by
  unfold code
  induction Ideal.div z s with
  | bot => exact ⟨-7, by norm_num, by norm_num, by
      show min (7 : EReal) (max (-7) ⊥) = _
      have h7 : (7 : EReal) = ((7 : ℝ) : EReal) := rfl
      have hm : (-7 : EReal) = ((-7 : ℝ) : EReal) := by rw [EReal.coe_neg]; rfl
      rw [max_eq_left bot_le, hm, h7, min_eq_right (EReal.coe_le_coe_iff.mpr (by norm_num))]
      norm_num⟩
  | top => exact ⟨7, by norm_num, by norm_num, by
      show min (7 : EReal) (max (-7) ⊤) = _
      rw [max_eq_right le_top, min_eq_left le_top]
      push_cast; rfl⟩
  | coe r =>
    refine ⟨min 7 (max (-7) (Ideal.roundHalfEven r)), by omega, by omega, ?_⟩
    show min (7 : EReal) (max (-7) (((Ideal.roundHalfEven r : ℝ)) : EReal)) = _
    have h7 : (7 : EReal) = ((7 : ℝ) : EReal) := rfl
    have hm : (-7 : EReal) = ((-7 : ℝ) : EReal) := by rw [EReal.coe_neg]; rfl
    rw [hm, h7, ← EReal.coe_strictMono.monotone.map_max, ← EReal.coe_strictMono.monotone.map_min]
    push_cast
    rfl

/-- A whole number between -7 and 7 read as a signed word. -/
theorem fptosi_int {n : ℤ} (h0 : -7 ≤ n) (h1 : n ≤ 7) (w : ℕ) (hw : 4 ≤ w) : Ideal.fptosi w ((n : ℝ) : EReal) = BitVec.ofInt w n := by
  have h8 : (8 : ℤ) ≤ ((2 ^ (w - 1) : ℕ) : ℤ) := by
    have : 2 ^ 3 ≤ 2 ^ (w - 1) := Nat.pow_le_pow_right (by norm_num) (by omega)
    exact_mod_cast this
  unfold Ideal.fptosi
  congr 1
  show max _ (min _ (if 0 ≤ (n : ℝ) then ⌊(n : ℝ)⌋ else ⌈(n : ℝ)⌉)) = n
  rw [Int.floor_intCast, Int.ceil_intCast, ite_self]
  omega

theorem toInt_small {n : ℤ} (h0 : -7 ≤ n) (h1 : n ≤ 7) : (BitVec.ofInt 8 n).toInt = n := by
  rw [BitVec.toInt_ofInt]
  interval_cases n <;> rfl

/-- A code truncated through 32 bits to 8 is the code as an 8-bit word; -/
theorem trunc_code (z s : EReal) : (Ideal.fptosi 32 (code z s)).setWidth 8 = Ideal.fptosi 8 (code z s) := by
  obtain ⟨n, h0, h1, h⟩ := code_int z s
  rw [h, fptosi_int h0 h1 32 (by norm_num), fptosi_int h0 h1 8 (by norm_num)]
  interval_cases n <;> rfl

/-- and the word read back is the code. -/
theorem code_word (z s : EReal) : (((Ideal.fptosi 8 (code z s)).toInt : ℝ) : EReal) = code z s := by
  obtain ⟨n, h0, h1, h⟩ := code_int z s
  rw [h, fptosi_int h0 h1 8 (by norm_num), toInt_small h0 h1]

/-- The two clip bounds, by their words. -/
theorem seven : (Ideal.ofBits .f32 0x40E00000#32 : EReal) = 7 := by
  simp [Ideal.ofBits, Ideal.ieee, -EReal.coe_mul]; norm_num; rfl
theorem negSeven : (Ideal.ofBits .f32 0xC0E00000#32 : EReal) = -7 := by
  simp [Ideal.ofBits, Ideal.ieee, -EReal.coe_mul]; norm_num; rfl

/-- The word a greatest magnitude is taken from. -/
theorem bottom : (Ideal.ofBits .f32 0xFF800000#32 : EReal) = ⊥ := by
  simp [Ideal.ofBits, Ideal.ieee]

/-- A sum against a row that is zero outside the `n` places from `off`. -/
theorem window_sum {n N : ℕ} (off : ℕ) (hn : off + n ≤ N) (P : Fin n → EReal) (A R : Fin N → EReal)
    (hA : ∀ q : Fin N, A q = if h : off ≤ q.val ∧ q.val < off + n then P ⟨q.val - off, by omega⟩ else 0) :
    ∑ q : Fin N, A q * R q = ∑ j : Fin n, P j * R ⟨off + j.val, by omega⟩ := by
  symm
  refine Finset.sum_of_injOn (fun j : Fin n => (⟨off + j.val, by omega⟩ : Fin N)) (fun a _ b _ h => ?_) (fun _ _ => Finset.mem_coe.2 (Finset.mem_univ _)) (fun q _ hq => ?_) (fun j _ => ?_)
  · have := congrArg Fin.val h
    exact Fin.ext (by simpa using this)
  · rw [hA, dif_neg, zero_mul]
    rintro ⟨h0, h1⟩
    exact hq ⟨⟨q.val - off, by omega⟩, Finset.mem_coe.2 (Finset.mem_univ _), Fin.ext (by show off + (q.val - off) = q.val; omega)⟩
  · rw [hA, dif_pos ⟨by show off ≤ off + j.val; omega, by show off + j.val < off + n; omega⟩]
    congr 2
    exact Fin.ext (by show j.val = off + j.val - off; omega)

/-- Summing against a row of the identity. -/
theorem eye_sum {N : ℕ} (t : Fin N) (A R : Fin N → EReal) (hA : ∀ q : Fin N, A q = if q = t then 1 else 0) :
    ∑ q : Fin N, A q * R q = R t := by
  rw [Finset.sum_eq_single t (fun q _ h => by rw [hA, if_neg h, zero_mul]) (fun h => absurd (Finset.mem_univ _) h), hA, if_pos rfl, one_mul]

end Cert.Rotate

end
-- ==== Proof.TransformParts.lean ====
/-
  The steps of the transform's body as functions of the blocks they take, each with its entries over the extended reals: a
  window of rotated rows (`rows80`, `rows160`, `rows240` and their blocks of 80), a pair of blocks woven into words
  (`word0`, `word1`: token halves), a tile of 64 rows read back from words (`tile`), the product of the block-diagonal
  matrix with four tiles (`prod`), its 64-row slices and their token halves, the running magnitude (`grow`), and a pair of
  table rows over the step, rounded and clipped (`codes0`, `codes1`).
-/
module

public import proofs.«01_k».proof.Proof.Gen.TransformIdeal.Value
public import proofs.«01_k».proof.Proof.Rotate
public import Idealize.ShloMosaic.Lib.Affine
public import Idealize.ShloMosaic.Lib.Tactic
public import Idealize.ShloMosaic.Lib.Pipeline.StridedRows

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

/-! ## The rotated rows -/

/-- 240 rows of the padded matrix against a window of 256 channels. -/
def rows240 (X : Vec Ideal S256x256 .bf16) (A : Vec Ideal S240x256 .bf16) : FVec Ideal S240x256 .f32 :=
  matmul (φ₁ := .bf16) (φ₂ := .bf16) dot_S240x256_S256x256_S240x256_1_1_0_0_n_n none (shapeCast S240x256 A shapeCasts_S240x256_S240x256) X (constant S240x256 .f32 0x00000000#32)
/-- 160 rows. -/
def rows160 (X : Vec Ideal S256x256 .bf16) (A : Vec Ideal S160x256 .bf16) : FVec Ideal S160x256 .f32 :=
  matmul (φ₁ := .bf16) (φ₂ := .bf16) dot_S160x256_S256x256_S160x256_1_1_0_0_n_n none (shapeCast S160x256 A shapeCasts_S160x256_S160x256) X (constant S160x256 .f32 0x00000000#32)
/-- 80 rows. -/
def rows80 (X : Vec Ideal S256x256 .bf16) (A : Vec Ideal S80x256 .bf16) : FVec Ideal S80x256 .f32 :=
  matmul (φ₁ := .bf16) (φ₂ := .bf16) dot_S80x256_S256x256_S80x256_1_1_0_0_n_n none (shapeCast S80x256 A shapeCasts_S80x256_S80x256) X (constant S80x256 .f32 0x00000000#32)

/-- The blocks of 80 rows, rounded. -/
def b240_0 (M : FVec Ideal S240x256 .f32) : FVec Ideal S80x256 .bf16 := truncf .bf16 (extractStridedSlice S80x256 ![0, 0] M slices_S240x256_o0_0_S80x256) bitsLt_bf16_f32
def b240_1 (M : FVec Ideal S240x256 .f32) : FVec Ideal S80x256 .bf16 := truncf .bf16 (extractStridedSlice S80x256 ![80, 0] M slices_S240x256_o80_0_S80x256) bitsLt_bf16_f32
def b240_2 (M : FVec Ideal S240x256 .f32) : FVec Ideal S80x256 .bf16 := truncf .bf16 (extractStridedSlice S80x256 ![160, 0] M slices_S240x256_o160_0_S80x256) bitsLt_bf16_f32
def b160_0 (M : FVec Ideal S160x256 .f32) : FVec Ideal S80x256 .bf16 := truncf .bf16 (extractStridedSlice S80x256 ![0, 0] M slices_S160x256_o0_0_S80x256) bitsLt_bf16_f32
def b160_1 (M : FVec Ideal S160x256 .f32) : FVec Ideal S80x256 .bf16 := truncf .bf16 (extractStridedSlice S80x256 ![80, 0] M slices_S160x256_o80_0_S80x256) bitsLt_bf16_f32
def b80_0 (M : FVec Ideal S80x256 .f32) : FVec Ideal S80x256 .bf16 := truncf .bf16 M bitsLt_bf16_f32

theorem b240_0_apply (X : Vec Ideal S256x256 .bf16) (A : Vec Ideal S240x256 .bf16) (k : Fin 80) (t : Fin 256) :
    b240_0 (rows240 X A) (ix2 k t) = ∑ q : Fin 256, A (ix2 ⟨0 + k.val, by omega⟩ q) * X (ix2 t q) := by
  pointwise [b240_0, rows240]
theorem b240_1_apply (X : Vec Ideal S256x256 .bf16) (A : Vec Ideal S240x256 .bf16) (k : Fin 80) (t : Fin 256) :
    b240_1 (rows240 X A) (ix2 k t) = ∑ q : Fin 256, A (ix2 ⟨80 + k.val, by omega⟩ q) * X (ix2 t q) := by
  pointwise [b240_1, rows240]
theorem b240_2_apply (X : Vec Ideal S256x256 .bf16) (A : Vec Ideal S240x256 .bf16) (k : Fin 80) (t : Fin 256) :
    b240_2 (rows240 X A) (ix2 k t) = ∑ q : Fin 256, A (ix2 ⟨160 + k.val, by omega⟩ q) * X (ix2 t q) := by
  pointwise [b240_2, rows240]
theorem b160_0_apply (X : Vec Ideal S256x256 .bf16) (A : Vec Ideal S160x256 .bf16) (k : Fin 80) (t : Fin 256) :
    b160_0 (rows160 X A) (ix2 k t) = ∑ q : Fin 256, A (ix2 ⟨0 + k.val, by omega⟩ q) * X (ix2 t q) := by
  pointwise [b160_0, rows160]
theorem b160_1_apply (X : Vec Ideal S256x256 .bf16) (A : Vec Ideal S160x256 .bf16) (k : Fin 80) (t : Fin 256) :
    b160_1 (rows160 X A) (ix2 k t) = ∑ q : Fin 256, A (ix2 ⟨80 + k.val, by omega⟩ q) * X (ix2 t q) := by
  pointwise [b160_1, rows160]
theorem b80_0_apply (X : Vec Ideal S256x256 .bf16) (A : Vec Ideal S80x256 .bf16) (k : Fin 80) (t : Fin 256) :
    b80_0 (rows80 X A) (ix2 k t) = ∑ q : Fin 256, A (ix2 ⟨0 + k.val, by omega⟩ q) * X (ix2 t q) := by
  pointwise [b80_0, rows80]

/-! ## Words -/

/-- Two blocks woven row by row, over the first 128 tokens; -/
def word0 (L H : FVec Ideal S80x256 .bf16) : Vec Ideal S1x80x2x128 .bf16 :=
  interleaveRows S1x80x2x128
    (shapeCast S1x80x1x128 (shapeCast S1x80x128 (extractStridedSlice S80x128 ![0, 0] L slices_S80x256_o0_0_S80x128) shapeCasts_S80x128_S1x80x128) shapeCasts_S1x80x128_S1x80x1x128)
    (shapeCast S1x80x1x128 (shapeCast S1x80x128 (extractStridedSlice S80x128 ![0, 0] H slices_S80x256_o0_0_S80x128) shapeCasts_S80x128_S1x80x128) shapeCasts_S1x80x128_S1x80x1x128)
    bitcasts_S1x80x2x128_w16_S1x80x1x128_w32
/-- over the last 128. -/
def word1 (L H : FVec Ideal S80x256 .bf16) : Vec Ideal S1x80x2x128 .bf16 :=
  interleaveRows S1x80x2x128
    (shapeCast S1x80x1x128 (shapeCast S1x80x128 (extractStridedSlice S80x128 ![0, 128] L slices_S80x256_o0_128_S80x128) shapeCasts_S80x128_S1x80x128) shapeCasts_S1x80x128_S1x80x1x128)
    (shapeCast S1x80x1x128 (shapeCast S1x80x128 (extractStridedSlice S80x128 ![0, 128] H slices_S80x256_o0_128_S80x128) shapeCasts_S80x128_S1x80x128) shapeCasts_S1x80x128_S1x80x1x128)
    bitcasts_S1x80x2x128_w16_S1x80x1x128_w32

theorem word0_apply (L H : FVec Ideal S80x256 .bf16) (k : Fin 80) (h : Fin 2) (l : Fin 128) :
    word0 L H (ix4 0 k h l) = if h.val = 0 then L (ix2 k ⟨0 + l.val, by omega⟩) else H (ix2 k ⟨0 + l.val, by omega⟩) := by
  pointwise [word0]
  rw [Nat.mod_eq_of_lt h.isLt]
theorem word1_apply (L H : FVec Ideal S80x256 .bf16) (k : Fin 80) (h : Fin 2) (l : Fin 128) :
    word1 L H (ix4 0 k h l) = if h.val = 0 then L (ix2 k ⟨128 + l.val, by omega⟩) else H (ix2 k ⟨128 + l.val, by omega⟩) := by
  pointwise [word1]
  rw [Nat.mod_eq_of_lt h.isLt]

/-! ## Tiles and products -/

/-- 64 rows of both token halves, read from words. -/
def tile (u v : Vec Ideal S1x32x2x128 .bf16) : FVec Ideal S64x256 .bf16 :=
  concatenate S64x256 1
    [⟨S64x128, interleaveRows S64x128
        (shapeCast S32x128 (shapeCast S1x32x128 (rowsOfParity 0 S1x32x1x128 u bitcasts_S1x32x2x128_w16_S1x32x1x128_w32) shapeCasts_S1x32x1x128_S1x32x128) shapeCasts_S1x32x128_S32x128)
        (shapeCast S32x128 (shapeCast S1x32x128 (rowsOfParity 1 S1x32x1x128 u bitcasts_S1x32x2x128_w16_S1x32x1x128_w32) shapeCasts_S1x32x1x128_S1x32x128) shapeCasts_S1x32x128_S32x128)
        bitcasts_S64x128_w16_S32x128_w32⟩,
     ⟨S64x128, interleaveRows S64x128
        (shapeCast S32x128 (shapeCast S1x32x128 (rowsOfParity 0 S1x32x1x128 v bitcasts_S1x32x2x128_w16_S1x32x1x128_w32) shapeCasts_S1x32x1x128_S1x32x128) shapeCasts_S1x32x128_S32x128)
        (shapeCast S32x128 (shapeCast S1x32x128 (rowsOfParity 1 S1x32x1x128 v bitcasts_S1x32x2x128_w16_S1x32x1x128_w32) shapeCasts_S1x32x1x128_S1x32x128) shapeCasts_S1x32x128_S32x128)
        bitcasts_S64x128_w16_S32x128_w32⟩]
    concatenates_S64x128_S64x128_S64x256_d1

theorem tile_apply (u v : Vec Ideal S1x32x2x128 .bf16) (g : Fin 64 → Fin 256 → EReal)
    (hu : ∀ (k : Fin 32) (h : Fin 2) (l : Fin 128), u (ix4 0 k h l) = g ⟨2 * k.val + h.val, by omega⟩ ⟨l.val, by omega⟩)
    (hv : ∀ (k : Fin 32) (h : Fin 2) (l : Fin 128), v (ix4 0 k h l) = g ⟨2 * k.val + h.val, by omega⟩ ⟨128 + l.val, by omega⟩)
    (i : Fin 64) (t : Fin 256) : tile u v (ix2 i t) = g i t := by
  pointwise [tile]
  by_cases h : t.val < 128
  · refine (dif_pos h).trans ?_
    by_cases e : i.val % 2 = 0
    · refine (if_pos e).trans ((hu _ _ _).trans (congrArg₂ g (Fin.ext ?_) rfl))
      show 2 * (i.val / 2) + 0 = i.val; omega
    · refine (if_neg e).trans ((hu _ _ _).trans (congrArg₂ g (Fin.ext ?_) rfl))
      show 2 * (i.val / 2) + 1 = i.val; omega
  · refine (dif_neg h).trans ?_
    by_cases e : i.val % 2 = 0
    · refine (if_pos e).trans ((hv _ _ _).trans (congrArg₂ g (Fin.ext ?_) (Fin.ext ?_)))
      · show 2 * (i.val / 2) + 0 = i.val; omega
      · show 128 + (t.val - 128) = t.val; omega
    · refine (if_neg e).trans ((hv _ _ _).trans (congrArg₂ g (Fin.ext ?_) (Fin.ext ?_)))
      · show 2 * (i.val / 2) + 1 = i.val; omega
      · show 128 + (t.val - 128) = t.val; omega

/-- The block-diagonal matrix times four tiles. -/
def prod (B : Vec Ideal S256x256 .bf16) (T0 T1 T2 T3 : FVec Ideal S64x256 .bf16) : FVec Ideal S256x256 .f32 :=
  matmul (φ₁ := .bf16) (φ₂ := .bf16) dot_S256x256_S256x256_S256x256_1_0_0_1_n_n none (shapeCast S256x256 B shapeCasts_S256x256_S256x256)
    (concatenate S256x256 0 [⟨S64x256, T0⟩, ⟨S64x256, T1⟩, ⟨S64x256, T2⟩, ⟨S64x256, T3⟩] concatenates_S64x256_S64x256_S64x256_S64x256_S256x256_d0)
    (constant S256x256 .f32 0x00000000#32)

/-- Its slices of 64 rows. -/
def z0 (Z : FVec Ideal S256x256 .f32) : FVec Ideal S64x256 .f32 := extractStridedSlice S64x256 ![0, 0] Z slices_S256x256_o0_0_S64x256
def z1 (Z : FVec Ideal S256x256 .f32) : FVec Ideal S64x256 .f32 := extractStridedSlice S64x256 ![64, 0] Z slices_S256x256_o64_0_S64x256
def z2 (Z : FVec Ideal S256x256 .f32) : FVec Ideal S64x256 .f32 := extractStridedSlice S64x256 ![128, 0] Z slices_S256x256_o128_0_S64x256
def z3 (Z : FVec Ideal S256x256 .f32) : FVec Ideal S64x256 .f32 := extractStridedSlice S64x256 ![192, 0] Z slices_S256x256_o192_0_S64x256

/-- The matrix is block diagonal: row `64 * j + a` holds row `a` of `P` at columns `64 * j + i`. -/
def Diagonal (B : Vec Ideal S256x256 .bf16) (P : Fin 64 → Fin 64 → EReal) : Prop :=
  ∀ (j : Fin 4) (a : Fin 64) (q : Fin 256), B (ix2 ⟨64 * j.val + a.val, by omega⟩ q)
    = if h : 64 * j.val ≤ q.val ∧ q.val < 64 * j.val + 64 then P a ⟨q.val - 64 * j.val, by omega⟩ else 0

theorem z0_apply (B : Vec Ideal S256x256 .bf16) (T0 T1 T2 T3 : FVec Ideal S64x256 .bf16) (P : Fin 64 → Fin 64 → EReal) (hB : Diagonal B P)
    (a : Fin 64) (t : Fin 256) : z0 (prod B T0 T1 T2 T3) (ix2 a t) = ∑ i : Fin 64, P a i * T0 (ix2 i t) := by
  pointwise [z0, prod]
  refine (Rotate.window_sum 0 (by omega) (P a) _ _ fun q => ?_).trans (Finset.sum_congr rfl fun i _ => congrArg (P a i * ·) ?_)
  · refine (congrArg B (congrArg (ix2 · q) (Fin.ext ?_))).trans (hB 0 a q)
    show _ = 64 * 0 + a.val; first | rfl | omega | simp
  · have hi := i.isLt
    refine Eq.trans (dif_pos ?_) ?_
    · show 0 + i.val < 64; omega
    refine congrArg T0 (congrArg (ix2 · t) (Fin.ext ?_))
    show 0 + i.val = i.val; omega

theorem z1_apply (B : Vec Ideal S256x256 .bf16) (T0 T1 T2 T3 : FVec Ideal S64x256 .bf16) (P : Fin 64 → Fin 64 → EReal) (hB : Diagonal B P)
    (a : Fin 64) (t : Fin 256) : z1 (prod B T0 T1 T2 T3) (ix2 a t) = ∑ i : Fin 64, P a i * T1 (ix2 i t) := by
  pointwise [z1, prod]
  refine (Rotate.window_sum 64 (by omega) (P a) _ _ fun q => ?_).trans (Finset.sum_congr rfl fun i _ => congrArg (P a i * ·) ?_)
  · refine (congrArg B (congrArg (ix2 · q) (Fin.ext ?_))).trans (hB 1 a q)
    show _ = 64 * 1 + a.val; first | rfl | omega | simp
  · have hi := i.isLt
    refine Eq.trans (dif_neg ?_) ?_
    · show ¬ (64 + i.val < 64); omega
    refine Eq.trans (dif_pos ?_) ?_
    · show 64 + i.val - 64 < 64; omega
    refine congrArg T1 (congrArg (ix2 · t) (Fin.ext ?_))
    show 64 + i.val - 64 = i.val; omega

theorem z2_apply (B : Vec Ideal S256x256 .bf16) (T0 T1 T2 T3 : FVec Ideal S64x256 .bf16) (P : Fin 64 → Fin 64 → EReal) (hB : Diagonal B P)
    (a : Fin 64) (t : Fin 256) : z2 (prod B T0 T1 T2 T3) (ix2 a t) = ∑ i : Fin 64, P a i * T2 (ix2 i t) := by
  pointwise [z2, prod]
  refine (Rotate.window_sum 128 (by omega) (P a) _ _ fun q => ?_).trans (Finset.sum_congr rfl fun i _ => congrArg (P a i * ·) ?_)
  · refine (congrArg B (congrArg (ix2 · q) (Fin.ext ?_))).trans (hB 2 a q)
    show _ = 64 * 2 + a.val; first | rfl | omega | simp
  · have hi := i.isLt
    refine Eq.trans (dif_neg ?_) ?_
    · show ¬ (128 + i.val < 64); omega
    refine Eq.trans (dif_neg ?_) ?_
    · show ¬ (128 + i.val - 64 < 64); omega
    refine Eq.trans (dif_pos ?_) ?_
    · show 128 + i.val - 64 - 64 < 64; omega
    refine congrArg T2 (congrArg (ix2 · t) (Fin.ext ?_))
    show 128 + i.val - 64 - 64 = i.val; omega

theorem z3_apply (B : Vec Ideal S256x256 .bf16) (T0 T1 T2 T3 : FVec Ideal S64x256 .bf16) (P : Fin 64 → Fin 64 → EReal) (hB : Diagonal B P)
    (a : Fin 64) (t : Fin 256) : z3 (prod B T0 T1 T2 T3) (ix2 a t) = ∑ i : Fin 64, P a i * T3 (ix2 i t) := by
  pointwise [z3, prod]
  refine (Rotate.window_sum 192 (by omega) (P a) _ _ fun q => ?_).trans (Finset.sum_congr rfl fun i _ => congrArg (P a i * ·) ?_)
  · refine (congrArg B (congrArg (ix2 · q) (Fin.ext ?_))).trans (hB 3 a q)
    show _ = 64 * 3 + a.val; first | rfl | omega | simp
  · have hi := i.isLt
    refine Eq.trans (dif_neg ?_) ?_
    · show ¬ (192 + i.val < 64); omega
    refine Eq.trans (dif_neg ?_) ?_
    · show ¬ (192 + i.val - 64 < 64); omega
    refine Eq.trans (dif_neg ?_) ?_
    · show ¬ (192 + i.val - 64 - 64 < 64); omega
    refine congrArg T3 (congrArg (ix2 · t) (Fin.ext ?_))
    show 192 + i.val - 64 - 64 - 64 = i.val; omega

/-- A slice's token halves, as stored. -/
def half0 (Z : FVec Ideal S64x256 .f32) : FVec Ideal S1x64x128 .f32 := shapeCast S1x64x128 (extractStridedSlice S64x128 ![0, 0] Z slices_S64x256_o0_0_S64x128) shapeCasts_S64x128_S1x64x128
def half1 (Z : FVec Ideal S64x256 .f32) : FVec Ideal S1x64x128 .f32 := shapeCast S1x64x128 (extractStridedSlice S64x128 ![0, 128] Z slices_S64x256_o0_128_S64x128) shapeCasts_S64x128_S1x64x128

theorem half0_apply (Z : FVec Ideal S64x256 .f32) (a : Fin 64) (l : Fin 128) : half0 Z (ix3 0 a l) = Z (ix2 a ⟨0 + l.val, by omega⟩) := by
  pointwise [half0]
theorem half1_apply (Z : FVec Ideal S64x256 .f32) (a : Fin 64) (l : Fin 128) : half1 Z (ix3 0 a l) = Z (ix2 a ⟨128 + l.val, by omega⟩) := by
  pointwise [half1]

/-- The running magnitude after four more slices. -/
def grow (m : FVec Ideal S64x256 .f32) (Z : FVec Ideal S256x256 .f32) : FVec Ideal S64x256 .f32 :=
  maximumf (maximumf (maximumf (maximumf m (absf (z0 Z))) (absf (z1 Z))) (absf (z2 Z))) (absf (z3 Z))

/-! ## Codes -/

/-- Two rows of the table over the step, rounded and clipped: the first 128 tokens; -/
def codes0 (s : FVec Ideal S1x256 .f32) (za zb : Vec Ideal S1x80x128 .f32) : FVec Ideal S160x128 .fp8e4m3 :=
  shapeCast S160x128 (truncf .fp8e4m3 (minimumf (broadcast S160x128 (Scalar.ofBits .f32 0x40E00000#32 : Ideal .f32)) (maximumf (broadcast S160x128 (Scalar.ofBits .f32 0xC0E00000#32 : Ideal .f32))
    (roundeven (divf (concatenate S160x128 0 [⟨S80x128, shapeCast S80x128 za shapeCasts_S1x80x128_S80x128⟩, ⟨S80x128, shapeCast S80x128 zb shapeCasts_S1x80x128_S80x128⟩] concatenates_S80x128_S80x128_S160x128_d0)
      (broadcastTo S160x128 (extractStridedSlice S1x128 ![0, 0] s slices_S1x256_o0_0_S1x128) broadcasts_S1x128_S160x128))))) bitsLt_fp8e4m3_f32) shapeCasts_S160x128_S160x128
/-- the last 128. -/
def codes1 (s : FVec Ideal S1x256 .f32) (za zb : Vec Ideal S1x80x128 .f32) : FVec Ideal S160x128 .fp8e4m3 :=
  shapeCast S160x128 (truncf .fp8e4m3 (minimumf (broadcast S160x128 (Scalar.ofBits .f32 0x40E00000#32 : Ideal .f32)) (maximumf (broadcast S160x128 (Scalar.ofBits .f32 0xC0E00000#32 : Ideal .f32))
    (roundeven (divf (concatenate S160x128 0 [⟨S80x128, shapeCast S80x128 za shapeCasts_S1x80x128_S80x128⟩, ⟨S80x128, shapeCast S80x128 zb shapeCasts_S1x80x128_S80x128⟩] concatenates_S80x128_S80x128_S160x128_d0)
      (broadcastTo S160x128 (extractStridedSlice S1x128 ![0, 128] s slices_S1x256_o0_128_S1x128) broadcasts_S1x128_S160x128))))) bitsLt_fp8e4m3_f32) shapeCasts_S160x128_S160x128

theorem codes0_apply (s : FVec Ideal S1x256 .f32) (za zb : Vec Ideal S1x80x128 .f32) (r : Fin 160) (l : Fin 128) (w : EReal)
    (ha : ∀ h : r.val < 80, za (ix3 0 ⟨r.val, h⟩ l) = w) (hb : ∀ h : ¬ r.val < 80, zb (ix3 0 ⟨r.val - 80, by omega⟩ l) = w) :
    codes0 s za zb (ix2 r l) = Rotate.code w (s (ix2 0 ⟨0 + l.val, by omega⟩)) := by
  pointwise [codes0]
  have e : (if h : r.val < 80 then za (ix3 0 ⟨r.val, h⟩ l) else zb (ix3 0 ⟨r.val - 80, by omega⟩ l)) = w := by
    by_cases h : r.val < 80
    · exact (dif_pos h).trans (ha h)
    · exact (dif_neg h).trans (hb h)
  unfold Rotate.code
  rw [Rotate.seven, Rotate.negSeven]
  exact congrArg (fun v => min 7 (max (-7) (Ideal.liftRound Ideal.roundHalfEven (Ideal.div v _)))) e

theorem codes1_apply (s : FVec Ideal S1x256 .f32) (za zb : Vec Ideal S1x80x128 .f32) (r : Fin 160) (l : Fin 128) (w : EReal)
    (ha : ∀ h : r.val < 80, za (ix3 0 ⟨r.val, h⟩ l) = w) (hb : ∀ h : ¬ r.val < 80, zb (ix3 0 ⟨r.val - 80, by omega⟩ l) = w) :
    codes1 s za zb (ix2 r l) = Rotate.code w (s (ix2 0 ⟨128 + l.val, by omega⟩)) := by
  pointwise [codes1]
  have e : (if h : r.val < 80 then za (ix3 0 ⟨r.val, h⟩ l) else zb (ix3 0 ⟨r.val - 80, by omega⟩ l)) = w := by
    by_cases h : r.val < 80
    · exact (dif_pos h).trans (ha h)
    · exact (dif_neg h).trans (hb h)
  unfold Rotate.code
  rw [Rotate.seven, Rotate.negSeven]
  exact congrArg (fun v => min 7 (max (-7) (Ideal.liftRound Ideal.roundHalfEven (Ideal.div v _)))) e

end Cert.TransformIdeal.Parts

end
-- ==== Proof.TransformWords.lean ====
/-
  The word plane of one run of the transform's body: each of its 64 stores writes one word row of one token half, holding
  the pair of rotated rows `mids` of that row (`words_HS1_64`).
-/
module

public import proofs.«01_k».proof.Proof.TransformParts

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

/-- What one run of the body is over: its device, grid point, buffers and input blocks. -/
structure Args where
  c : Dev nD
  i : grid0.Coords
  arg1 : Memref sig .tc .vmem S256x5120 .bf16
  harg1 : arg1.IsWhole
  arg2 : Memref sig .tc .vmem S1x5120 .f32
  harg2 : arg2.IsWhole
  arg3 : Memref sig .tc .vmem S1280x256 .bf16
  harg3 : arg3.IsWhole
  arg4 : Memref sig .tc .vmem S256x256 .bf16
  harg4 : arg4.IsWhole
  arg5 : Memref sig .tc .smem S1 .f32
  harg5 : arg5.IsWhole
  arg6 : Memref sig .tc .vmem S256x256 .bf16
  harg6 : arg6.IsWhole
  arg7 : Memref sig .tc .vmem S256x5120 .i8
  harg7 : arg7.IsWhole
  arg8 : Memref sig .tc .vmem S256x5120 .fp8e4m3
  harg8 : arg8.IsWhole
  arg9 : Memref sig .tc .vmem S1x1x256 .f32
  harg9 : arg9.IsWhole
  arg10 : Memref sig .tc .vmem S256x128 .f32
  harg10 : arg10.IsWhole
  arg11 : Memref sig .tc .vmem S256x5120 .bf16
  harg11 : arg11.IsWhole
  arg12 : Memref sig .tc .vmem S2x2880x2x128 .bf16
  harg12 : arg12.IsWhole
  arg13 : Memref sig .tc .vmem S2x5376x128 .f32
  harg13 : arg13.IsWhole
  arg14 : Memref sig .tc .vmem S5120x256 .fp8e4m3
  harg14 : arg14.IsWhole
  x0 : Vec Ideal S256x5120 .bf16
  x1 : Vec Ideal S1x5120 .f32
  x2 : Vec Ideal S1280x256 .bf16
  x3 : Vec Ideal S256x256 .bf16
  x4 : Vec Ideal S1 .f32
  x5 : Vec Ideal S256x256 .bf16

variable (A : Args)

theorem zero2 : (![0, 0] : Fin 2 → Nat) = fun _ => 0 := funext fun a => by fin_cases a <;> rfl

/-- The scaled rows of the point. -/
def scaled : Vec Ideal S256x5120 .bf16 := k0_pay4 (F := Ideal) A.x0 A.x1

theorem scaled_apply (t : Fin 256) (n : Fin 5120) : scaled A (ix2 t n) = A.x0 (ix2 t n) * A.x1 (ix2 0 n) := by
  pointwise [scaled, k0_pay4]

/-- A window of 256 channels of them, and rows of the padded matrix, as the body reads them. -/
def win (off : Nat) (h : ∀ a, (![0, off] : Fin 2 → Nat) a + S256x256.size a ≤ S256x5120.size a) : Vec Ideal S256x256 .bf16 :=
  A.arg11.view.readCov (kernelRun0_A.sl.HS0_1 (F := Ideal) A.c A.arg1 A.harg1 A.arg2 A.harg2 A.x0 A.x1) (Rect.unit (s := S256x5120) ![0, off] S256x256.size h).toLoadRect
def a240 (r : Nat) (h : ∀ a, (![r, 0] : Fin 2 → Nat) a + S240x256.size a ≤ S1280x256.size a) : Vec Ideal S240x256 .bf16 :=
  View.readAt (Elt Ideal) A.arg3.view (Rect.unit (s := S1280x256) ![r, 0] S240x256.size h).toLoadRect (A.harg3.unread A.x2)
def a160 (r : Nat) (h : ∀ a, (![r, 0] : Fin 2 → Nat) a + S160x256.size a ≤ S1280x256.size a) : Vec Ideal S160x256 .bf16 :=
  View.readAt (Elt Ideal) A.arg3.view (Rect.unit (s := S1280x256) ![r, 0] S160x256.size h).toLoadRect (A.harg3.unread A.x2)
def a80 (r : Nat) (h : ∀ a, (![r, 0] : Fin 2 → Nat) a + S80x256.size a ≤ S1280x256.size a) : Vec Ideal S80x256 .bf16 :=
  View.readAt (Elt Ideal) A.arg3.view (Rect.unit (s := S1280x256) ![r, 0] S80x256.size h).toLoadRect (A.harg3.unread A.x2)

theorem win_apply (off : Nat) (h) (t q : Fin 256) (n : Fin 5120) (e : n.val = off + q.val) : win A off h (ix2 t q) = scaled A (ix2 t n) := by
  unfold win kernelRun0_A.sl.HS0_1
  rw [View.readCov_eq_canon']
  show View.canon _ _ = _
  rw [View.canon_unit_zero (S := S256x5120) zero2, View.readAt_eq_ld, View.readAt_eq_ld, A.harg1.read_unread, A.harg2.read_unread,
    View.ld_unit_zero (S := S256x5120) zero2, View.ld_unit_zero (S := S1x5120) zero2]
  refine congrArg (scaled A) (funext fun a => Fin.ext ?_)
  match a with
  | ⟨0, _⟩ => show 0 + 1 * t.val = t.val; omega
  | ⟨1, _⟩ => show off + 1 * q.val = n.val; omega
theorem a240_apply (r : Nat) (h) (k : Fin 240) (q : Fin 256) (n : Fin 1280) (e : n.val = r + k.val) : a240 A r h (ix2 k q) = A.x2 (ix2 n q) := by
  unfold a240
  rw [View.readAt_eq_ld, A.harg3.read_unread]
  refine congrArg A.x2 (funext fun a => Fin.ext ?_)
  match a with
  | ⟨0, _⟩ => show r + 1 * k.val = n.val; omega
  | ⟨1, _⟩ => show 0 + 1 * q.val = q.val; omega
theorem a160_apply (r : Nat) (h) (k : Fin 160) (q : Fin 256) (n : Fin 1280) (e : n.val = r + k.val) : a160 A r h (ix2 k q) = A.x2 (ix2 n q) := by
  unfold a160
  rw [View.readAt_eq_ld, A.harg3.read_unread]
  refine congrArg A.x2 (funext fun a => Fin.ext ?_)
  match a with
  | ⟨0, _⟩ => show r + 1 * k.val = n.val; omega
  | ⟨1, _⟩ => show 0 + 1 * q.val = q.val; omega
theorem a80_apply (r : Nat) (h) (k : Fin 80) (q : Fin 256) (n : Fin 1280) (e : n.val = r + k.val) : a80 A r h (ix2 k q) = A.x2 (ix2 n q) := by
  unfold a80
  rw [View.readAt_eq_ld, A.harg3.read_unread]
  refine congrArg A.x2 (funext fun a => Fin.ext ?_)
  match a with
  | ⟨0, _⟩ => show r + 1 * k.val = n.val; omega
  | ⟨1, _⟩ => show 0 + 1 * q.val = q.val; omega

/-- Where the window of a group's block starts, within the group's 1280 channels. -/
def start (b : Fin 16) : Nat := (![0, 0, 0, 128, 256, 256, 384, 384, 640, 640, 640, 768, 896, 896, 1024, 1024] : Fin 16 → Nat) b

theorem start_le (b : Fin 16) : start b ≤ 1024 := by revert b; decide

/-- Entry (i, k) of token `t`: row `i` of its table rotated along its columns. -/
def mids (i : Fin 64) (k : Fin 80) (t : Fin 256) : EReal :=
  ∑ q : Fin 256, A.x2 (ix2 ⟨i.val % 16 * 80 + k.val, by omega⟩ q)
    * scaled A (ix2 t ⟨1280 * (i.val / 16) + start ⟨i.val % 16, by omega⟩ + q.val, by have := start_le ⟨i.val % 16, by omega⟩; omega⟩)

theorem m240_0 (i : Fin 64) (off r : Nat) (hX) (hA) (e0 : off = 1280 * (i.val / 16) + start ⟨i.val % 16, by omega⟩) (e1 : r + 0 = i.val % 16 * 80)
    (k : Fin 80) (t : Fin 256) : b240_0 (rows240 (win A off hX) (a240 A r hA)) (ix2 k t) = mids A i k t := by
  rw [b240_0_apply]
  refine Finset.sum_congr rfl fun q _ => congrArg₂ (· * ·) (a240_apply A r hA _ q _ ?_) (win_apply A off hX t q _ ?_)
  · show i.val % 16 * 80 + k.val = r + (0 + k.val); omega
  · show 1280 * (i.val / 16) + start ⟨i.val % 16, _⟩ + q.val = off + q.val; omega
theorem m240_1 (i : Fin 64) (off r : Nat) (hX) (hA) (e0 : off = 1280 * (i.val / 16) + start ⟨i.val % 16, by omega⟩) (e1 : r + 80 = i.val % 16 * 80)
    (k : Fin 80) (t : Fin 256) : b240_1 (rows240 (win A off hX) (a240 A r hA)) (ix2 k t) = mids A i k t := by
  rw [b240_1_apply]
  refine Finset.sum_congr rfl fun q _ => congrArg₂ (· * ·) (a240_apply A r hA _ q _ ?_) (win_apply A off hX t q _ ?_)
  · show i.val % 16 * 80 + k.val = r + (80 + k.val); omega
  · show 1280 * (i.val / 16) + start ⟨i.val % 16, _⟩ + q.val = off + q.val; omega
theorem m240_2 (i : Fin 64) (off r : Nat) (hX) (hA) (e0 : off = 1280 * (i.val / 16) + start ⟨i.val % 16, by omega⟩) (e1 : r + 160 = i.val % 16 * 80)
    (k : Fin 80) (t : Fin 256) : b240_2 (rows240 (win A off hX) (a240 A r hA)) (ix2 k t) = mids A i k t := by
  rw [b240_2_apply]
  refine Finset.sum_congr rfl fun q _ => congrArg₂ (· * ·) (a240_apply A r hA _ q _ ?_) (win_apply A off hX t q _ ?_)
  · show i.val % 16 * 80 + k.val = r + (160 + k.val); omega
  · show 1280 * (i.val / 16) + start ⟨i.val % 16, _⟩ + q.val = off + q.val; omega
theorem m160_0 (i : Fin 64) (off r : Nat) (hX) (hA) (e0 : off = 1280 * (i.val / 16) + start ⟨i.val % 16, by omega⟩) (e1 : r + 0 = i.val % 16 * 80)
    (k : Fin 80) (t : Fin 256) : b160_0 (rows160 (win A off hX) (a160 A r hA)) (ix2 k t) = mids A i k t := by
  rw [b160_0_apply]
  refine Finset.sum_congr rfl fun q _ => congrArg₂ (· * ·) (a160_apply A r hA _ q _ ?_) (win_apply A off hX t q _ ?_)
  · show i.val % 16 * 80 + k.val = r + (0 + k.val); omega
  · show 1280 * (i.val / 16) + start ⟨i.val % 16, _⟩ + q.val = off + q.val; omega
theorem m160_1 (i : Fin 64) (off r : Nat) (hX) (hA) (e0 : off = 1280 * (i.val / 16) + start ⟨i.val % 16, by omega⟩) (e1 : r + 80 = i.val % 16 * 80)
    (k : Fin 80) (t : Fin 256) : b160_1 (rows160 (win A off hX) (a160 A r hA)) (ix2 k t) = mids A i k t := by
  rw [b160_1_apply]
  refine Finset.sum_congr rfl fun q _ => congrArg₂ (· * ·) (a160_apply A r hA _ q _ ?_) (win_apply A off hX t q _ ?_)
  · show i.val % 16 * 80 + k.val = r + (80 + k.val); omega
  · show 1280 * (i.val / 16) + start ⟨i.val % 16, _⟩ + q.val = off + q.val; omega
theorem m80_0 (i : Fin 64) (off r : Nat) (hX) (hA) (e0 : off = 1280 * (i.val / 16) + start ⟨i.val % 16, by omega⟩) (e1 : r + 0 = i.val % 16 * 80)
    (k : Fin 80) (t : Fin 256) : b80_0 (rows80 (win A off hX) (a80 A r hA)) (ix2 k t) = mids A i k t := by
  rw [b80_0_apply]
  refine Finset.sum_congr rfl fun q _ => congrArg₂ (· * ·) (a80_apply A r hA _ q _ ?_) (win_apply A off hX t q _ ?_)
  · show i.val % 16 * 80 + k.val = r + (0 + k.val); omega
  · show 1280 * (i.val / 16) + start ⟨i.val % 16, _⟩ + q.val = off + q.val; omega

/-- What stands in the word plane at half `p`, word row `r` of column `k`: the pair of rows `2 * r`, `2 * r + 1`. -/
def pairs (p : Fin 2) (r : Fin 32) (k : Fin 80) (h : Fin 2) (l : Fin 128) : EReal :=
  mids A ⟨2 * r.val + h.val, by omega⟩ k ⟨128 * p.val + l.val, by omega⟩

theorem y0 (r : Fin 32) (L H : FVec Ideal S80x256 .bf16) (i j : Fin 64) (ei : i.val = 2 * r.val) (ej : j.val = 2 * r.val + 1)
    (hL : ∀ k t, L (ix2 k t) = mids A i k t) (hH : ∀ k t, H (ix2 k t) = mids A j k t) (x : S1x80x2x128.Idx) :
    word0 L H x = pairs A 0 r (x 1) (x 2) (x 3) := by
  idx_vars x
  have e0 : x0 = 0 := Subsingleton.elim _ _
  rw [e0, word0_apply]
  show _ = pairs A 0 r x1 x2 x3
  unfold pairs
  by_cases h : x2.val = 0
  · rw [if_pos h, hL]; congr 1 <;> apply Fin.ext <;> simp [ei, h]
  · rw [if_neg h, hH]; congr 1 <;> apply Fin.ext <;> simp [ej] <;> omega
theorem y1 (r : Fin 32) (L H : FVec Ideal S80x256 .bf16) (i j : Fin 64) (ei : i.val = 2 * r.val) (ej : j.val = 2 * r.val + 1)
    (hL : ∀ k t, L (ix2 k t) = mids A i k t) (hH : ∀ k t, H (ix2 k t) = mids A j k t) (x : S1x80x2x128.Idx) :
    word1 L H x = pairs A 1 r (x 1) (x 2) (x 3) := by
  idx_vars x
  have e0 : x0 = 0 := Subsingleton.elim _ _
  rw [e0, word1_apply]
  show _ = pairs A 1 r x1 x2 x3
  unfold pairs
  by_cases h : x2.val = 0
  · rw [if_pos h, hL]; congr 1 <;> apply Fin.ext <;> simp [ei, h]
  · rw [if_neg h, hH]; congr 1 <;> apply Fin.ext <;> simp [ej] <;> omega

/-- The plane's rectangle of word row `r`, half `p`. -/
def wordRect (p : Fin 2) (r : Fin 32) : Rect S2x2880x2x128 where
  off := ![p.val, r.val, 0, 0]
  size := S1x80x2x128.size
  stride := ![1, 36, 1, 1]
  inb a := by
    match a with
    | ⟨0, _⟩ => exact Or.inr (show p.val + 1 * (1 - 1) < 2 by omega)
    | ⟨1, _⟩ => exact Or.inr (show r.val + 36 * (80 - 1) < 2880 by omega)
    | ⟨2, _⟩ => exact Or.inr (show 0 + 1 * (2 - 1) < 2 by omega)
    | ⟨3, _⟩ => exact Or.inr (show 0 + 1 * (128 - 1) < 128 by omega)
  stride_pos a := by
    match a with
    | ⟨0, _⟩ => exact Nat.one_pos
    | ⟨1, _⟩ => show 0 < 36; omega
    | ⟨2, _⟩ => exact Nat.one_pos
    | ⟨3, _⟩ => exact Nat.one_pos

/-- A store of word row `r`, half `p`, that holds what is meant to stand there. -/
def Word (pc : View.Piece (Elt Ideal) S2x2880x2x128 .bf16) : Prop :=
  ∃ (p : Fin 2) (r : Fin 32) (w : Vec Ideal S1x80x2x128 .bf16), pc = ⟨wordRect p r, w⟩ ∧ ∀ x, w x = pairs A p r (x 1) (x 2) (x 3)

theorem word_1_1 : ∀ x, word1 (b240_2 (rows240 (win A 0 inb_S256x5120_S256x256_0_0) (a240 A 0 inb_S1280x256_S240x256_0_0))) (b80_0 (rows80 (win A 128 inb_S256x5120_S256x256_0_128) (a80 A 240 inb_S1280x256_S80x256_240_0))) x = pairs A 1 1 (x 1) (x 2) (x 3) :=
  y1 A 1 _ _ 2 3 rfl rfl (m240_2 A 2 0 0 _ _ rfl rfl) (m80_0 A 3 128 240 _ _ rfl rfl)
theorem word_0_1 : ∀ x, word0 (b240_2 (rows240 (win A 0 inb_S256x5120_S256x256_0_0) (a240 A 0 inb_S1280x256_S240x256_0_0))) (b80_0 (rows80 (win A 128 inb_S256x5120_S256x256_0_128) (a80 A 240 inb_S1280x256_S80x256_240_0))) x = pairs A 0 1 (x 1) (x 2) (x 3) :=
  y0 A 1 _ _ 2 3 rfl rfl (m240_2 A 2 0 0 _ _ rfl rfl) (m80_0 A 3 128 240 _ _ rfl rfl)
theorem word_1_0 : ∀ x, word1 (b240_0 (rows240 (win A 0 inb_S256x5120_S256x256_0_0) (a240 A 0 inb_S1280x256_S240x256_0_0))) (b240_1 (rows240 (win A 0 inb_S256x5120_S256x256_0_0) (a240 A 0 inb_S1280x256_S240x256_0_0))) x = pairs A 1 0 (x 1) (x 2) (x 3) :=
  y1 A 0 _ _ 0 1 rfl rfl (m240_0 A 0 0 0 _ _ rfl rfl) (m240_1 A 1 0 0 _ _ rfl rfl)
theorem word_0_0 : ∀ x, word0 (b240_0 (rows240 (win A 0 inb_S256x5120_S256x256_0_0) (a240 A 0 inb_S1280x256_S240x256_0_0))) (b240_1 (rows240 (win A 0 inb_S256x5120_S256x256_0_0) (a240 A 0 inb_S1280x256_S240x256_0_0))) x = pairs A 0 0 (x 1) (x 2) (x 3) :=
  y0 A 0 _ _ 0 1 rfl rfl (m240_0 A 0 0 0 _ _ rfl rfl) (m240_1 A 1 0 0 _ _ rfl rfl)
theorem words_HS1_4 : ∀ pc ∈ kernelRun0_A.sl.HS1_4 (F := Ideal) A.c A.arg1 A.harg1 A.arg2 A.harg2 A.arg3 A.harg3 A.arg11 A.x0 A.x1 A.x2, Word A pc := by
  unfold kernelRun0_A.sl.HS1_4
  refine List.forall_mem_cons.2 ⟨⟨1, 1, _, rfl, word_1_1 A⟩, ?_⟩
  refine List.forall_mem_cons.2 ⟨⟨0, 1, _, rfl, word_0_1 A⟩, ?_⟩
  refine List.forall_mem_cons.2 ⟨⟨1, 0, _, rfl, word_1_0 A⟩, ?_⟩
  refine List.forall_mem_cons.2 ⟨⟨0, 0, _, rfl, word_0_0 A⟩, ?_⟩
  exact List.forall_mem_nil _
theorem word_0_9 : ∀ x, word0 (b240_2 (rows240 (win A 1280 inb_S256x5120_S256x256_0_1280) (a240 A 0 inb_S1280x256_S240x256_0_0))) (b80_0 (rows80 (win A 1408 inb_S256x5120_S256x256_0_1408) (a80 A 240 inb_S1280x256_S80x256_240_0))) x = pairs A 0 9 (x 1) (x 2) (x 3) :=
  y0 A 9 _ _ 18 19 rfl rfl (m240_2 A 18 1280 0 _ _ rfl rfl) (m80_0 A 19 1408 240 _ _ rfl rfl)
theorem word_1_8 : ∀ x, word1 (b240_0 (rows240 (win A 1280 inb_S256x5120_S256x256_0_1280) (a240 A 0 inb_S1280x256_S240x256_0_0))) (b240_1 (rows240 (win A 1280 inb_S256x5120_S256x256_0_1280) (a240 A 0 inb_S1280x256_S240x256_0_0))) x = pairs A 1 8 (x 1) (x 2) (x 3) :=
  y1 A 8 _ _ 16 17 rfl rfl (m240_0 A 16 1280 0 _ _ rfl rfl) (m240_1 A 17 1280 0 _ _ rfl rfl)
theorem word_0_8 : ∀ x, word0 (b240_0 (rows240 (win A 1280 inb_S256x5120_S256x256_0_1280) (a240 A 0 inb_S1280x256_S240x256_0_0))) (b240_1 (rows240 (win A 1280 inb_S256x5120_S256x256_0_1280) (a240 A 0 inb_S1280x256_S240x256_0_0))) x = pairs A 0 8 (x 1) (x 2) (x 3) :=
  y0 A 8 _ _ 16 17 rfl rfl (m240_0 A 16 1280 0 _ _ rfl rfl) (m240_1 A 17 1280 0 _ _ rfl rfl)
theorem word_1_7 : ∀ x, word1 (b160_0 (rows160 (win A 1024 inb_S256x5120_S256x256_0_1024) (a160 A 1120 inb_S1280x256_S160x256_1120_0))) (b160_1 (rows160 (win A 1024 inb_S256x5120_S256x256_0_1024) (a160 A 1120 inb_S1280x256_S160x256_1120_0))) x = pairs A 1 7 (x 1) (x 2) (x 3) :=
  y1 A 7 _ _ 14 15 rfl rfl (m160_0 A 14 1024 1120 _ _ rfl rfl) (m160_1 A 15 1024 1120 _ _ rfl rfl)
theorem word_0_7 : ∀ x, word0 (b160_0 (rows160 (win A 1024 inb_S256x5120_S256x256_0_1024) (a160 A 1120 inb_S1280x256_S160x256_1120_0))) (b160_1 (rows160 (win A 1024 inb_S256x5120_S256x256_0_1024) (a160 A 1120 inb_S1280x256_S160x256_1120_0))) x = pairs A 0 7 (x 1) (x 2) (x 3) :=
  y0 A 7 _ _ 14 15 rfl rfl (m160_0 A 14 1024 1120 _ _ rfl rfl) (m160_1 A 15 1024 1120 _ _ rfl rfl)
theorem word_1_6 : ∀ x, word1 (b160_0 (rows160 (win A 896 inb_S256x5120_S256x256_0_896) (a160 A 960 inb_S1280x256_S160x256_960_0))) (b160_1 (rows160 (win A 896 inb_S256x5120_S256x256_0_896) (a160 A 960 inb_S1280x256_S160x256_960_0))) x = pairs A 1 6 (x 1) (x 2) (x 3) :=
  y1 A 6 _ _ 12 13 rfl rfl (m160_0 A 12 896 960 _ _ rfl rfl) (m160_1 A 13 896 960 _ _ rfl rfl)
theorem word_0_6 : ∀ x, word0 (b160_0 (rows160 (win A 896 inb_S256x5120_S256x256_0_896) (a160 A 960 inb_S1280x256_S160x256_960_0))) (b160_1 (rows160 (win A 896 inb_S256x5120_S256x256_0_896) (a160 A 960 inb_S1280x256_S160x256_960_0))) x = pairs A 0 6 (x 1) (x 2) (x 3) :=
  y0 A 6 _ _ 12 13 rfl rfl (m160_0 A 12 896 960 _ _ rfl rfl) (m160_1 A 13 896 960 _ _ rfl rfl)
theorem word_1_5 : ∀ x, word1 (b240_2 (rows240 (win A 640 inb_S256x5120_S256x256_0_640) (a240 A 640 inb_S1280x256_S240x256_640_0))) (b80_0 (rows80 (win A 768 inb_S256x5120_S256x256_0_768) (a80 A 880 inb_S1280x256_S80x256_880_0))) x = pairs A 1 5 (x 1) (x 2) (x 3) :=
  y1 A 5 _ _ 10 11 rfl rfl (m240_2 A 10 640 640 _ _ rfl rfl) (m80_0 A 11 768 880 _ _ rfl rfl)
theorem word_0_5 : ∀ x, word0 (b240_2 (rows240 (win A 640 inb_S256x5120_S256x256_0_640) (a240 A 640 inb_S1280x256_S240x256_640_0))) (b80_0 (rows80 (win A 768 inb_S256x5120_S256x256_0_768) (a80 A 880 inb_S1280x256_S80x256_880_0))) x = pairs A 0 5 (x 1) (x 2) (x 3) :=
  y0 A 5 _ _ 10 11 rfl rfl (m240_2 A 10 640 640 _ _ rfl rfl) (m80_0 A 11 768 880 _ _ rfl rfl)
theorem word_1_4 : ∀ x, word1 (b240_0 (rows240 (win A 640 inb_S256x5120_S256x256_0_640) (a240 A 640 inb_S1280x256_S240x256_640_0))) (b240_1 (rows240 (win A 640 inb_S256x5120_S256x256_0_640) (a240 A 640 inb_S1280x256_S240x256_640_0))) x = pairs A 1 4 (x 1) (x 2) (x 3) :=
  y1 A 4 _ _ 8 9 rfl rfl (m240_0 A 8 640 640 _ _ rfl rfl) (m240_1 A 9 640 640 _ _ rfl rfl)
theorem word_0_4 : ∀ x, word0 (b240_0 (rows240 (win A 640 inb_S256x5120_S256x256_0_640) (a240 A 640 inb_S1280x256_S240x256_640_0))) (b240_1 (rows240 (win A 640 inb_S256x5120_S256x256_0_640) (a240 A 640 inb_S1280x256_S240x256_640_0))) x = pairs A 0 4 (x 1) (x 2) (x 3) :=
  y0 A 4 _ _ 8 9 rfl rfl (m240_0 A 8 640 640 _ _ rfl rfl) (m240_1 A 9 640 640 _ _ rfl rfl)
theorem word_1_3 : ∀ x, word1 (b160_0 (rows160 (win A 384 inb_S256x5120_S256x256_0_384) (a160 A 480 inb_S1280x256_S160x256_480_0))) (b160_1 (rows160 (win A 384 inb_S256x5120_S256x256_0_384) (a160 A 480 inb_S1280x256_S160x256_480_0))) x = pairs A 1 3 (x 1) (x 2) (x 3) :=
  y1 A 3 _ _ 6 7 rfl rfl (m160_0 A 6 384 480 _ _ rfl rfl) (m160_1 A 7 384 480 _ _ rfl rfl)
theorem word_0_3 : ∀ x, word0 (b160_0 (rows160 (win A 384 inb_S256x5120_S256x256_0_384) (a160 A 480 inb_S1280x256_S160x256_480_0))) (b160_1 (rows160 (win A 384 inb_S256x5120_S256x256_0_384) (a160 A 480 inb_S1280x256_S160x256_480_0))) x = pairs A 0 3 (x 1) (x 2) (x 3) :=
  y0 A 3 _ _ 6 7 rfl rfl (m160_0 A 6 384 480 _ _ rfl rfl) (m160_1 A 7 384 480 _ _ rfl rfl)
theorem word_1_2 : ∀ x, word1 (b160_0 (rows160 (win A 256 inb_S256x5120_S256x256_0_256) (a160 A 320 inb_S1280x256_S160x256_320_0))) (b160_1 (rows160 (win A 256 inb_S256x5120_S256x256_0_256) (a160 A 320 inb_S1280x256_S160x256_320_0))) x = pairs A 1 2 (x 1) (x 2) (x 3) :=
  y1 A 2 _ _ 4 5 rfl rfl (m160_0 A 4 256 320 _ _ rfl rfl) (m160_1 A 5 256 320 _ _ rfl rfl)
theorem word_0_2 : ∀ x, word0 (b160_0 (rows160 (win A 256 inb_S256x5120_S256x256_0_256) (a160 A 320 inb_S1280x256_S160x256_320_0))) (b160_1 (rows160 (win A 256 inb_S256x5120_S256x256_0_256) (a160 A 320 inb_S1280x256_S160x256_320_0))) x = pairs A 0 2 (x 1) (x 2) (x 3) :=
  y0 A 2 _ _ 4 5 rfl rfl (m160_0 A 4 256 320 _ _ rfl rfl) (m160_1 A 5 256 320 _ _ rfl rfl)
theorem words_HS1_19 : ∀ pc ∈ kernelRun0_A.sl.HS1_19 (F := Ideal) A.c A.arg1 A.harg1 A.arg2 A.harg2 A.arg3 A.harg3 A.arg11 A.x0 A.x1 A.x2, Word A pc := by
  unfold kernelRun0_A.sl.HS1_19
  refine List.forall_mem_cons.2 ⟨⟨0, 9, _, rfl, word_0_9 A⟩, ?_⟩
  refine List.forall_mem_cons.2 ⟨⟨1, 8, _, rfl, word_1_8 A⟩, ?_⟩
  refine List.forall_mem_cons.2 ⟨⟨0, 8, _, rfl, word_0_8 A⟩, ?_⟩
  refine List.forall_mem_cons.2 ⟨⟨1, 7, _, rfl, word_1_7 A⟩, ?_⟩
  refine List.forall_mem_cons.2 ⟨⟨0, 7, _, rfl, word_0_7 A⟩, ?_⟩
  refine List.forall_mem_cons.2 ⟨⟨1, 6, _, rfl, word_1_6 A⟩, ?_⟩
  refine List.forall_mem_cons.2 ⟨⟨0, 6, _, rfl, word_0_6 A⟩, ?_⟩
  refine List.forall_mem_cons.2 ⟨⟨1, 5, _, rfl, word_1_5 A⟩, ?_⟩
  refine List.forall_mem_cons.2 ⟨⟨0, 5, _, rfl, word_0_5 A⟩, ?_⟩
  refine List.forall_mem_cons.2 ⟨⟨1, 4, _, rfl, word_1_4 A⟩, ?_⟩
  refine List.forall_mem_cons.2 ⟨⟨0, 4, _, rfl, word_0_4 A⟩, ?_⟩
  refine List.forall_mem_cons.2 ⟨⟨1, 3, _, rfl, word_1_3 A⟩, ?_⟩
  refine List.forall_mem_cons.2 ⟨⟨0, 3, _, rfl, word_0_3 A⟩, ?_⟩
  refine List.forall_mem_cons.2 ⟨⟨1, 2, _, rfl, word_1_2 A⟩, ?_⟩
  refine List.forall_mem_cons.2 ⟨⟨0, 2, _, rfl, word_0_2 A⟩, ?_⟩
  exact words_HS1_4 A
theorem word_1_26 : ∀ x, word1 (b160_0 (rows160 (win A 4096 inb_S256x5120_S256x256_0_4096) (a160 A 320 inb_S1280x256_S160x256_320_0))) (b160_1 (rows160 (win A 4096 inb_S256x5120_S256x256_0_4096) (a160 A 320 inb_S1280x256_S160x256_320_0))) x = pairs A 1 26 (x 1) (x 2) (x 3) :=
  y1 A 26 _ _ 52 53 rfl rfl (m160_0 A 52 4096 320 _ _ rfl rfl) (m160_1 A 53 4096 320 _ _ rfl rfl)
theorem word_0_26 : ∀ x, word0 (b160_0 (rows160 (win A 4096 inb_S256x5120_S256x256_0_4096) (a160 A 320 inb_S1280x256_S160x256_320_0))) (b160_1 (rows160 (win A 4096 inb_S256x5120_S256x256_0_4096) (a160 A 320 inb_S1280x256_S160x256_320_0))) x = pairs A 0 26 (x 1) (x 2) (x 3) :=
  y0 A 26 _ _ 52 53 rfl rfl (m160_0 A 52 4096 320 _ _ rfl rfl) (m160_1 A 53 4096 320 _ _ rfl rfl)
theorem word_1_25 : ∀ x, word1 (b240_2 (rows240 (win A 3840 inb_S256x5120_S256x256_0_3840) (a240 A 0 inb_S1280x256_S240x256_0_0))) (b80_0 (rows80 (win A 3968 inb_S256x5120_S256x256_0_3968) (a80 A 240 inb_S1280x256_S80x256_240_0))) x = pairs A 1 25 (x 1) (x 2) (x 3) :=
  y1 A 25 _ _ 50 51 rfl rfl (m240_2 A 50 3840 0 _ _ rfl rfl) (m80_0 A 51 3968 240 _ _ rfl rfl)
theorem word_0_25 : ∀ x, word0 (b240_2 (rows240 (win A 3840 inb_S256x5120_S256x256_0_3840) (a240 A 0 inb_S1280x256_S240x256_0_0))) (b80_0 (rows80 (win A 3968 inb_S256x5120_S256x256_0_3968) (a80 A 240 inb_S1280x256_S80x256_240_0))) x = pairs A 0 25 (x 1) (x 2) (x 3) :=
  y0 A 25 _ _ 50 51 rfl rfl (m240_2 A 50 3840 0 _ _ rfl rfl) (m80_0 A 51 3968 240 _ _ rfl rfl)
theorem word_1_24 : ∀ x, word1 (b240_0 (rows240 (win A 3840 inb_S256x5120_S256x256_0_3840) (a240 A 0 inb_S1280x256_S240x256_0_0))) (b240_1 (rows240 (win A 3840 inb_S256x5120_S256x256_0_3840) (a240 A 0 inb_S1280x256_S240x256_0_0))) x = pairs A 1 24 (x 1) (x 2) (x 3) :=
  y1 A 24 _ _ 48 49 rfl rfl (m240_0 A 48 3840 0 _ _ rfl rfl) (m240_1 A 49 3840 0 _ _ rfl rfl)
theorem word_0_24 : ∀ x, word0 (b240_0 (rows240 (win A 3840 inb_S256x5120_S256x256_0_3840) (a240 A 0 inb_S1280x256_S240x256_0_0))) (b240_1 (rows240 (win A 3840 inb_S256x5120_S256x256_0_3840) (a240 A 0 inb_S1280x256_S240x256_0_0))) x = pairs A 0 24 (x 1) (x 2) (x 3) :=
  y0 A 24 _ _ 48 49 rfl rfl (m240_0 A 48 3840 0 _ _ rfl rfl) (m240_1 A 49 3840 0 _ _ rfl rfl)
theorem word_1_23 : ∀ x, word1 (b160_0 (rows160 (win A 3584 inb_S256x5120_S256x256_0_3584) (a160 A 1120 inb_S1280x256_S160x256_1120_0))) (b160_1 (rows160 (win A 3584 inb_S256x5120_S256x256_0_3584) (a160 A 1120 inb_S1280x256_S160x256_1120_0))) x = pairs A 1 23 (x 1) (x 2) (x 3) :=
  y1 A 23 _ _ 46 47 rfl rfl (m160_0 A 46 3584 1120 _ _ rfl rfl) (m160_1 A 47 3584 1120 _ _ rfl rfl)
theorem word_0_23 : ∀ x, word0 (b160_0 (rows160 (win A 3584 inb_S256x5120_S256x256_0_3584) (a160 A 1120 inb_S1280x256_S160x256_1120_0))) (b160_1 (rows160 (win A 3584 inb_S256x5120_S256x256_0_3584) (a160 A 1120 inb_S1280x256_S160x256_1120_0))) x = pairs A 0 23 (x 1) (x 2) (x 3) :=
  y0 A 23 _ _ 46 47 rfl rfl (m160_0 A 46 3584 1120 _ _ rfl rfl) (m160_1 A 47 3584 1120 _ _ rfl rfl)
theorem word_1_22 : ∀ x, word1 (b160_0 (rows160 (win A 3456 inb_S256x5120_S256x256_0_3456) (a160 A 960 inb_S1280x256_S160x256_960_0))) (b160_1 (rows160 (win A 3456 inb_S256x5120_S256x256_0_3456) (a160 A 960 inb_S1280x256_S160x256_960_0))) x = pairs A 1 22 (x 1) (x 2) (x 3) :=
  y1 A 22 _ _ 44 45 rfl rfl (m160_0 A 44 3456 960 _ _ rfl rfl) (m160_1 A 45 3456 960 _ _ rfl rfl)
theorem word_0_22 : ∀ x, word0 (b160_0 (rows160 (win A 3456 inb_S256x5120_S256x256_0_3456) (a160 A 960 inb_S1280x256_S160x256_960_0))) (b160_1 (rows160 (win A 3456 inb_S256x5120_S256x256_0_3456) (a160 A 960 inb_S1280x256_S160x256_960_0))) x = pairs A 0 22 (x 1) (x 2) (x 3) :=
  y0 A 22 _ _ 44 45 rfl rfl (m160_0 A 44 3456 960 _ _ rfl rfl) (m160_1 A 45 3456 960 _ _ rfl rfl)
theorem word_1_21 : ∀ x, word1 (b240_2 (rows240 (win A 3200 inb_S256x5120_S256x256_0_3200) (a240 A 640 inb_S1280x256_S240x256_640_0))) (b80_0 (rows80 (win A 3328 inb_S256x5120_S256x256_0_3328) (a80 A 880 inb_S1280x256_S80x256_880_0))) x = pairs A 1 21 (x 1) (x 2) (x 3) :=
  y1 A 21 _ _ 42 43 rfl rfl (m240_2 A 42 3200 640 _ _ rfl rfl) (m80_0 A 43 3328 880 _ _ rfl rfl)
theorem word_0_21 : ∀ x, word0 (b240_2 (rows240 (win A 3200 inb_S256x5120_S256x256_0_3200) (a240 A 640 inb_S1280x256_S240x256_640_0))) (b80_0 (rows80 (win A 3328 inb_S256x5120_S256x256_0_3328) (a80 A 880 inb_S1280x256_S80x256_880_0))) x = pairs A 0 21 (x 1) (x 2) (x 3) :=
  y0 A 21 _ _ 42 43 rfl rfl (m240_2 A 42 3200 640 _ _ rfl rfl) (m80_0 A 43 3328 880 _ _ rfl rfl)
theorem word_1_20 : ∀ x, word1 (b240_0 (rows240 (win A 3200 inb_S256x5120_S256x256_0_3200) (a240 A 640 inb_S1280x256_S240x256_640_0))) (b240_1 (rows240 (win A 3200 inb_S256x5120_S256x256_0_3200) (a240 A 640 inb_S1280x256_S240x256_640_0))) x = pairs A 1 20 (x 1) (x 2) (x 3) :=
  y1 A 20 _ _ 40 41 rfl rfl (m240_0 A 40 3200 640 _ _ rfl rfl) (m240_1 A 41 3200 640 _ _ rfl rfl)
theorem word_0_20 : ∀ x, word0 (b240_0 (rows240 (win A 3200 inb_S256x5120_S256x256_0_3200) (a240 A 640 inb_S1280x256_S240x256_640_0))) (b240_1 (rows240 (win A 3200 inb_S256x5120_S256x256_0_3200) (a240 A 640 inb_S1280x256_S240x256_640_0))) x = pairs A 0 20 (x 1) (x 2) (x 3) :=
  y0 A 20 _ _ 40 41 rfl rfl (m240_0 A 40 3200 640 _ _ rfl rfl) (m240_1 A 41 3200 640 _ _ rfl rfl)
theorem word_1_19 : ∀ x, word1 (b160_0 (rows160 (win A 2944 inb_S256x5120_S256x256_0_2944) (a160 A 480 inb_S1280x256_S160x256_480_0))) (b160_1 (rows160 (win A 2944 inb_S256x5120_S256x256_0_2944) (a160 A 480 inb_S1280x256_S160x256_480_0))) x = pairs A 1 19 (x 1) (x 2) (x 3) :=
  y1 A 19 _ _ 38 39 rfl rfl (m160_0 A 38 2944 480 _ _ rfl rfl) (m160_1 A 39 2944 480 _ _ rfl rfl)
theorem word_0_19 : ∀ x, word0 (b160_0 (rows160 (win A 2944 inb_S256x5120_S256x256_0_2944) (a160 A 480 inb_S1280x256_S160x256_480_0))) (b160_1 (rows160 (win A 2944 inb_S256x5120_S256x256_0_2944) (a160 A 480 inb_S1280x256_S160x256_480_0))) x = pairs A 0 19 (x 1) (x 2) (x 3) :=
  y0 A 19 _ _ 38 39 rfl rfl (m160_0 A 38 2944 480 _ _ rfl rfl) (m160_1 A 39 2944 480 _ _ rfl rfl)
theorem word_1_18 : ∀ x, word1 (b160_0 (rows160 (win A 2816 inb_S256x5120_S256x256_0_2816) (a160 A 320 inb_S1280x256_S160x256_320_0))) (b160_1 (rows160 (win A 2816 inb_S256x5120_S256x256_0_2816) (a160 A 320 inb_S1280x256_S160x256_320_0))) x = pairs A 1 18 (x 1) (x 2) (x 3) :=
  y1 A 18 _ _ 36 37 rfl rfl (m160_0 A 36 2816 320 _ _ rfl rfl) (m160_1 A 37 2816 320 _ _ rfl rfl)
theorem word_0_18 : ∀ x, word0 (b160_0 (rows160 (win A 2816 inb_S256x5120_S256x256_0_2816) (a160 A 320 inb_S1280x256_S160x256_320_0))) (b160_1 (rows160 (win A 2816 inb_S256x5120_S256x256_0_2816) (a160 A 320 inb_S1280x256_S160x256_320_0))) x = pairs A 0 18 (x 1) (x 2) (x 3) :=
  y0 A 18 _ _ 36 37 rfl rfl (m160_0 A 36 2816 320 _ _ rfl rfl) (m160_1 A 37 2816 320 _ _ rfl rfl)
theorem word_1_17 : ∀ x, word1 (b240_2 (rows240 (win A 2560 inb_S256x5120_S256x256_0_2560) (a240 A 0 inb_S1280x256_S240x256_0_0))) (b80_0 (rows80 (win A 2688 inb_S256x5120_S256x256_0_2688) (a80 A 240 inb_S1280x256_S80x256_240_0))) x = pairs A 1 17 (x 1) (x 2) (x 3) :=
  y1 A 17 _ _ 34 35 rfl rfl (m240_2 A 34 2560 0 _ _ rfl rfl) (m80_0 A 35 2688 240 _ _ rfl rfl)
theorem word_0_17 : ∀ x, word0 (b240_2 (rows240 (win A 2560 inb_S256x5120_S256x256_0_2560) (a240 A 0 inb_S1280x256_S240x256_0_0))) (b80_0 (rows80 (win A 2688 inb_S256x5120_S256x256_0_2688) (a80 A 240 inb_S1280x256_S80x256_240_0))) x = pairs A 0 17 (x 1) (x 2) (x 3) :=
  y0 A 17 _ _ 34 35 rfl rfl (m240_2 A 34 2560 0 _ _ rfl rfl) (m80_0 A 35 2688 240 _ _ rfl rfl)
theorem word_1_16 : ∀ x, word1 (b240_0 (rows240 (win A 2560 inb_S256x5120_S256x256_0_2560) (a240 A 0 inb_S1280x256_S240x256_0_0))) (b240_1 (rows240 (win A 2560 inb_S256x5120_S256x256_0_2560) (a240 A 0 inb_S1280x256_S240x256_0_0))) x = pairs A 1 16 (x 1) (x 2) (x 3) :=
  y1 A 16 _ _ 32 33 rfl rfl (m240_0 A 32 2560 0 _ _ rfl rfl) (m240_1 A 33 2560 0 _ _ rfl rfl)
theorem word_0_16 : ∀ x, word0 (b240_0 (rows240 (win A 2560 inb_S256x5120_S256x256_0_2560) (a240 A 0 inb_S1280x256_S240x256_0_0))) (b240_1 (rows240 (win A 2560 inb_S256x5120_S256x256_0_2560) (a240 A 0 inb_S1280x256_S240x256_0_0))) x = pairs A 0 16 (x 1) (x 2) (x 3) :=
  y0 A 16 _ _ 32 33 rfl rfl (m240_0 A 32 2560 0 _ _ rfl rfl) (m240_1 A 33 2560 0 _ _ rfl rfl)
theorem word_1_15 : ∀ x, word1 (b160_0 (rows160 (win A 2304 inb_S256x5120_S256x256_0_2304) (a160 A 1120 inb_S1280x256_S160x256_1120_0))) (b160_1 (rows160 (win A 2304 inb_S256x5120_S256x256_0_2304) (a160 A 1120 inb_S1280x256_S160x256_1120_0))) x = pairs A 1 15 (x 1) (x 2) (x 3) :=
  y1 A 15 _ _ 30 31 rfl rfl (m160_0 A 30 2304 1120 _ _ rfl rfl) (m160_1 A 31 2304 1120 _ _ rfl rfl)
theorem word_0_15 : ∀ x, word0 (b160_0 (rows160 (win A 2304 inb_S256x5120_S256x256_0_2304) (a160 A 1120 inb_S1280x256_S160x256_1120_0))) (b160_1 (rows160 (win A 2304 inb_S256x5120_S256x256_0_2304) (a160 A 1120 inb_S1280x256_S160x256_1120_0))) x = pairs A 0 15 (x 1) (x 2) (x 3) :=
  y0 A 15 _ _ 30 31 rfl rfl (m160_0 A 30 2304 1120 _ _ rfl rfl) (m160_1 A 31 2304 1120 _ _ rfl rfl)
theorem word_1_14 : ∀ x, word1 (b160_0 (rows160 (win A 2176 inb_S256x5120_S256x256_0_2176) (a160 A 960 inb_S1280x256_S160x256_960_0))) (b160_1 (rows160 (win A 2176 inb_S256x5120_S256x256_0_2176) (a160 A 960 inb_S1280x256_S160x256_960_0))) x = pairs A 1 14 (x 1) (x 2) (x 3) :=
  y1 A 14 _ _ 28 29 rfl rfl (m160_0 A 28 2176 960 _ _ rfl rfl) (m160_1 A 29 2176 960 _ _ rfl rfl)
theorem word_0_14 : ∀ x, word0 (b160_0 (rows160 (win A 2176 inb_S256x5120_S256x256_0_2176) (a160 A 960 inb_S1280x256_S160x256_960_0))) (b160_1 (rows160 (win A 2176 inb_S256x5120_S256x256_0_2176) (a160 A 960 inb_S1280x256_S160x256_960_0))) x = pairs A 0 14 (x 1) (x 2) (x 3) :=
  y0 A 14 _ _ 28 29 rfl rfl (m160_0 A 28 2176 960 _ _ rfl rfl) (m160_1 A 29 2176 960 _ _ rfl rfl)
theorem word_1_13 : ∀ x, word1 (b240_2 (rows240 (win A 1920 inb_S256x5120_S256x256_0_1920) (a240 A 640 inb_S1280x256_S240x256_640_0))) (b80_0 (rows80 (win A 2048 inb_S256x5120_S256x256_0_2048) (a80 A 880 inb_S1280x256_S80x256_880_0))) x = pairs A 1 13 (x 1) (x 2) (x 3) :=
  y1 A 13 _ _ 26 27 rfl rfl (m240_2 A 26 1920 640 _ _ rfl rfl) (m80_0 A 27 2048 880 _ _ rfl rfl)
theorem word_0_13 : ∀ x, word0 (b240_2 (rows240 (win A 1920 inb_S256x5120_S256x256_0_1920) (a240 A 640 inb_S1280x256_S240x256_640_0))) (b80_0 (rows80 (win A 2048 inb_S256x5120_S256x256_0_2048) (a80 A 880 inb_S1280x256_S80x256_880_0))) x = pairs A 0 13 (x 1) (x 2) (x 3) :=
  y0 A 13 _ _ 26 27 rfl rfl (m240_2 A 26 1920 640 _ _ rfl rfl) (m80_0 A 27 2048 880 _ _ rfl rfl)
theorem word_1_12 : ∀ x, word1 (b240_0 (rows240 (win A 1920 inb_S256x5120_S256x256_0_1920) (a240 A 640 inb_S1280x256_S240x256_640_0))) (b240_1 (rows240 (win A 1920 inb_S256x5120_S256x256_0_1920) (a240 A 640 inb_S1280x256_S240x256_640_0))) x = pairs A 1 12 (x 1) (x 2) (x 3) :=
  y1 A 12 _ _ 24 25 rfl rfl (m240_0 A 24 1920 640 _ _ rfl rfl) (m240_1 A 25 1920 640 _ _ rfl rfl)
theorem word_0_12 : ∀ x, word0 (b240_0 (rows240 (win A 1920 inb_S256x5120_S256x256_0_1920) (a240 A 640 inb_S1280x256_S240x256_640_0))) (b240_1 (rows240 (win A 1920 inb_S256x5120_S256x256_0_1920) (a240 A 640 inb_S1280x256_S240x256_640_0))) x = pairs A 0 12 (x 1) (x 2) (x 3) :=
  y0 A 12 _ _ 24 25 rfl rfl (m240_0 A 24 1920 640 _ _ rfl rfl) (m240_1 A 25 1920 640 _ _ rfl rfl)
theorem word_1_11 : ∀ x, word1 (b160_0 (rows160 (win A 1664 inb_S256x5120_S256x256_0_1664) (a160 A 480 inb_S1280x256_S160x256_480_0))) (b160_1 (rows160 (win A 1664 inb_S256x5120_S256x256_0_1664) (a160 A 480 inb_S1280x256_S160x256_480_0))) x = pairs A 1 11 (x 1) (x 2) (x 3) :=
  y1 A 11 _ _ 22 23 rfl rfl (m160_0 A 22 1664 480 _ _ rfl rfl) (m160_1 A 23 1664 480 _ _ rfl rfl)
theorem word_0_11 : ∀ x, word0 (b160_0 (rows160 (win A 1664 inb_S256x5120_S256x256_0_1664) (a160 A 480 inb_S1280x256_S160x256_480_0))) (b160_1 (rows160 (win A 1664 inb_S256x5120_S256x256_0_1664) (a160 A 480 inb_S1280x256_S160x256_480_0))) x = pairs A 0 11 (x 1) (x 2) (x 3) :=
  y0 A 11 _ _ 22 23 rfl rfl (m160_0 A 22 1664 480 _ _ rfl rfl) (m160_1 A 23 1664 480 _ _ rfl rfl)
theorem word_1_10 : ∀ x, word1 (b160_0 (rows160 (win A 1536 inb_S256x5120_S256x256_0_1536) (a160 A 320 inb_S1280x256_S160x256_320_0))) (b160_1 (rows160 (win A 1536 inb_S256x5120_S256x256_0_1536) (a160 A 320 inb_S1280x256_S160x256_320_0))) x = pairs A 1 10 (x 1) (x 2) (x 3) :=
  y1 A 10 _ _ 20 21 rfl rfl (m160_0 A 20 1536 320 _ _ rfl rfl) (m160_1 A 21 1536 320 _ _ rfl rfl)
theorem word_0_10 : ∀ x, word0 (b160_0 (rows160 (win A 1536 inb_S256x5120_S256x256_0_1536) (a160 A 320 inb_S1280x256_S160x256_320_0))) (b160_1 (rows160 (win A 1536 inb_S256x5120_S256x256_0_1536) (a160 A 320 inb_S1280x256_S160x256_320_0))) x = pairs A 0 10 (x 1) (x 2) (x 3) :=
  y0 A 10 _ _ 20 21 rfl rfl (m160_0 A 20 1536 320 _ _ rfl rfl) (m160_1 A 21 1536 320 _ _ rfl rfl)
theorem word_1_9 : ∀ x, word1 (b240_2 (rows240 (win A 1280 inb_S256x5120_S256x256_0_1280) (a240 A 0 inb_S1280x256_S240x256_0_0))) (b80_0 (rows80 (win A 1408 inb_S256x5120_S256x256_0_1408) (a80 A 240 inb_S1280x256_S80x256_240_0))) x = pairs A 1 9 (x 1) (x 2) (x 3) :=
  y1 A 9 _ _ 18 19 rfl rfl (m240_2 A 18 1280 0 _ _ rfl rfl) (m80_0 A 19 1408 240 _ _ rfl rfl)
theorem words_HS1_54 : ∀ pc ∈ kernelRun0_A.sl.HS1_54 (F := Ideal) A.c A.arg1 A.harg1 A.arg2 A.harg2 A.arg3 A.harg3 A.arg11 A.x0 A.x1 A.x2, Word A pc := by
  unfold kernelRun0_A.sl.HS1_54
  refine List.forall_mem_cons.2 ⟨⟨1, 26, _, rfl, word_1_26 A⟩, ?_⟩
  refine List.forall_mem_cons.2 ⟨⟨0, 26, _, rfl, word_0_26 A⟩, ?_⟩
  refine List.forall_mem_cons.2 ⟨⟨1, 25, _, rfl, word_1_25 A⟩, ?_⟩
  refine List.forall_mem_cons.2 ⟨⟨0, 25, _, rfl, word_0_25 A⟩, ?_⟩
  refine List.forall_mem_cons.2 ⟨⟨1, 24, _, rfl, word_1_24 A⟩, ?_⟩
  refine List.forall_mem_cons.2 ⟨⟨0, 24, _, rfl, word_0_24 A⟩, ?_⟩
  refine List.forall_mem_cons.2 ⟨⟨1, 23, _, rfl, word_1_23 A⟩, ?_⟩
  refine List.forall_mem_cons.2 ⟨⟨0, 23, _, rfl, word_0_23 A⟩, ?_⟩
  refine List.forall_mem_cons.2 ⟨⟨1, 22, _, rfl, word_1_22 A⟩, ?_⟩
  refine List.forall_mem_cons.2 ⟨⟨0, 22, _, rfl, word_0_22 A⟩, ?_⟩
  refine List.forall_mem_cons.2 ⟨⟨1, 21, _, rfl, word_1_21 A⟩, ?_⟩
  refine List.forall_mem_cons.2 ⟨⟨0, 21, _, rfl, word_0_21 A⟩, ?_⟩
  refine List.forall_mem_cons.2 ⟨⟨1, 20, _, rfl, word_1_20 A⟩, ?_⟩
  refine List.forall_mem_cons.2 ⟨⟨0, 20, _, rfl, word_0_20 A⟩, ?_⟩
  refine List.forall_mem_cons.2 ⟨⟨1, 19, _, rfl, word_1_19 A⟩, ?_⟩
  refine List.forall_mem_cons.2 ⟨⟨0, 19, _, rfl, word_0_19 A⟩, ?_⟩
  refine List.forall_mem_cons.2 ⟨⟨1, 18, _, rfl, word_1_18 A⟩, ?_⟩
  refine List.forall_mem_cons.2 ⟨⟨0, 18, _, rfl, word_0_18 A⟩, ?_⟩
  refine List.forall_mem_cons.2 ⟨⟨1, 17, _, rfl, word_1_17 A⟩, ?_⟩
  refine List.forall_mem_cons.2 ⟨⟨0, 17, _, rfl, word_0_17 A⟩, ?_⟩
  refine List.forall_mem_cons.2 ⟨⟨1, 16, _, rfl, word_1_16 A⟩, ?_⟩
  refine List.forall_mem_cons.2 ⟨⟨0, 16, _, rfl, word_0_16 A⟩, ?_⟩
  refine List.forall_mem_cons.2 ⟨⟨1, 15, _, rfl, word_1_15 A⟩, ?_⟩
  refine List.forall_mem_cons.2 ⟨⟨0, 15, _, rfl, word_0_15 A⟩, ?_⟩
  refine List.forall_mem_cons.2 ⟨⟨1, 14, _, rfl, word_1_14 A⟩, ?_⟩
  refine List.forall_mem_cons.2 ⟨⟨0, 14, _, rfl, word_0_14 A⟩, ?_⟩
  refine List.forall_mem_cons.2 ⟨⟨1, 13, _, rfl, word_1_13 A⟩, ?_⟩
  refine List.forall_mem_cons.2 ⟨⟨0, 13, _, rfl, word_0_13 A⟩, ?_⟩
  refine List.forall_mem_cons.2 ⟨⟨1, 12, _, rfl, word_1_12 A⟩, ?_⟩
  refine List.forall_mem_cons.2 ⟨⟨0, 12, _, rfl, word_0_12 A⟩, ?_⟩
  refine List.forall_mem_cons.2 ⟨⟨1, 11, _, rfl, word_1_11 A⟩, ?_⟩
  refine List.forall_mem_cons.2 ⟨⟨0, 11, _, rfl, word_0_11 A⟩, ?_⟩
  refine List.forall_mem_cons.2 ⟨⟨1, 10, _, rfl, word_1_10 A⟩, ?_⟩
  refine List.forall_mem_cons.2 ⟨⟨0, 10, _, rfl, word_0_10 A⟩, ?_⟩
  refine List.forall_mem_cons.2 ⟨⟨1, 9, _, rfl, word_1_9 A⟩, ?_⟩
  exact words_HS1_19 A
theorem word_1_29 : ∀ x, word1 (b240_2 (rows240 (win A 4480 inb_S256x5120_S256x256_0_4480) (a240 A 640 inb_S1280x256_S240x256_640_0))) (b80_0 (rows80 (win A 4608 inb_S256x5120_S256x256_0_4608) (a80 A 880 inb_S1280x256_S80x256_880_0))) x = pairs A 1 29 (x 1) (x 2) (x 3) :=
  y1 A 29 _ _ 58 59 rfl rfl (m240_2 A 58 4480 640 _ _ rfl rfl) (m80_0 A 59 4608 880 _ _ rfl rfl)
theorem word_0_29 : ∀ x, word0 (b240_2 (rows240 (win A 4480 inb_S256x5120_S256x256_0_4480) (a240 A 640 inb_S1280x256_S240x256_640_0))) (b80_0 (rows80 (win A 4608 inb_S256x5120_S256x256_0_4608) (a80 A 880 inb_S1280x256_S80x256_880_0))) x = pairs A 0 29 (x 1) (x 2) (x 3) :=
  y0 A 29 _ _ 58 59 rfl rfl (m240_2 A 58 4480 640 _ _ rfl rfl) (m80_0 A 59 4608 880 _ _ rfl rfl)
theorem word_1_28 : ∀ x, word1 (b240_0 (rows240 (win A 4480 inb_S256x5120_S256x256_0_4480) (a240 A 640 inb_S1280x256_S240x256_640_0))) (b240_1 (rows240 (win A 4480 inb_S256x5120_S256x256_0_4480) (a240 A 640 inb_S1280x256_S240x256_640_0))) x = pairs A 1 28 (x 1) (x 2) (x 3) :=
  y1 A 28 _ _ 56 57 rfl rfl (m240_0 A 56 4480 640 _ _ rfl rfl) (m240_1 A 57 4480 640 _ _ rfl rfl)
theorem word_0_28 : ∀ x, word0 (b240_0 (rows240 (win A 4480 inb_S256x5120_S256x256_0_4480) (a240 A 640 inb_S1280x256_S240x256_640_0))) (b240_1 (rows240 (win A 4480 inb_S256x5120_S256x256_0_4480) (a240 A 640 inb_S1280x256_S240x256_640_0))) x = pairs A 0 28 (x 1) (x 2) (x 3) :=
  y0 A 28 _ _ 56 57 rfl rfl (m240_0 A 56 4480 640 _ _ rfl rfl) (m240_1 A 57 4480 640 _ _ rfl rfl)
theorem word_1_27 : ∀ x, word1 (b160_0 (rows160 (win A 4224 inb_S256x5120_S256x256_0_4224) (a160 A 480 inb_S1280x256_S160x256_480_0))) (b160_1 (rows160 (win A 4224 inb_S256x5120_S256x256_0_4224) (a160 A 480 inb_S1280x256_S160x256_480_0))) x = pairs A 1 27 (x 1) (x 2) (x 3) :=
  y1 A 27 _ _ 54 55 rfl rfl (m160_0 A 54 4224 480 _ _ rfl rfl) (m160_1 A 55 4224 480 _ _ rfl rfl)
theorem word_0_27 : ∀ x, word0 (b160_0 (rows160 (win A 4224 inb_S256x5120_S256x256_0_4224) (a160 A 480 inb_S1280x256_S160x256_480_0))) (b160_1 (rows160 (win A 4224 inb_S256x5120_S256x256_0_4224) (a160 A 480 inb_S1280x256_S160x256_480_0))) x = pairs A 0 27 (x 1) (x 2) (x 3) :=
  y0 A 27 _ _ 54 55 rfl rfl (m160_0 A 54 4224 480 _ _ rfl rfl) (m160_1 A 55 4224 480 _ _ rfl rfl)
theorem words_HS1_60 : ∀ pc ∈ kernelRun0_A.sl.HS1_60 (F := Ideal) A.c A.arg1 A.harg1 A.arg2 A.harg2 A.arg3 A.harg3 A.arg11 A.x0 A.x1 A.x2, Word A pc := by
  unfold kernelRun0_A.sl.HS1_60
  refine List.forall_mem_cons.2 ⟨⟨1, 29, _, rfl, word_1_29 A⟩, ?_⟩
  refine List.forall_mem_cons.2 ⟨⟨0, 29, _, rfl, word_0_29 A⟩, ?_⟩
  refine List.forall_mem_cons.2 ⟨⟨1, 28, _, rfl, word_1_28 A⟩, ?_⟩
  refine List.forall_mem_cons.2 ⟨⟨0, 28, _, rfl, word_0_28 A⟩, ?_⟩
  refine List.forall_mem_cons.2 ⟨⟨1, 27, _, rfl, word_1_27 A⟩, ?_⟩
  refine List.forall_mem_cons.2 ⟨⟨0, 27, _, rfl, word_0_27 A⟩, ?_⟩
  exact words_HS1_54 A
theorem word_1_31 : ∀ x, word1 (b160_0 (rows160 (win A 4864 inb_S256x5120_S256x256_0_4864) (a160 A 1120 inb_S1280x256_S160x256_1120_0))) (b160_1 (rows160 (win A 4864 inb_S256x5120_S256x256_0_4864) (a160 A 1120 inb_S1280x256_S160x256_1120_0))) x = pairs A 1 31 (x 1) (x 2) (x 3) :=
  y1 A 31 _ _ 62 63 rfl rfl (m160_0 A 62 4864 1120 _ _ rfl rfl) (m160_1 A 63 4864 1120 _ _ rfl rfl)
theorem word_0_31 : ∀ x, word0 (b160_0 (rows160 (win A 4864 inb_S256x5120_S256x256_0_4864) (a160 A 1120 inb_S1280x256_S160x256_1120_0))) (b160_1 (rows160 (win A 4864 inb_S256x5120_S256x256_0_4864) (a160 A 1120 inb_S1280x256_S160x256_1120_0))) x = pairs A 0 31 (x 1) (x 2) (x 3) :=
  y0 A 31 _ _ 62 63 rfl rfl (m160_0 A 62 4864 1120 _ _ rfl rfl) (m160_1 A 63 4864 1120 _ _ rfl rfl)
theorem word_1_30 : ∀ x, word1 (b160_0 (rows160 (win A 4736 inb_S256x5120_S256x256_0_4736) (a160 A 960 inb_S1280x256_S160x256_960_0))) (b160_1 (rows160 (win A 4736 inb_S256x5120_S256x256_0_4736) (a160 A 960 inb_S1280x256_S160x256_960_0))) x = pairs A 1 30 (x 1) (x 2) (x 3) :=
  y1 A 30 _ _ 60 61 rfl rfl (m160_0 A 60 4736 960 _ _ rfl rfl) (m160_1 A 61 4736 960 _ _ rfl rfl)
theorem word_0_30 : ∀ x, word0 (b160_0 (rows160 (win A 4736 inb_S256x5120_S256x256_0_4736) (a160 A 960 inb_S1280x256_S160x256_960_0))) (b160_1 (rows160 (win A 4736 inb_S256x5120_S256x256_0_4736) (a160 A 960 inb_S1280x256_S160x256_960_0))) x = pairs A 0 30 (x 1) (x 2) (x 3) :=
  y0 A 30 _ _ 60 61 rfl rfl (m160_0 A 60 4736 960 _ _ rfl rfl) (m160_1 A 61 4736 960 _ _ rfl rfl)
theorem words_HS1_64 : ∀ pc ∈ kernelRun0_A.sl.HS1_64 (F := Ideal) A.c A.arg1 A.harg1 A.arg2 A.harg2 A.arg3 A.harg3 A.arg11 A.x0 A.x1 A.x2, Word A pc := by
  unfold kernelRun0_A.sl.HS1_64
  refine List.forall_mem_cons.2 ⟨⟨1, 31, _, rfl, word_1_31 A⟩, ?_⟩
  refine List.forall_mem_cons.2 ⟨⟨0, 31, _, rfl, word_0_31 A⟩, ?_⟩
  refine List.forall_mem_cons.2 ⟨⟨1, 30, _, rfl, word_1_30 A⟩, ?_⟩
  refine List.forall_mem_cons.2 ⟨⟨0, 30, _, rfl, word_0_30 A⟩, ?_⟩
  exact words_HS1_60 A

end Cert.TransformIdeal.Parts

end
-- ==== Proof.TransformTable.lean ====
/-
  The table plane of one run of the transform's body: the word plane's columns are read back a tile at a time (`column`),
  four of them are multiplied by the block-diagonal matrix (`turn0` to `turn19`), and each of the 160 stores writes one column
  of one token half of the table `turned`, rotated on both sides (`columns_HS2_160`).
-/
module

public import proofs.«01_k».proof.Proof.TransformWords

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (A : Args)

/-! ## Reading the word plane -/

/-- Every word row is stored. -/
theorem word_mem0 (r : Nat) (hr : r < 32) : ∃ w, (⟨wordRect 0 ⟨r, hr⟩, w⟩ : View.Piece (Elt Ideal) S2x2880x2x128 .bf16) ∈ kernelRun0_A.sl.HS1_64 (F := Ideal) A.c A.arg1 A.harg1 A.arg2 A.harg2 A.arg3 A.harg3 A.arg11 A.x0 A.x1 A.x2 := by
  interval_cases r
  · exact ⟨_, List.mem_of_getElem? (i := 63) rfl⟩
  · exact ⟨_, List.mem_of_getElem? (i := 61) rfl⟩
  · exact ⟨_, List.mem_of_getElem? (i := 59) rfl⟩
  · exact ⟨_, List.mem_of_getElem? (i := 57) rfl⟩
  · exact ⟨_, List.mem_of_getElem? (i := 55) rfl⟩
  · exact ⟨_, List.mem_of_getElem? (i := 53) rfl⟩
  · exact ⟨_, List.mem_of_getElem? (i := 51) rfl⟩
  · exact ⟨_, List.mem_of_getElem? (i := 49) rfl⟩
  · exact ⟨_, List.mem_of_getElem? (i := 47) rfl⟩
  · exact ⟨_, List.mem_of_getElem? (i := 45) rfl⟩
  · exact ⟨_, List.mem_of_getElem? (i := 43) rfl⟩
  · exact ⟨_, List.mem_of_getElem? (i := 41) rfl⟩
  · exact ⟨_, List.mem_of_getElem? (i := 39) rfl⟩
  · exact ⟨_, List.mem_of_getElem? (i := 37) rfl⟩
  · exact ⟨_, List.mem_of_getElem? (i := 35) rfl⟩
  · exact ⟨_, List.mem_of_getElem? (i := 33) rfl⟩
  · exact ⟨_, List.mem_of_getElem? (i := 31) rfl⟩
  · exact ⟨_, List.mem_of_getElem? (i := 29) rfl⟩
  · exact ⟨_, List.mem_of_getElem? (i := 27) rfl⟩
  · exact ⟨_, List.mem_of_getElem? (i := 25) rfl⟩
  · exact ⟨_, List.mem_of_getElem? (i := 23) rfl⟩
  · exact ⟨_, List.mem_of_getElem? (i := 21) rfl⟩
  · exact ⟨_, List.mem_of_getElem? (i := 19) rfl⟩
  · exact ⟨_, List.mem_of_getElem? (i := 17) rfl⟩
  · exact ⟨_, List.mem_of_getElem? (i := 15) rfl⟩
  · exact ⟨_, List.mem_of_getElem? (i := 13) rfl⟩
  · exact ⟨_, List.mem_of_getElem? (i := 11) rfl⟩
  · exact ⟨_, List.mem_of_getElem? (i := 9) rfl⟩
  · exact ⟨_, List.mem_of_getElem? (i := 7) rfl⟩
  · exact ⟨_, List.mem_of_getElem? (i := 5) rfl⟩
  · exact ⟨_, List.mem_of_getElem? (i := 3) rfl⟩
  · exact ⟨_, List.mem_of_getElem? (i := 1) rfl⟩
theorem word_mem1 (r : Nat) (hr : r < 32) : ∃ w, (⟨wordRect 1 ⟨r, hr⟩, w⟩ : View.Piece (Elt Ideal) S2x2880x2x128 .bf16) ∈ kernelRun0_A.sl.HS1_64 (F := Ideal) A.c A.arg1 A.harg1 A.arg2 A.harg2 A.arg3 A.harg3 A.arg11 A.x0 A.x1 A.x2 := by
  interval_cases r
  · exact ⟨_, List.mem_of_getElem? (i := 62) rfl⟩
  · exact ⟨_, List.mem_of_getElem? (i := 60) rfl⟩
  · exact ⟨_, List.mem_of_getElem? (i := 58) rfl⟩
  · exact ⟨_, List.mem_of_getElem? (i := 56) rfl⟩
  · exact ⟨_, List.mem_of_getElem? (i := 54) rfl⟩
  · exact ⟨_, List.mem_of_getElem? (i := 52) rfl⟩
  · exact ⟨_, List.mem_of_getElem? (i := 50) rfl⟩
  · exact ⟨_, List.mem_of_getElem? (i := 48) rfl⟩
  · exact ⟨_, List.mem_of_getElem? (i := 46) rfl⟩
  · exact ⟨_, List.mem_of_getElem? (i := 44) rfl⟩
  · exact ⟨_, List.mem_of_getElem? (i := 42) rfl⟩
  · exact ⟨_, List.mem_of_getElem? (i := 40) rfl⟩
  · exact ⟨_, List.mem_of_getElem? (i := 38) rfl⟩
  · exact ⟨_, List.mem_of_getElem? (i := 36) rfl⟩
  · exact ⟨_, List.mem_of_getElem? (i := 34) rfl⟩
  · exact ⟨_, List.mem_of_getElem? (i := 32) rfl⟩
  · exact ⟨_, List.mem_of_getElem? (i := 30) rfl⟩
  · exact ⟨_, List.mem_of_getElem? (i := 28) rfl⟩
  · exact ⟨_, List.mem_of_getElem? (i := 26) rfl⟩
  · exact ⟨_, List.mem_of_getElem? (i := 24) rfl⟩
  · exact ⟨_, List.mem_of_getElem? (i := 22) rfl⟩
  · exact ⟨_, List.mem_of_getElem? (i := 20) rfl⟩
  · exact ⟨_, List.mem_of_getElem? (i := 18) rfl⟩
  · exact ⟨_, List.mem_of_getElem? (i := 16) rfl⟩
  · exact ⟨_, List.mem_of_getElem? (i := 14) rfl⟩
  · exact ⟨_, List.mem_of_getElem? (i := 12) rfl⟩
  · exact ⟨_, List.mem_of_getElem? (i := 10) rfl⟩
  · exact ⟨_, List.mem_of_getElem? (i := 8) rfl⟩
  · exact ⟨_, List.mem_of_getElem? (i := 6) rfl⟩
  · exact ⟨_, List.mem_of_getElem? (i := 4) rfl⟩
  · exact ⟨_, List.mem_of_getElem? (i := 2) rfl⟩
  · exact ⟨_, List.mem_of_getElem? (i := 0) rfl⟩
theorem word_mem (p : Fin 2) (r : Fin 32) : ∃ w, (⟨wordRect p r, w⟩ : View.Piece (Elt Ideal) S2x2880x2x128 .bf16) ∈ kernelRun0_A.sl.HS1_64 (F := Ideal) A.c A.arg1 A.harg1 A.arg2 A.harg2 A.arg3 A.harg3 A.arg11 A.x0 A.x1 A.x2 := by
  match p with
  | ⟨0, _⟩ => exact word_mem0 A r.val r.isLt
  | ⟨1, _⟩ => exact word_mem1 A r.val r.isLt

/-- The word plane by its index. -/
def plane (y : S2x2880x2x128.Idx) : EReal :=
  if h : (y 1).val % 36 < 32 then pairs A (y 0) ⟨(y 1).val % 36, h⟩ ⟨(y 1).val / 36, by have : (y 1).val < 2880 := (y 1).isLt; omega⟩ (y 2) (y 3) else 0

theorem word_plane (pc : View.Piece (Elt Ideal) S2x2880x2x128 .bf16) (h : Word A pc) (x : pc.1.shape.Idx) : pc.2 x = plane A (pc.1.emb x) := by
  obtain ⟨p, r, w, rfl, hw⟩ := h
  have hx0 : (x 0).val < 1 := (x 0).isLt
  have hx1 : (x 1).val < 80 := (x 1).isLt
  have e0 : ((wordRect p r).emb x 0) = p := Fin.ext (show p.val + 1 * (x 0).val = p.val by omega)
  have v1 : ((wordRect p r).emb x 1).val = r.val + 36 * (x 1).val := rfl
  have e2 : ((wordRect p r).emb x 2) = x 2 := Fin.ext (show 0 + 1 * (x 2).val = (x 2).val by omega)
  have e3 : ((wordRect p r).emb x 3) = x 3 := Fin.ext (show 0 + 1 * (x 3).val = (x 3).val by omega)
  have hm : ((wordRect p r).emb x 1).val % 36 = r.val := by rw [v1]; omega
  have hd : ((wordRect p r).emb x 1).val / 36 = (x 1).val := by rw [v1]; omega
  unfold plane
  refine (hw x).trans (Eq.trans ?_ (dif_pos (show ((wordRect p r).emb x 1).val % 36 < 32 by rw [hm]; exact r.isLt)).symm)
  show pairs A p r (x 1) (x 2) (x 3) = pairs A ((wordRect p r).emb x 0) ⟨((wordRect p r).emb x 1).val % 36, _⟩ ⟨((wordRect p r).emb x 1).val / 36, _⟩ ((wordRect p r).emb x 2) ((wordRect p r).emb x 3)
  rw [e0, e2, e3]
  congr 1
  · exact Fin.ext hm.symm
  · exact Fin.ext hd.symm

/-- 32 word rows of a column, as the body reads them. -/
def raw (p off : Nat) (h : ∀ a, (![p, off, 0, 0] : Fin 4 → Nat) a + S1x32x2x128.size a ≤ S2x2880x2x128.size a) : Vec Ideal S1x32x2x128 .bf16 :=
  A.arg12.view.readCov (kernelRun0_A.sl.HS1_64 (F := Ideal) A.c A.arg1 A.harg1 A.arg2 A.harg2 A.arg3 A.harg3 A.arg11 A.x0 A.x1 A.x2) (Rect.unit (s := S2x2880x2x128) ![p, off, 0, 0] S1x32x2x128.size h).toLoadRect

/-- What a list of such stores leaves at an index, when it has every word row. -/
theorem plane_at (L : List (View.Piece (Elt Ideal) S2x2880x2x128 .bf16)) (hL : ∀ pc ∈ L, Word A pc)
    (hc : ∀ (p : Fin 2) (r : Fin 32), ∃ w, (⟨wordRect p r, w⟩ : View.Piece (Elt Ideal) S2x2880x2x128 .bf16) ∈ L)
    (y : S2x2880x2x128.Idx) (p : Fin 2) (k : Fin 80) (r : Fin 32) (b : Fin 2) (l : Fin 128)
    (v0 : (y 0).val = p.val) (v1 : (y 1).val = 36 * k.val + r.val) (v2 : (y 2).val = b.val) (v3 : (y 3).val = l.val) :
    View.canon L y = pairs A p r k b l := by
  have hy : ∃ pc ∈ L, y ∈ pc.1.set := by
    obtain ⟨w, hw⟩ := hc p r
    refine ⟨_, hw, ?_⟩
    rw [LoadRect.mem_set]
    intro a
    match a with
    | ⟨0, _⟩ => exact ⟨0, Nat.one_pos, show (y 0).val = p.val + 1 * 0 by omega⟩
    | ⟨1, _⟩ => exact ⟨k.val, k.isLt, show (y 1).val = r.val + 36 * k.val by omega⟩
    | ⟨2, _⟩ => exact ⟨b.val, b.isLt, show (y 2).val = 0 + 1 * b.val by omega⟩
    | ⟨3, _⟩ => exact ⟨l.val, l.isLt, show (y 3).val = 0 + 1 * l.val by omega⟩
  rw [View.canon_apply_of_pieces (plane A) L (fun pc hpc x => word_plane A pc (hL pc hpc) x) y hy]
  have hm : (y 1).val % 36 = r.val := by omega
  have hd : (y 1).val / 36 = k.val := by omega
  unfold plane
  rw [dif_pos (by rw [hm]; exact r.isLt)]
  congr 1
  · exact Fin.ext v0
  · exact Fin.ext hm
  · exact Fin.ext hd
  · exact Fin.ext v2
  · exact Fin.ext v3

theorem raw_apply (p off : Nat) (h) (k : Fin 80) (e : off = 36 * k.val) (hp : p < 2) (r : Fin 32) (b : Fin 2) (l : Fin 128) :
    raw A p off h (ix4 0 r b l) = pairs A ⟨p, hp⟩ r k b l := by
  unfold raw
  rw [View.readCov_eq_canon']
  refine plane_at A _ (words_HS1_64 A) (word_mem A) _ ⟨p, hp⟩ k r b l ?_ ?_ ?_ ?_
  · show p + 1 * 0 = p; omega
  · show off + 1 * r.val = 36 * k.val + r.val; omega
  · show 0 + 1 * b.val = b.val; omega
  · show 0 + 1 * l.val = l.val; omega

/-- A column's tile. -/
def column (off : Nat) (h0 : ∀ a, (![0, off, 0, 0] : Fin 4 → Nat) a + S1x32x2x128.size a ≤ S2x2880x2x128.size a)
    (h1 : ∀ a, (![1, off, 0, 0] : Fin 4 → Nat) a + S1x32x2x128.size a ≤ S2x2880x2x128.size a) : FVec Ideal S64x256 .bf16 := tile (raw A 0 off h0) (raw A 1 off h1)

theorem column_apply (off : Nat) (h0 h1) (k : Fin 80) (e : off = 36 * k.val) (i : Fin 64) (t : Fin 256) : column A off h0 h1 (ix2 i t) = mids A i k t := by
  unfold column
  refine tile_apply _ _ (fun i t => mids A i k t) (fun r b l => ?_) (fun r b l => ?_) i t
  · rw [raw_apply A 0 off h0 k e (by omega) r b l]
    unfold pairs
    refine congrArg (mids A _ k) (Fin.ext ?_)
    show 128 * 0 + l.val = l.val; omega
  · rw [raw_apply A 1 off h1 k e (by omega) r b l]
    unfold pairs
    refine congrArg (mids A _ k) (Fin.ext ?_)
    show 128 * 1 + l.val = 128 + l.val; omega

/-! ## The second rotation -/

/-- The block-diagonal matrix as the body reads it. -/
def diag : Vec Ideal S256x256 .bf16 :=
  View.readAt (Elt Ideal) A.arg4.view (Rect.unit (s := S256x256) ![0, 0] S256x256.size inb_S256x256_S256x256_0_0).toLoadRect (A.harg4.unread A.x3)

theorem diag_eq : diag A = A.x3 := by
  unfold diag
  rw [View.readAt_eq_ld, A.harg4.read_unread, View.ld_unit_zero (S := S256x256) zero2]

variable (P : Fin 64 → Fin 64 → EReal)

/-- Entry (a, k) of token `t`'s table, rotated on both sides. -/
def turned (a : Fin 64) (k : Fin 80) (t : Fin 256) : EReal := ∑ i : Fin 64, P a i * mids A i k t

/-- Four columns at once. -/
def turn0 : FVec Ideal S256x256 .f32 := prod (diag A) (column A 0 inb_S2x2880x2x128_S1x32x2x128_0_0_0_0 inb_S2x2880x2x128_S1x32x2x128_1_0_0_0) (column A 36 inb_S2x2880x2x128_S1x32x2x128_0_36_0_0 inb_S2x2880x2x128_S1x32x2x128_1_36_0_0) (column A 72 inb_S2x2880x2x128_S1x32x2x128_0_72_0_0 inb_S2x2880x2x128_S1x32x2x128_1_72_0_0) (column A 108 inb_S2x2880x2x128_S1x32x2x128_0_108_0_0 inb_S2x2880x2x128_S1x32x2x128_1_108_0_0)
def turn1 : FVec Ideal S256x256 .f32 := prod (diag A) (column A 144 inb_S2x2880x2x128_S1x32x2x128_0_144_0_0 inb_S2x2880x2x128_S1x32x2x128_1_144_0_0) (column A 180 inb_S2x2880x2x128_S1x32x2x128_0_180_0_0 inb_S2x2880x2x128_S1x32x2x128_1_180_0_0) (column A 216 inb_S2x2880x2x128_S1x32x2x128_0_216_0_0 inb_S2x2880x2x128_S1x32x2x128_1_216_0_0) (column A 252 inb_S2x2880x2x128_S1x32x2x128_0_252_0_0 inb_S2x2880x2x128_S1x32x2x128_1_252_0_0)
def turn2 : FVec Ideal S256x256 .f32 := prod (diag A) (column A 288 inb_S2x2880x2x128_S1x32x2x128_0_288_0_0 inb_S2x2880x2x128_S1x32x2x128_1_288_0_0) (column A 324 inb_S2x2880x2x128_S1x32x2x128_0_324_0_0 inb_S2x2880x2x128_S1x32x2x128_1_324_0_0) (column A 360 inb_S2x2880x2x128_S1x32x2x128_0_360_0_0 inb_S2x2880x2x128_S1x32x2x128_1_360_0_0) (column A 396 inb_S2x2880x2x128_S1x32x2x128_0_396_0_0 inb_S2x2880x2x128_S1x32x2x128_1_396_0_0)
def turn3 : FVec Ideal S256x256 .f32 := prod (diag A) (column A 432 inb_S2x2880x2x128_S1x32x2x128_0_432_0_0 inb_S2x2880x2x128_S1x32x2x128_1_432_0_0) (column A 468 inb_S2x2880x2x128_S1x32x2x128_0_468_0_0 inb_S2x2880x2x128_S1x32x2x128_1_468_0_0) (column A 504 inb_S2x2880x2x128_S1x32x2x128_0_504_0_0 inb_S2x2880x2x128_S1x32x2x128_1_504_0_0) (column A 540 inb_S2x2880x2x128_S1x32x2x128_0_540_0_0 inb_S2x2880x2x128_S1x32x2x128_1_540_0_0)
def turn4 : FVec Ideal S256x256 .f32 := prod (diag A) (column A 576 inb_S2x2880x2x128_S1x32x2x128_0_576_0_0 inb_S2x2880x2x128_S1x32x2x128_1_576_0_0) (column A 612 inb_S2x2880x2x128_S1x32x2x128_0_612_0_0 inb_S2x2880x2x128_S1x32x2x128_1_612_0_0) (column A 648 inb_S2x2880x2x128_S1x32x2x128_0_648_0_0 inb_S2x2880x2x128_S1x32x2x128_1_648_0_0) (column A 684 inb_S2x2880x2x128_S1x32x2x128_0_684_0_0 inb_S2x2880x2x128_S1x32x2x128_1_684_0_0)
def turn5 : FVec Ideal S256x256 .f32 := prod (diag A) (column A 720 inb_S2x2880x2x128_S1x32x2x128_0_720_0_0 inb_S2x2880x2x128_S1x32x2x128_1_720_0_0) (column A 756 inb_S2x2880x2x128_S1x32x2x128_0_756_0_0 inb_S2x2880x2x128_S1x32x2x128_1_756_0_0) (column A 792 inb_S2x2880x2x128_S1x32x2x128_0_792_0_0 inb_S2x2880x2x128_S1x32x2x128_1_792_0_0) (column A 828 inb_S2x2880x2x128_S1x32x2x128_0_828_0_0 inb_S2x2880x2x128_S1x32x2x128_1_828_0_0)
def turn6 : FVec Ideal S256x256 .f32 := prod (diag A) (column A 864 inb_S2x2880x2x128_S1x32x2x128_0_864_0_0 inb_S2x2880x2x128_S1x32x2x128_1_864_0_0) (column A 900 inb_S2x2880x2x128_S1x32x2x128_0_900_0_0 inb_S2x2880x2x128_S1x32x2x128_1_900_0_0) (column A 936 inb_S2x2880x2x128_S1x32x2x128_0_936_0_0 inb_S2x2880x2x128_S1x32x2x128_1_936_0_0) (column A 972 inb_S2x2880x2x128_S1x32x2x128_0_972_0_0 inb_S2x2880x2x128_S1x32x2x128_1_972_0_0)
def turn7 : FVec Ideal S256x256 .f32 := prod (diag A) (column A 1008 inb_S2x2880x2x128_S1x32x2x128_0_1008_0_0 inb_S2x2880x2x128_S1x32x2x128_1_1008_0_0) (column A 1044 inb_S2x2880x2x128_S1x32x2x128_0_1044_0_0 inb_S2x2880x2x128_S1x32x2x128_1_1044_0_0) (column A 1080 inb_S2x2880x2x128_S1x32x2x128_0_1080_0_0 inb_S2x2880x2x128_S1x32x2x128_1_1080_0_0) (column A 1116 inb_S2x2880x2x128_S1x32x2x128_0_1116_0_0 inb_S2x2880x2x128_S1x32x2x128_1_1116_0_0)
def turn8 : FVec Ideal S256x256 .f32 := prod (diag A) (column A 1152 inb_S2x2880x2x128_S1x32x2x128_0_1152_0_0 inb_S2x2880x2x128_S1x32x2x128_1_1152_0_0) (column A 1188 inb_S2x2880x2x128_S1x32x2x128_0_1188_0_0 inb_S2x2880x2x128_S1x32x2x128_1_1188_0_0) (column A 1224 inb_S2x2880x2x128_S1x32x2x128_0_1224_0_0 inb_S2x2880x2x128_S1x32x2x128_1_1224_0_0) (column A 1260 inb_S2x2880x2x128_S1x32x2x128_0_1260_0_0 inb_S2x2880x2x128_S1x32x2x128_1_1260_0_0)
def turn9 : FVec Ideal S256x256 .f32 := prod (diag A) (column A 1296 inb_S2x2880x2x128_S1x32x2x128_0_1296_0_0 inb_S2x2880x2x128_S1x32x2x128_1_1296_0_0) (column A 1332 inb_S2x2880x2x128_S1x32x2x128_0_1332_0_0 inb_S2x2880x2x128_S1x32x2x128_1_1332_0_0) (column A 1368 inb_S2x2880x2x128_S1x32x2x128_0_1368_0_0 inb_S2x2880x2x128_S1x32x2x128_1_1368_0_0) (column A 1404 inb_S2x2880x2x128_S1x32x2x128_0_1404_0_0 inb_S2x2880x2x128_S1x32x2x128_1_1404_0_0)
def turn10 : FVec Ideal S256x256 .f32 := prod (diag A) (column A 1440 inb_S2x2880x2x128_S1x32x2x128_0_1440_0_0 inb_S2x2880x2x128_S1x32x2x128_1_1440_0_0) (column A 1476 inb_S2x2880x2x128_S1x32x2x128_0_1476_0_0 inb_S2x2880x2x128_S1x32x2x128_1_1476_0_0) (column A 1512 inb_S2x2880x2x128_S1x32x2x128_0_1512_0_0 inb_S2x2880x2x128_S1x32x2x128_1_1512_0_0) (column A 1548 inb_S2x2880x2x128_S1x32x2x128_0_1548_0_0 inb_S2x2880x2x128_S1x32x2x128_1_1548_0_0)
def turn11 : FVec Ideal S256x256 .f32 := prod (diag A) (column A 1584 inb_S2x2880x2x128_S1x32x2x128_0_1584_0_0 inb_S2x2880x2x128_S1x32x2x128_1_1584_0_0) (column A 1620 inb_S2x2880x2x128_S1x32x2x128_0_1620_0_0 inb_S2x2880x2x128_S1x32x2x128_1_1620_0_0) (column A 1656 inb_S2x2880x2x128_S1x32x2x128_0_1656_0_0 inb_S2x2880x2x128_S1x32x2x128_1_1656_0_0) (column A 1692 inb_S2x2880x2x128_S1x32x2x128_0_1692_0_0 inb_S2x2880x2x128_S1x32x2x128_1_1692_0_0)
def turn12 : FVec Ideal S256x256 .f32 := prod (diag A) (column A 1728 inb_S2x2880x2x128_S1x32x2x128_0_1728_0_0 inb_S2x2880x2x128_S1x32x2x128_1_1728_0_0) (column A 1764 inb_S2x2880x2x128_S1x32x2x128_0_1764_0_0 inb_S2x2880x2x128_S1x32x2x128_1_1764_0_0) (column A 1800 inb_S2x2880x2x128_S1x32x2x128_0_1800_0_0 inb_S2x2880x2x128_S1x32x2x128_1_1800_0_0) (column A 1836 inb_S2x2880x2x128_S1x32x2x128_0_1836_0_0 inb_S2x2880x2x128_S1x32x2x128_1_1836_0_0)
def turn13 : FVec Ideal S256x256 .f32 := prod (diag A) (column A 1872 inb_S2x2880x2x128_S1x32x2x128_0_1872_0_0 inb_S2x2880x2x128_S1x32x2x128_1_1872_0_0) (column A 1908 inb_S2x2880x2x128_S1x32x2x128_0_1908_0_0 inb_S2x2880x2x128_S1x32x2x128_1_1908_0_0) (column A 1944 inb_S2x2880x2x128_S1x32x2x128_0_1944_0_0 inb_S2x2880x2x128_S1x32x2x128_1_1944_0_0) (column A 1980 inb_S2x2880x2x128_S1x32x2x128_0_1980_0_0 inb_S2x2880x2x128_S1x32x2x128_1_1980_0_0)
def turn14 : FVec Ideal S256x256 .f32 := prod (diag A) (column A 2016 inb_S2x2880x2x128_S1x32x2x128_0_2016_0_0 inb_S2x2880x2x128_S1x32x2x128_1_2016_0_0) (column A 2052 inb_S2x2880x2x128_S1x32x2x128_0_2052_0_0 inb_S2x2880x2x128_S1x32x2x128_1_2052_0_0) (column A 2088 inb_S2x2880x2x128_S1x32x2x128_0_2088_0_0 inb_S2x2880x2x128_S1x32x2x128_1_2088_0_0) (column A 2124 inb_S2x2880x2x128_S1x32x2x128_0_2124_0_0 inb_S2x2880x2x128_S1x32x2x128_1_2124_0_0)
def turn15 : FVec Ideal S256x256 .f32 := prod (diag A) (column A 2160 inb_S2x2880x2x128_S1x32x2x128_0_2160_0_0 inb_S2x2880x2x128_S1x32x2x128_1_2160_0_0) (column A 2196 inb_S2x2880x2x128_S1x32x2x128_0_2196_0_0 inb_S2x2880x2x128_S1x32x2x128_1_2196_0_0) (column A 2232 inb_S2x2880x2x128_S1x32x2x128_0_2232_0_0 inb_S2x2880x2x128_S1x32x2x128_1_2232_0_0) (column A 2268 inb_S2x2880x2x128_S1x32x2x128_0_2268_0_0 inb_S2x2880x2x128_S1x32x2x128_1_2268_0_0)
def turn16 : FVec Ideal S256x256 .f32 := prod (diag A) (column A 2304 inb_S2x2880x2x128_S1x32x2x128_0_2304_0_0 inb_S2x2880x2x128_S1x32x2x128_1_2304_0_0) (column A 2340 inb_S2x2880x2x128_S1x32x2x128_0_2340_0_0 inb_S2x2880x2x128_S1x32x2x128_1_2340_0_0) (column A 2376 inb_S2x2880x2x128_S1x32x2x128_0_2376_0_0 inb_S2x2880x2x128_S1x32x2x128_1_2376_0_0) (column A 2412 inb_S2x2880x2x128_S1x32x2x128_0_2412_0_0 inb_S2x2880x2x128_S1x32x2x128_1_2412_0_0)
def turn17 : FVec Ideal S256x256 .f32 := prod (diag A) (column A 2448 inb_S2x2880x2x128_S1x32x2x128_0_2448_0_0 inb_S2x2880x2x128_S1x32x2x128_1_2448_0_0) (column A 2484 inb_S2x2880x2x128_S1x32x2x128_0_2484_0_0 inb_S2x2880x2x128_S1x32x2x128_1_2484_0_0) (column A 2520 inb_S2x2880x2x128_S1x32x2x128_0_2520_0_0 inb_S2x2880x2x128_S1x32x2x128_1_2520_0_0) (column A 2556 inb_S2x2880x2x128_S1x32x2x128_0_2556_0_0 inb_S2x2880x2x128_S1x32x2x128_1_2556_0_0)
def turn18 : FVec Ideal S256x256 .f32 := prod (diag A) (column A 2592 inb_S2x2880x2x128_S1x32x2x128_0_2592_0_0 inb_S2x2880x2x128_S1x32x2x128_1_2592_0_0) (column A 2628 inb_S2x2880x2x128_S1x32x2x128_0_2628_0_0 inb_S2x2880x2x128_S1x32x2x128_1_2628_0_0) (column A 2664 inb_S2x2880x2x128_S1x32x2x128_0_2664_0_0 inb_S2x2880x2x128_S1x32x2x128_1_2664_0_0) (column A 2700 inb_S2x2880x2x128_S1x32x2x128_0_2700_0_0 inb_S2x2880x2x128_S1x32x2x128_1_2700_0_0)
def turn19 : FVec Ideal S256x256 .f32 := prod (diag A) (column A 2736 inb_S2x2880x2x128_S1x32x2x128_0_2736_0_0 inb_S2x2880x2x128_S1x32x2x128_1_2736_0_0) (column A 2772 inb_S2x2880x2x128_S1x32x2x128_0_2772_0_0 inb_S2x2880x2x128_S1x32x2x128_1_2772_0_0) (column A 2808 inb_S2x2880x2x128_S1x32x2x128_0_2808_0_0 inb_S2x2880x2x128_S1x32x2x128_1_2808_0_0) (column A 2844 inb_S2x2880x2x128_S1x32x2x128_0_2844_0_0 inb_S2x2880x2x128_S1x32x2x128_1_2844_0_0)

variable (hB : Diagonal A.x3 P)
include hB

theorem turn0_0 (a : Fin 64) (t : Fin 256) : z0 (turn0 A) (ix2 a t) = turned A P a 0 t :=
  (z0_apply _ _ _ _ _ P (by rw [diag_eq]; exact hB) a t).trans (Finset.sum_congr rfl fun i _ => congrArg (P a i * ·) (column_apply A _ _ _ 0 rfl i t))
theorem turn0_1 (a : Fin 64) (t : Fin 256) : z1 (turn0 A) (ix2 a t) = turned A P a 1 t :=
  (z1_apply _ _ _ _ _ P (by rw [diag_eq]; exact hB) a t).trans (Finset.sum_congr rfl fun i _ => congrArg (P a i * ·) (column_apply A _ _ _ 1 rfl i t))
theorem turn0_2 (a : Fin 64) (t : Fin 256) : z2 (turn0 A) (ix2 a t) = turned A P a 2 t :=
  (z2_apply _ _ _ _ _ P (by rw [diag_eq]; exact hB) a t).trans (Finset.sum_congr rfl fun i _ => congrArg (P a i * ·) (column_apply A _ _ _ 2 rfl i t))
theorem turn0_3 (a : Fin 64) (t : Fin 256) : z3 (turn0 A) (ix2 a t) = turned A P a 3 t :=
  (z3_apply _ _ _ _ _ P (by rw [diag_eq]; exact hB) a t).trans (Finset.sum_congr rfl fun i _ => congrArg (P a i * ·) (column_apply A _ _ _ 3 rfl i t))
theorem turn1_0 (a : Fin 64) (t : Fin 256) : z0 (turn1 A) (ix2 a t) = turned A P a 4 t :=
  (z0_apply _ _ _ _ _ P (by rw [diag_eq]; exact hB) a t).trans (Finset.sum_congr rfl fun i _ => congrArg (P a i * ·) (column_apply A _ _ _ 4 rfl i t))
theorem turn1_1 (a : Fin 64) (t : Fin 256) : z1 (turn1 A) (ix2 a t) = turned A P a 5 t :=
  (z1_apply _ _ _ _ _ P (by rw [diag_eq]; exact hB) a t).trans (Finset.sum_congr rfl fun i _ => congrArg (P a i * ·) (column_apply A _ _ _ 5 rfl i t))
theorem turn1_2 (a : Fin 64) (t : Fin 256) : z2 (turn1 A) (ix2 a t) = turned A P a 6 t :=
  (z2_apply _ _ _ _ _ P (by rw [diag_eq]; exact hB) a t).trans (Finset.sum_congr rfl fun i _ => congrArg (P a i * ·) (column_apply A _ _ _ 6 rfl i t))
theorem turn1_3 (a : Fin 64) (t : Fin 256) : z3 (turn1 A) (ix2 a t) = turned A P a 7 t :=
  (z3_apply _ _ _ _ _ P (by rw [diag_eq]; exact hB) a t).trans (Finset.sum_congr rfl fun i _ => congrArg (P a i * ·) (column_apply A _ _ _ 7 rfl i t))
theorem turn2_0 (a : Fin 64) (t : Fin 256) : z0 (turn2 A) (ix2 a t) = turned A P a 8 t :=
  (z0_apply _ _ _ _ _ P (by rw [diag_eq]; exact hB) a t).trans (Finset.sum_congr rfl fun i _ => congrArg (P a i * ·) (column_apply A _ _ _ 8 rfl i t))
theorem turn2_1 (a : Fin 64) (t : Fin 256) : z1 (turn2 A) (ix2 a t) = turned A P a 9 t :=
  (z1_apply _ _ _ _ _ P (by rw [diag_eq]; exact hB) a t).trans (Finset.sum_congr rfl fun i _ => congrArg (P a i * ·) (column_apply A _ _ _ 9 rfl i t))
theorem turn2_2 (a : Fin 64) (t : Fin 256) : z2 (turn2 A) (ix2 a t) = turned A P a 10 t :=
  (z2_apply _ _ _ _ _ P (by rw [diag_eq]; exact hB) a t).trans (Finset.sum_congr rfl fun i _ => congrArg (P a i * ·) (column_apply A _ _ _ 10 rfl i t))
theorem turn2_3 (a : Fin 64) (t : Fin 256) : z3 (turn2 A) (ix2 a t) = turned A P a 11 t :=
  (z3_apply _ _ _ _ _ P (by rw [diag_eq]; exact hB) a t).trans (Finset.sum_congr rfl fun i _ => congrArg (P a i * ·) (column_apply A _ _ _ 11 rfl i t))
theorem turn3_0 (a : Fin 64) (t : Fin 256) : z0 (turn3 A) (ix2 a t) = turned A P a 12 t :=
  (z0_apply _ _ _ _ _ P (by rw [diag_eq]; exact hB) a t).trans (Finset.sum_congr rfl fun i _ => congrArg (P a i * ·) (column_apply A _ _ _ 12 rfl i t))
theorem turn3_1 (a : Fin 64) (t : Fin 256) : z1 (turn3 A) (ix2 a t) = turned A P a 13 t :=
  (z1_apply _ _ _ _ _ P (by rw [diag_eq]; exact hB) a t).trans (Finset.sum_congr rfl fun i _ => congrArg (P a i * ·) (column_apply A _ _ _ 13 rfl i t))
theorem turn3_2 (a : Fin 64) (t : Fin 256) : z2 (turn3 A) (ix2 a t) = turned A P a 14 t :=
  (z2_apply _ _ _ _ _ P (by rw [diag_eq]; exact hB) a t).trans (Finset.sum_congr rfl fun i _ => congrArg (P a i * ·) (column_apply A _ _ _ 14 rfl i t))
theorem turn3_3 (a : Fin 64) (t : Fin 256) : z3 (turn3 A) (ix2 a t) = turned A P a 15 t :=
  (z3_apply _ _ _ _ _ P (by rw [diag_eq]; exact hB) a t).trans (Finset.sum_congr rfl fun i _ => congrArg (P a i * ·) (column_apply A _ _ _ 15 rfl i t))
theorem turn4_0 (a : Fin 64) (t : Fin 256) : z0 (turn4 A) (ix2 a t) = turned A P a 16 t :=
  (z0_apply _ _ _ _ _ P (by rw [diag_eq]; exact hB) a t).trans (Finset.sum_congr rfl fun i _ => congrArg (P a i * ·) (column_apply A _ _ _ 16 rfl i t))
theorem turn4_1 (a : Fin 64) (t : Fin 256) : z1 (turn4 A) (ix2 a t) = turned A P a 17 t :=
  (z1_apply _ _ _ _ _ P (by rw [diag_eq]; exact hB) a t).trans (Finset.sum_congr rfl fun i _ => congrArg (P a i * ·) (column_apply A _ _ _ 17 rfl i t))
theorem turn4_2 (a : Fin 64) (t : Fin 256) : z2 (turn4 A) (ix2 a t) = turned A P a 18 t :=
  (z2_apply _ _ _ _ _ P (by rw [diag_eq]; exact hB) a t).trans (Finset.sum_congr rfl fun i _ => congrArg (P a i * ·) (column_apply A _ _ _ 18 rfl i t))
theorem turn4_3 (a : Fin 64) (t : Fin 256) : z3 (turn4 A) (ix2 a t) = turned A P a 19 t :=
  (z3_apply _ _ _ _ _ P (by rw [diag_eq]; exact hB) a t).trans (Finset.sum_congr rfl fun i _ => congrArg (P a i * ·) (column_apply A _ _ _ 19 rfl i t))
theorem turn5_0 (a : Fin 64) (t : Fin 256) : z0 (turn5 A) (ix2 a t) = turned A P a 20 t :=
  (z0_apply _ _ _ _ _ P (by rw [diag_eq]; exact hB) a t).trans (Finset.sum_congr rfl fun i _ => congrArg (P a i * ·) (column_apply A _ _ _ 20 rfl i t))
theorem turn5_1 (a : Fin 64) (t : Fin 256) : z1 (turn5 A) (ix2 a t) = turned A P a 21 t :=
  (z1_apply _ _ _ _ _ P (by rw [diag_eq]; exact hB) a t).trans (Finset.sum_congr rfl fun i _ => congrArg (P a i * ·) (column_apply A _ _ _ 21 rfl i t))
theorem turn5_2 (a : Fin 64) (t : Fin 256) : z2 (turn5 A) (ix2 a t) = turned A P a 22 t :=
  (z2_apply _ _ _ _ _ P (by rw [diag_eq]; exact hB) a t).trans (Finset.sum_congr rfl fun i _ => congrArg (P a i * ·) (column_apply A _ _ _ 22 rfl i t))
theorem turn5_3 (a : Fin 64) (t : Fin 256) : z3 (turn5 A) (ix2 a t) = turned A P a 23 t :=
  (z3_apply _ _ _ _ _ P (by rw [diag_eq]; exact hB) a t).trans (Finset.sum_congr rfl fun i _ => congrArg (P a i * ·) (column_apply A _ _ _ 23 rfl i t))
theorem turn6_0 (a : Fin 64) (t : Fin 256) : z0 (turn6 A) (ix2 a t) = turned A P a 24 t :=
  (z0_apply _ _ _ _ _ P (by rw [diag_eq]; exact hB) a t).trans (Finset.sum_congr rfl fun i _ => congrArg (P a i * ·) (column_apply A _ _ _ 24 rfl i t))
theorem turn6_1 (a : Fin 64) (t : Fin 256) : z1 (turn6 A) (ix2 a t) = turned A P a 25 t :=
  (z1_apply _ _ _ _ _ P (by rw [diag_eq]; exact hB) a t).trans (Finset.sum_congr rfl fun i _ => congrArg (P a i * ·) (column_apply A _ _ _ 25 rfl i t))
theorem turn6_2 (a : Fin 64) (t : Fin 256) : z2 (turn6 A) (ix2 a t) = turned A P a 26 t :=
  (z2_apply _ _ _ _ _ P (by rw [diag_eq]; exact hB) a t).trans (Finset.sum_congr rfl fun i _ => congrArg (P a i * ·) (column_apply A _ _ _ 26 rfl i t))
theorem turn6_3 (a : Fin 64) (t : Fin 256) : z3 (turn6 A) (ix2 a t) = turned A P a 27 t :=
  (z3_apply _ _ _ _ _ P (by rw [diag_eq]; exact hB) a t).trans (Finset.sum_congr rfl fun i _ => congrArg (P a i * ·) (column_apply A _ _ _ 27 rfl i t))
theorem turn7_0 (a : Fin 64) (t : Fin 256) : z0 (turn7 A) (ix2 a t) = turned A P a 28 t :=
  (z0_apply _ _ _ _ _ P (by rw [diag_eq]; exact hB) a t).trans (Finset.sum_congr rfl fun i _ => congrArg (P a i * ·) (column_apply A _ _ _ 28 rfl i t))
theorem turn7_1 (a : Fin 64) (t : Fin 256) : z1 (turn7 A) (ix2 a t) = turned A P a 29 t :=
  (z1_apply _ _ _ _ _ P (by rw [diag_eq]; exact hB) a t).trans (Finset.sum_congr rfl fun i _ => congrArg (P a i * ·) (column_apply A _ _ _ 29 rfl i t))
theorem turn7_2 (a : Fin 64) (t : Fin 256) : z2 (turn7 A) (ix2 a t) = turned A P a 30 t :=
  (z2_apply _ _ _ _ _ P (by rw [diag_eq]; exact hB) a t).trans (Finset.sum_congr rfl fun i _ => congrArg (P a i * ·) (column_apply A _ _ _ 30 rfl i t))
theorem turn7_3 (a : Fin 64) (t : Fin 256) : z3 (turn7 A) (ix2 a t) = turned A P a 31 t :=
  (z3_apply _ _ _ _ _ P (by rw [diag_eq]; exact hB) a t).trans (Finset.sum_congr rfl fun i _ => congrArg (P a i * ·) (column_apply A _ _ _ 31 rfl i t))
theorem turn8_0 (a : Fin 64) (t : Fin 256) : z0 (turn8 A) (ix2 a t) = turned A P a 32 t :=
  (z0_apply _ _ _ _ _ P (by rw [diag_eq]; exact hB) a t).trans (Finset.sum_congr rfl fun i _ => congrArg (P a i * ·) (column_apply A _ _ _ 32 rfl i t))
theorem turn8_1 (a : Fin 64) (t : Fin 256) : z1 (turn8 A) (ix2 a t) = turned A P a 33 t :=
  (z1_apply _ _ _ _ _ P (by rw [diag_eq]; exact hB) a t).trans (Finset.sum_congr rfl fun i _ => congrArg (P a i * ·) (column_apply A _ _ _ 33 rfl i t))
theorem turn8_2 (a : Fin 64) (t : Fin 256) : z2 (turn8 A) (ix2 a t) = turned A P a 34 t :=
  (z2_apply _ _ _ _ _ P (by rw [diag_eq]; exact hB) a t).trans (Finset.sum_congr rfl fun i _ => congrArg (P a i * ·) (column_apply A _ _ _ 34 rfl i t))
theorem turn8_3 (a : Fin 64) (t : Fin 256) : z3 (turn8 A) (ix2 a t) = turned A P a 35 t :=
  (z3_apply _ _ _ _ _ P (by rw [diag_eq]; exact hB) a t).trans (Finset.sum_congr rfl fun i _ => congrArg (P a i * ·) (column_apply A _ _ _ 35 rfl i t))
theorem turn9_0 (a : Fin 64) (t : Fin 256) : z0 (turn9 A) (ix2 a t) = turned A P a 36 t :=
  (z0_apply _ _ _ _ _ P (by rw [diag_eq]; exact hB) a t).trans (Finset.sum_congr rfl fun i _ => congrArg (P a i * ·) (column_apply A _ _ _ 36 rfl i t))
theorem turn9_1 (a : Fin 64) (t : Fin 256) : z1 (turn9 A) (ix2 a t) = turned A P a 37 t :=
  (z1_apply _ _ _ _ _ P (by rw [diag_eq]; exact hB) a t).trans (Finset.sum_congr rfl fun i _ => congrArg (P a i * ·) (column_apply A _ _ _ 37 rfl i t))
theorem turn9_2 (a : Fin 64) (t : Fin 256) : z2 (turn9 A) (ix2 a t) = turned A P a 38 t :=
  (z2_apply _ _ _ _ _ P (by rw [diag_eq]; exact hB) a t).trans (Finset.sum_congr rfl fun i _ => congrArg (P a i * ·) (column_apply A _ _ _ 38 rfl i t))
theorem turn9_3 (a : Fin 64) (t : Fin 256) : z3 (turn9 A) (ix2 a t) = turned A P a 39 t :=
  (z3_apply _ _ _ _ _ P (by rw [diag_eq]; exact hB) a t).trans (Finset.sum_congr rfl fun i _ => congrArg (P a i * ·) (column_apply A _ _ _ 39 rfl i t))
theorem turn10_0 (a : Fin 64) (t : Fin 256) : z0 (turn10 A) (ix2 a t) = turned A P a 40 t :=
  (z0_apply _ _ _ _ _ P (by rw [diag_eq]; exact hB) a t).trans (Finset.sum_congr rfl fun i _ => congrArg (P a i * ·) (column_apply A _ _ _ 40 rfl i t))
theorem turn10_1 (a : Fin 64) (t : Fin 256) : z1 (turn10 A) (ix2 a t) = turned A P a 41 t :=
  (z1_apply _ _ _ _ _ P (by rw [diag_eq]; exact hB) a t).trans (Finset.sum_congr rfl fun i _ => congrArg (P a i * ·) (column_apply A _ _ _ 41 rfl i t))
theorem turn10_2 (a : Fin 64) (t : Fin 256) : z2 (turn10 A) (ix2 a t) = turned A P a 42 t :=
  (z2_apply _ _ _ _ _ P (by rw [diag_eq]; exact hB) a t).trans (Finset.sum_congr rfl fun i _ => congrArg (P a i * ·) (column_apply A _ _ _ 42 rfl i t))
theorem turn10_3 (a : Fin 64) (t : Fin 256) : z3 (turn10 A) (ix2 a t) = turned A P a 43 t :=
  (z3_apply _ _ _ _ _ P (by rw [diag_eq]; exact hB) a t).trans (Finset.sum_congr rfl fun i _ => congrArg (P a i * ·) (column_apply A _ _ _ 43 rfl i t))
theorem turn11_0 (a : Fin 64) (t : Fin 256) : z0 (turn11 A) (ix2 a t) = turned A P a 44 t :=
  (z0_apply _ _ _ _ _ P (by rw [diag_eq]; exact hB) a t).trans (Finset.sum_congr rfl fun i _ => congrArg (P a i * ·) (column_apply A _ _ _ 44 rfl i t))
theorem turn11_1 (a : Fin 64) (t : Fin 256) : z1 (turn11 A) (ix2 a t) = turned A P a 45 t :=
  (z1_apply _ _ _ _ _ P (by rw [diag_eq]; exact hB) a t).trans (Finset.sum_congr rfl fun i _ => congrArg (P a i * ·) (column_apply A _ _ _ 45 rfl i t))
theorem turn11_2 (a : Fin 64) (t : Fin 256) : z2 (turn11 A) (ix2 a t) = turned A P a 46 t :=
  (z2_apply _ _ _ _ _ P (by rw [diag_eq]; exact hB) a t).trans (Finset.sum_congr rfl fun i _ => congrArg (P a i * ·) (column_apply A _ _ _ 46 rfl i t))
theorem turn11_3 (a : Fin 64) (t : Fin 256) : z3 (turn11 A) (ix2 a t) = turned A P a 47 t :=
  (z3_apply _ _ _ _ _ P (by rw [diag_eq]; exact hB) a t).trans (Finset.sum_congr rfl fun i _ => congrArg (P a i * ·) (column_apply A _ _ _ 47 rfl i t))
theorem turn12_0 (a : Fin 64) (t : Fin 256) : z0 (turn12 A) (ix2 a t) = turned A P a 48 t :=
  (z0_apply _ _ _ _ _ P (by rw [diag_eq]; exact hB) a t).trans (Finset.sum_congr rfl fun i _ => congrArg (P a i * ·) (column_apply A _ _ _ 48 rfl i t))
theorem turn12_1 (a : Fin 64) (t : Fin 256) : z1 (turn12 A) (ix2 a t) = turned A P a 49 t :=
  (z1_apply _ _ _ _ _ P (by rw [diag_eq]; exact hB) a t).trans (Finset.sum_congr rfl fun i _ => congrArg (P a i * ·) (column_apply A _ _ _ 49 rfl i t))
theorem turn12_2 (a : Fin 64) (t : Fin 256) : z2 (turn12 A) (ix2 a t) = turned A P a 50 t :=
  (z2_apply _ _ _ _ _ P (by rw [diag_eq]; exact hB) a t).trans (Finset.sum_congr rfl fun i _ => congrArg (P a i * ·) (column_apply A _ _ _ 50 rfl i t))
theorem turn12_3 (a : Fin 64) (t : Fin 256) : z3 (turn12 A) (ix2 a t) = turned A P a 51 t :=
  (z3_apply _ _ _ _ _ P (by rw [diag_eq]; exact hB) a t).trans (Finset.sum_congr rfl fun i _ => congrArg (P a i * ·) (column_apply A _ _ _ 51 rfl i t))
theorem turn13_0 (a : Fin 64) (t : Fin 256) : z0 (turn13 A) (ix2 a t) = turned A P a 52 t :=
  (z0_apply _ _ _ _ _ P (by rw [diag_eq]; exact hB) a t).trans (Finset.sum_congr rfl fun i _ => congrArg (P a i * ·) (column_apply A _ _ _ 52 rfl i t))
theorem turn13_1 (a : Fin 64) (t : Fin 256) : z1 (turn13 A) (ix2 a t) = turned A P a 53 t :=
  (z1_apply _ _ _ _ _ P (by rw [diag_eq]; exact hB) a t).trans (Finset.sum_congr rfl fun i _ => congrArg (P a i * ·) (column_apply A _ _ _ 53 rfl i t))
theorem turn13_2 (a : Fin 64) (t : Fin 256) : z2 (turn13 A) (ix2 a t) = turned A P a 54 t :=
  (z2_apply _ _ _ _ _ P (by rw [diag_eq]; exact hB) a t).trans (Finset.sum_congr rfl fun i _ => congrArg (P a i * ·) (column_apply A _ _ _ 54 rfl i t))
theorem turn13_3 (a : Fin 64) (t : Fin 256) : z3 (turn13 A) (ix2 a t) = turned A P a 55 t :=
  (z3_apply _ _ _ _ _ P (by rw [diag_eq]; exact hB) a t).trans (Finset.sum_congr rfl fun i _ => congrArg (P a i * ·) (column_apply A _ _ _ 55 rfl i t))
theorem turn14_0 (a : Fin 64) (t : Fin 256) : z0 (turn14 A) (ix2 a t) = turned A P a 56 t :=
  (z0_apply _ _ _ _ _ P (by rw [diag_eq]; exact hB) a t).trans (Finset.sum_congr rfl fun i _ => congrArg (P a i * ·) (column_apply A _ _ _ 56 rfl i t))
theorem turn14_1 (a : Fin 64) (t : Fin 256) : z1 (turn14 A) (ix2 a t) = turned A P a 57 t :=
  (z1_apply _ _ _ _ _ P (by rw [diag_eq]; exact hB) a t).trans (Finset.sum_congr rfl fun i _ => congrArg (P a i * ·) (column_apply A _ _ _ 57 rfl i t))
theorem turn14_2 (a : Fin 64) (t : Fin 256) : z2 (turn14 A) (ix2 a t) = turned A P a 58 t :=
  (z2_apply _ _ _ _ _ P (by rw [diag_eq]; exact hB) a t).trans (Finset.sum_congr rfl fun i _ => congrArg (P a i * ·) (column_apply A _ _ _ 58 rfl i t))
theorem turn14_3 (a : Fin 64) (t : Fin 256) : z3 (turn14 A) (ix2 a t) = turned A P a 59 t :=
  (z3_apply _ _ _ _ _ P (by rw [diag_eq]; exact hB) a t).trans (Finset.sum_congr rfl fun i _ => congrArg (P a i * ·) (column_apply A _ _ _ 59 rfl i t))
theorem turn15_0 (a : Fin 64) (t : Fin 256) : z0 (turn15 A) (ix2 a t) = turned A P a 60 t :=
  (z0_apply _ _ _ _ _ P (by rw [diag_eq]; exact hB) a t).trans (Finset.sum_congr rfl fun i _ => congrArg (P a i * ·) (column_apply A _ _ _ 60 rfl i t))
theorem turn15_1 (a : Fin 64) (t : Fin 256) : z1 (turn15 A) (ix2 a t) = turned A P a 61 t :=
  (z1_apply _ _ _ _ _ P (by rw [diag_eq]; exact hB) a t).trans (Finset.sum_congr rfl fun i _ => congrArg (P a i * ·) (column_apply A _ _ _ 61 rfl i t))
theorem turn15_2 (a : Fin 64) (t : Fin 256) : z2 (turn15 A) (ix2 a t) = turned A P a 62 t :=
  (z2_apply _ _ _ _ _ P (by rw [diag_eq]; exact hB) a t).trans (Finset.sum_congr rfl fun i _ => congrArg (P a i * ·) (column_apply A _ _ _ 62 rfl i t))
theorem turn15_3 (a : Fin 64) (t : Fin 256) : z3 (turn15 A) (ix2 a t) = turned A P a 63 t :=
  (z3_apply _ _ _ _ _ P (by rw [diag_eq]; exact hB) a t).trans (Finset.sum_congr rfl fun i _ => congrArg (P a i * ·) (column_apply A _ _ _ 63 rfl i t))
theorem turn16_0 (a : Fin 64) (t : Fin 256) : z0 (turn16 A) (ix2 a t) = turned A P a 64 t :=
  (z0_apply _ _ _ _ _ P (by rw [diag_eq]; exact hB) a t).trans (Finset.sum_congr rfl fun i _ => congrArg (P a i * ·) (column_apply A _ _ _ 64 rfl i t))
theorem turn16_1 (a : Fin 64) (t : Fin 256) : z1 (turn16 A) (ix2 a t) = turned A P a 65 t :=
  (z1_apply _ _ _ _ _ P (by rw [diag_eq]; exact hB) a t).trans (Finset.sum_congr rfl fun i _ => congrArg (P a i * ·) (column_apply A _ _ _ 65 rfl i t))
theorem turn16_2 (a : Fin 64) (t : Fin 256) : z2 (turn16 A) (ix2 a t) = turned A P a 66 t :=
  (z2_apply _ _ _ _ _ P (by rw [diag_eq]; exact hB) a t).trans (Finset.sum_congr rfl fun i _ => congrArg (P a i * ·) (column_apply A _ _ _ 66 rfl i t))
theorem turn16_3 (a : Fin 64) (t : Fin 256) : z3 (turn16 A) (ix2 a t) = turned A P a 67 t :=
  (z3_apply _ _ _ _ _ P (by rw [diag_eq]; exact hB) a t).trans (Finset.sum_congr rfl fun i _ => congrArg (P a i * ·) (column_apply A _ _ _ 67 rfl i t))
theorem turn17_0 (a : Fin 64) (t : Fin 256) : z0 (turn17 A) (ix2 a t) = turned A P a 68 t :=
  (z0_apply _ _ _ _ _ P (by rw [diag_eq]; exact hB) a t).trans (Finset.sum_congr rfl fun i _ => congrArg (P a i * ·) (column_apply A _ _ _ 68 rfl i t))
theorem turn17_1 (a : Fin 64) (t : Fin 256) : z1 (turn17 A) (ix2 a t) = turned A P a 69 t :=
  (z1_apply _ _ _ _ _ P (by rw [diag_eq]; exact hB) a t).trans (Finset.sum_congr rfl fun i _ => congrArg (P a i * ·) (column_apply A _ _ _ 69 rfl i t))
theorem turn17_2 (a : Fin 64) (t : Fin 256) : z2 (turn17 A) (ix2 a t) = turned A P a 70 t :=
  (z2_apply _ _ _ _ _ P (by rw [diag_eq]; exact hB) a t).trans (Finset.sum_congr rfl fun i _ => congrArg (P a i * ·) (column_apply A _ _ _ 70 rfl i t))
theorem turn17_3 (a : Fin 64) (t : Fin 256) : z3 (turn17 A) (ix2 a t) = turned A P a 71 t :=
  (z3_apply _ _ _ _ _ P (by rw [diag_eq]; exact hB) a t).trans (Finset.sum_congr rfl fun i _ => congrArg (P a i * ·) (column_apply A _ _ _ 71 rfl i t))
theorem turn18_0 (a : Fin 64) (t : Fin 256) : z0 (turn18 A) (ix2 a t) = turned A P a 72 t :=
  (z0_apply _ _ _ _ _ P (by rw [diag_eq]; exact hB) a t).trans (Finset.sum_congr rfl fun i _ => congrArg (P a i * ·) (column_apply A _ _ _ 72 rfl i t))
theorem turn18_1 (a : Fin 64) (t : Fin 256) : z1 (turn18 A) (ix2 a t) = turned A P a 73 t :=
  (z1_apply _ _ _ _ _ P (by rw [diag_eq]; exact hB) a t).trans (Finset.sum_congr rfl fun i _ => congrArg (P a i * ·) (column_apply A _ _ _ 73 rfl i t))
theorem turn18_2 (a : Fin 64) (t : Fin 256) : z2 (turn18 A) (ix2 a t) = turned A P a 74 t :=
  (z2_apply _ _ _ _ _ P (by rw [diag_eq]; exact hB) a t).trans (Finset.sum_congr rfl fun i _ => congrArg (P a i * ·) (column_apply A _ _ _ 74 rfl i t))
theorem turn18_3 (a : Fin 64) (t : Fin 256) : z3 (turn18 A) (ix2 a t) = turned A P a 75 t :=
  (z3_apply _ _ _ _ _ P (by rw [diag_eq]; exact hB) a t).trans (Finset.sum_congr rfl fun i _ => congrArg (P a i * ·) (column_apply A _ _ _ 75 rfl i t))
theorem turn19_0 (a : Fin 64) (t : Fin 256) : z0 (turn19 A) (ix2 a t) = turned A P a 76 t :=
  (z0_apply _ _ _ _ _ P (by rw [diag_eq]; exact hB) a t).trans (Finset.sum_congr rfl fun i _ => congrArg (P a i * ·) (column_apply A _ _ _ 76 rfl i t))
theorem turn19_1 (a : Fin 64) (t : Fin 256) : z1 (turn19 A) (ix2 a t) = turned A P a 77 t :=
  (z1_apply _ _ _ _ _ P (by rw [diag_eq]; exact hB) a t).trans (Finset.sum_congr rfl fun i _ => congrArg (P a i * ·) (column_apply A _ _ _ 77 rfl i t))
theorem turn19_2 (a : Fin 64) (t : Fin 256) : z2 (turn19 A) (ix2 a t) = turned A P a 78 t :=
  (z2_apply _ _ _ _ _ P (by rw [diag_eq]; exact hB) a t).trans (Finset.sum_congr rfl fun i _ => congrArg (P a i * ·) (column_apply A _ _ _ 78 rfl i t))
theorem turn19_3 (a : Fin 64) (t : Fin 256) : z3 (turn19 A) (ix2 a t) = turned A P a 79 t :=
  (z3_apply _ _ _ _ _ P (by rw [diag_eq]; exact hB) a t).trans (Finset.sum_congr rfl fun i _ => congrArg (P a i * ·) (column_apply A _ _ _ 79 rfl i t))

omit hB in
theorem half0_turned (Z : FVec Ideal S64x256 .f32) (k : Fin 80) (h : ∀ a t, Z (ix2 a t) = turned A P a k t) (x : S1x64x128.Idx) :
    half0 Z x = turned A P (x 1) k ⟨128 * 0 + (x 2).val, by have : (x 2).val < 128 := (x 2).isLt; omega⟩ := by
  idx_vars x
  have e0 : x0 = 0 := Subsingleton.elim _ _
  rw [e0, half0_apply, h]
omit hB in
theorem half1_turned (Z : FVec Ideal S64x256 .f32) (k : Fin 80) (h : ∀ a t, Z (ix2 a t) = turned A P a k t) (x : S1x64x128.Idx) :
    half1 Z x = turned A P (x 1) k ⟨128 * 1 + (x 2).val, by have : (x 2).val < 128 := (x 2).isLt; omega⟩ := by
  idx_vars x
  have e0 : x0 = 0 := Subsingleton.elim _ _
  rw [e0, half1_apply, h]

omit hB in
theorem rows_fit : 80 ≤ 84 := by omega

/-- What stands in the table plane at half `p`, column `k`, row `a`, token `l` of the half. -/
def entry (p : Fin 2) (k : Fin 80) (a : Fin 64) (l : Fin 128) : EReal := turned A P a k ⟨128 * p.val + l.val, by omega⟩

/-- A store of one column of one half that holds what is meant to stand there. -/
def Column (pc : View.Piece (Elt Ideal) S2x5376x128 .f32) : Prop :=
  ∃ (p : Fin 2) (k : Fin 80) (w : (StridedRows.Row 64 128).Idx → EReal), pc = ⟨StridedRows.rowRect (C := 2) (N := 64) (L := 128) rows_fit p k, w⟩ ∧ ∀ x, w x = entry A P p k (x 1) (x 2)

theorem columns_HS2_27 : ∀ pc ∈ kernelRun0_A.sl.HS2_27 (F := Ideal) A.c A.arg1 A.harg1 A.arg2 A.harg2 A.arg3 A.harg3 A.arg4 A.harg4 A.arg11 A.arg12 A.x0 A.x1 A.x2 A.x3, Column A P pc := by
  unfold kernelRun0_A.sl.HS2_27
  refine List.forall_mem_cons.2 ⟨⟨0, 13, half0 (z1 (turn3 A)), rfl, half0_turned A P _ 13 (turn3_1 A P hB)⟩, ?_⟩
  refine List.forall_mem_cons.2 ⟨⟨1, 12, half1 (z0 (turn3 A)), rfl, half1_turned A P _ 12 (turn3_0 A P hB)⟩, ?_⟩
  refine List.forall_mem_cons.2 ⟨⟨0, 12, half0 (z0 (turn3 A)), rfl, half0_turned A P _ 12 (turn3_0 A P hB)⟩, ?_⟩
  refine List.forall_mem_cons.2 ⟨⟨1, 11, half1 (z3 (turn2 A)), rfl, half1_turned A P _ 11 (turn2_3 A P hB)⟩, ?_⟩
  refine List.forall_mem_cons.2 ⟨⟨0, 11, half0 (z3 (turn2 A)), rfl, half0_turned A P _ 11 (turn2_3 A P hB)⟩, ?_⟩
  refine List.forall_mem_cons.2 ⟨⟨1, 10, half1 (z2 (turn2 A)), rfl, half1_turned A P _ 10 (turn2_2 A P hB)⟩, ?_⟩
  refine List.forall_mem_cons.2 ⟨⟨0, 10, half0 (z2 (turn2 A)), rfl, half0_turned A P _ 10 (turn2_2 A P hB)⟩, ?_⟩
  refine List.forall_mem_cons.2 ⟨⟨1, 9, half1 (z1 (turn2 A)), rfl, half1_turned A P _ 9 (turn2_1 A P hB)⟩, ?_⟩
  refine List.forall_mem_cons.2 ⟨⟨0, 9, half0 (z1 (turn2 A)), rfl, half0_turned A P _ 9 (turn2_1 A P hB)⟩, ?_⟩
  refine List.forall_mem_cons.2 ⟨⟨1, 8, half1 (z0 (turn2 A)), rfl, half1_turned A P _ 8 (turn2_0 A P hB)⟩, ?_⟩
  refine List.forall_mem_cons.2 ⟨⟨0, 8, half0 (z0 (turn2 A)), rfl, half0_turned A P _ 8 (turn2_0 A P hB)⟩, ?_⟩
  refine List.forall_mem_cons.2 ⟨⟨1, 7, half1 (z3 (turn1 A)), rfl, half1_turned A P _ 7 (turn1_3 A P hB)⟩, ?_⟩
  refine List.forall_mem_cons.2 ⟨⟨0, 7, half0 (z3 (turn1 A)), rfl, half0_turned A P _ 7 (turn1_3 A P hB)⟩, ?_⟩
  refine List.forall_mem_cons.2 ⟨⟨1, 6, half1 (z2 (turn1 A)), rfl, half1_turned A P _ 6 (turn1_2 A P hB)⟩, ?_⟩
  refine List.forall_mem_cons.2 ⟨⟨0, 6, half0 (z2 (turn1 A)), rfl, half0_turned A P _ 6 (turn1_2 A P hB)⟩, ?_⟩
  refine List.forall_mem_cons.2 ⟨⟨1, 5, half1 (z1 (turn1 A)), rfl, half1_turned A P _ 5 (turn1_1 A P hB)⟩, ?_⟩
  refine List.forall_mem_cons.2 ⟨⟨0, 5, half0 (z1 (turn1 A)), rfl, half0_turned A P _ 5 (turn1_1 A P hB)⟩, ?_⟩
  refine List.forall_mem_cons.2 ⟨⟨1, 4, half1 (z0 (turn1 A)), rfl, half1_turned A P _ 4 (turn1_0 A P hB)⟩, ?_⟩
  refine List.forall_mem_cons.2 ⟨⟨0, 4, half0 (z0 (turn1 A)), rfl, half0_turned A P _ 4 (turn1_0 A P hB)⟩, ?_⟩
  refine List.forall_mem_cons.2 ⟨⟨1, 3, half1 (z3 (turn0 A)), rfl, half1_turned A P _ 3 (turn0_3 A P hB)⟩, ?_⟩
  refine List.forall_mem_cons.2 ⟨⟨0, 3, half0 (z3 (turn0 A)), rfl, half0_turned A P _ 3 (turn0_3 A P hB)⟩, ?_⟩
  refine List.forall_mem_cons.2 ⟨⟨1, 2, half1 (z2 (turn0 A)), rfl, half1_turned A P _ 2 (turn0_2 A P hB)⟩, ?_⟩
  refine List.forall_mem_cons.2 ⟨⟨0, 2, half0 (z2 (turn0 A)), rfl, half0_turned A P _ 2 (turn0_2 A P hB)⟩, ?_⟩
  refine List.forall_mem_cons.2 ⟨⟨1, 1, half1 (z1 (turn0 A)), rfl, half1_turned A P _ 1 (turn0_1 A P hB)⟩, ?_⟩
  refine List.forall_mem_cons.2 ⟨⟨0, 1, half0 (z1 (turn0 A)), rfl, half0_turned A P _ 1 (turn0_1 A P hB)⟩, ?_⟩
  refine List.forall_mem_cons.2 ⟨⟨1, 0, half1 (z0 (turn0 A)), rfl, half1_turned A P _ 0 (turn0_0 A P hB)⟩, ?_⟩
  refine List.forall_mem_cons.2 ⟨⟨0, 0, half0 (z0 (turn0 A)), rfl, half0_turned A P _ 0 (turn0_0 A P hB)⟩, ?_⟩
  exact List.forall_mem_nil _
theorem columns_HS2_86 : ∀ pc ∈ kernelRun0_A.sl.HS2_86 (F := Ideal) A.c A.arg1 A.harg1 A.arg2 A.harg2 A.arg3 A.harg3 A.arg4 A.harg4 A.arg11 A.arg12 A.x0 A.x1 A.x2 A.x3, Column A P pc := by
  unfold kernelRun0_A.sl.HS2_86
  refine List.forall_mem_cons.2 ⟨⟨1, 42, half1 (z2 (turn10 A)), rfl, half1_turned A P _ 42 (turn10_2 A P hB)⟩, ?_⟩
  refine List.forall_mem_cons.2 ⟨⟨0, 42, half0 (z2 (turn10 A)), rfl, half0_turned A P _ 42 (turn10_2 A P hB)⟩, ?_⟩
  refine List.forall_mem_cons.2 ⟨⟨1, 41, half1 (z1 (turn10 A)), rfl, half1_turned A P _ 41 (turn10_1 A P hB)⟩, ?_⟩
  refine List.forall_mem_cons.2 ⟨⟨0, 41, half0 (z1 (turn10 A)), rfl, half0_turned A P _ 41 (turn10_1 A P hB)⟩, ?_⟩
  refine List.forall_mem_cons.2 ⟨⟨1, 40, half1 (z0 (turn10 A)), rfl, half1_turned A P _ 40 (turn10_0 A P hB)⟩, ?_⟩
  refine List.forall_mem_cons.2 ⟨⟨0, 40, half0 (z0 (turn10 A)), rfl, half0_turned A P _ 40 (turn10_0 A P hB)⟩, ?_⟩
  refine List.forall_mem_cons.2 ⟨⟨1, 39, half1 (z3 (turn9 A)), rfl, half1_turned A P _ 39 (turn9_3 A P hB)⟩, ?_⟩
  refine List.forall_mem_cons.2 ⟨⟨0, 39, half0 (z3 (turn9 A)), rfl, half0_turned A P _ 39 (turn9_3 A P hB)⟩, ?_⟩
  refine List.forall_mem_cons.2 ⟨⟨1, 38, half1 (z2 (turn9 A)), rfl, half1_turned A P _ 38 (turn9_2 A P hB)⟩, ?_⟩
  refine List.forall_mem_cons.2 ⟨⟨0, 38, half0 (z2 (turn9 A)), rfl, half0_turned A P _ 38 (turn9_2 A P hB)⟩, ?_⟩
  refine List.forall_mem_cons.2 ⟨⟨1, 37, half1 (z1 (turn9 A)), rfl, half1_turned A P _ 37 (turn9_1 A P hB)⟩, ?_⟩
  refine List.forall_mem_cons.2 ⟨⟨0, 37, half0 (z1 (turn9 A)), rfl, half0_turned A P _ 37 (turn9_1 A P hB)⟩, ?_⟩
  refine List.forall_mem_cons.2 ⟨⟨1, 36, half1 (z0 (turn9 A)), rfl, half1_turned A P _ 36 (turn9_0 A P hB)⟩, ?_⟩
  refine List.forall_mem_cons.2 ⟨⟨0, 36, half0 (z0 (turn9 A)), rfl, half0_turned A P _ 36 (turn9_0 A P hB)⟩, ?_⟩
  refine List.forall_mem_cons.2 ⟨⟨1, 35, half1 (z3 (turn8 A)), rfl, half1_turned A P _ 35 (turn8_3 A P hB)⟩, ?_⟩
  refine List.forall_mem_cons.2 ⟨⟨0, 35, half0 (z3 (turn8 A)), rfl, half0_turned A P _ 35 (turn8_3 A P hB)⟩, ?_⟩
  refine List.forall_mem_cons.2 ⟨⟨1, 34, half1 (z2 (turn8 A)), rfl, half1_turned A P _ 34 (turn8_2 A P hB)⟩, ?_⟩
  refine List.forall_mem_cons.2 ⟨⟨0, 34, half0 (z2 (turn8 A)), rfl, half0_turned A P _ 34 (turn8_2 A P hB)⟩, ?_⟩
  refine List.forall_mem_cons.2 ⟨⟨1, 33, half1 (z1 (turn8 A)), rfl, half1_turned A P _ 33 (turn8_1 A P hB)⟩, ?_⟩
  refine List.forall_mem_cons.2 ⟨⟨0, 33, half0 (z1 (turn8 A)), rfl, half0_turned A P _ 33 (turn8_1 A P hB)⟩, ?_⟩
  refine List.forall_mem_cons.2 ⟨⟨1, 32, half1 (z0 (turn8 A)), rfl, half1_turned A P _ 32 (turn8_0 A P hB)⟩, ?_⟩
  refine List.forall_mem_cons.2 ⟨⟨0, 32, half0 (z0 (turn8 A)), rfl, half0_turned A P _ 32 (turn8_0 A P hB)⟩, ?_⟩
  refine List.forall_mem_cons.2 ⟨⟨1, 31, half1 (z3 (turn7 A)), rfl, half1_turned A P _ 31 (turn7_3 A P hB)⟩, ?_⟩
  refine List.forall_mem_cons.2 ⟨⟨0, 31, half0 (z3 (turn7 A)), rfl, half0_turned A P _ 31 (turn7_3 A P hB)⟩, ?_⟩
  refine List.forall_mem_cons.2 ⟨⟨1, 30, half1 (z2 (turn7 A)), rfl, half1_turned A P _ 30 (turn7_2 A P hB)⟩, ?_⟩
  refine List.forall_mem_cons.2 ⟨⟨0, 30, half0 (z2 (turn7 A)), rfl, half0_turned A P _ 30 (turn7_2 A P hB)⟩, ?_⟩
  refine List.forall_mem_cons.2 ⟨⟨1, 29, half1 (z1 (turn7 A)), rfl, half1_turned A P _ 29 (turn7_1 A P hB)⟩, ?_⟩
  refine List.forall_mem_cons.2 ⟨⟨0, 29, half0 (z1 (turn7 A)), rfl, half0_turned A P _ 29 (turn7_1 A P hB)⟩, ?_⟩
  refine List.forall_mem_cons.2 ⟨⟨1, 28, half1 (z0 (turn7 A)), rfl, half1_turned A P _ 28 (turn7_0 A P hB)⟩, ?_⟩
  refine List.forall_mem_cons.2 ⟨⟨0, 28, half0 (z0 (turn7 A)), rfl, half0_turned A P _ 28 (turn7_0 A P hB)⟩, ?_⟩
  refine List.forall_mem_cons.2 ⟨⟨1, 27, half1 (z3 (turn6 A)), rfl, half1_turned A P _ 27 (turn6_3 A P hB)⟩, ?_⟩
  refine List.forall_mem_cons.2 ⟨⟨0, 27, half0 (z3 (turn6 A)), rfl, half0_turned A P _ 27 (turn6_3 A P hB)⟩, ?_⟩
  refine List.forall_mem_cons.2 ⟨⟨1, 26, half1 (z2 (turn6 A)), rfl, half1_turned A P _ 26 (turn6_2 A P hB)⟩, ?_⟩
  refine List.forall_mem_cons.2 ⟨⟨0, 26, half0 (z2 (turn6 A)), rfl, half0_turned A P _ 26 (turn6_2 A P hB)⟩, ?_⟩
  refine List.forall_mem_cons.2 ⟨⟨1, 25, half1 (z1 (turn6 A)), rfl, half1_turned A P _ 25 (turn6_1 A P hB)⟩, ?_⟩
  refine List.forall_mem_cons.2 ⟨⟨0, 25, half0 (z1 (turn6 A)), rfl, half0_turned A P _ 25 (turn6_1 A P hB)⟩, ?_⟩
  refine List.forall_mem_cons.2 ⟨⟨1, 24, half1 (z0 (turn6 A)), rfl, half1_turned A P _ 24 (turn6_0 A P hB)⟩, ?_⟩
  refine List.forall_mem_cons.2 ⟨⟨0, 24, half0 (z0 (turn6 A)), rfl, half0_turned A P _ 24 (turn6_0 A P hB)⟩, ?_⟩
  refine List.forall_mem_cons.2 ⟨⟨1, 23, half1 (z3 (turn5 A)), rfl, half1_turned A P _ 23 (turn5_3 A P hB)⟩, ?_⟩
  refine List.forall_mem_cons.2 ⟨⟨0, 23, half0 (z3 (turn5 A)), rfl, half0_turned A P _ 23 (turn5_3 A P hB)⟩, ?_⟩
  refine List.forall_mem_cons.2 ⟨⟨1, 22, half1 (z2 (turn5 A)), rfl, half1_turned A P _ 22 (turn5_2 A P hB)⟩, ?_⟩
  refine List.forall_mem_cons.2 ⟨⟨0, 22, half0 (z2 (turn5 A)), rfl, half0_turned A P _ 22 (turn5_2 A P hB)⟩, ?_⟩
  refine List.forall_mem_cons.2 ⟨⟨1, 21, half1 (z1 (turn5 A)), rfl, half1_turned A P _ 21 (turn5_1 A P hB)⟩, ?_⟩
  refine List.forall_mem_cons.2 ⟨⟨0, 21, half0 (z1 (turn5 A)), rfl, half0_turned A P _ 21 (turn5_1 A P hB)⟩, ?_⟩
  refine List.forall_mem_cons.2 ⟨⟨1, 20, half1 (z0 (turn5 A)), rfl, half1_turned A P _ 20 (turn5_0 A P hB)⟩, ?_⟩
  refine List.forall_mem_cons.2 ⟨⟨0, 20, half0 (z0 (turn5 A)), rfl, half0_turned A P _ 20 (turn5_0 A P hB)⟩, ?_⟩
  refine List.forall_mem_cons.2 ⟨⟨1, 19, half1 (z3 (turn4 A)), rfl, half1_turned A P _ 19 (turn4_3 A P hB)⟩, ?_⟩
  refine List.forall_mem_cons.2 ⟨⟨0, 19, half0 (z3 (turn4 A)), rfl, half0_turned A P _ 19 (turn4_3 A P hB)⟩, ?_⟩
  refine List.forall_mem_cons.2 ⟨⟨1, 18, half1 (z2 (turn4 A)), rfl, half1_turned A P _ 18 (turn4_2 A P hB)⟩, ?_⟩
  refine List.forall_mem_cons.2 ⟨⟨0, 18, half0 (z2 (turn4 A)), rfl, half0_turned A P _ 18 (turn4_2 A P hB)⟩, ?_⟩
  refine List.forall_mem_cons.2 ⟨⟨1, 17, half1 (z1 (turn4 A)), rfl, half1_turned A P _ 17 (turn4_1 A P hB)⟩, ?_⟩
  refine List.forall_mem_cons.2 ⟨⟨0, 17, half0 (z1 (turn4 A)), rfl, half0_turned A P _ 17 (turn4_1 A P hB)⟩, ?_⟩
  refine List.forall_mem_cons.2 ⟨⟨1, 16, half1 (z0 (turn4 A)), rfl, half1_turned A P _ 16 (turn4_0 A P hB)⟩, ?_⟩
  refine List.forall_mem_cons.2 ⟨⟨0, 16, half0 (z0 (turn4 A)), rfl, half0_turned A P _ 16 (turn4_0 A P hB)⟩, ?_⟩
  refine List.forall_mem_cons.2 ⟨⟨1, 15, half1 (z3 (turn3 A)), rfl, half1_turned A P _ 15 (turn3_3 A P hB)⟩, ?_⟩
  refine List.forall_mem_cons.2 ⟨⟨0, 15, half0 (z3 (turn3 A)), rfl, half0_turned A P _ 15 (turn3_3 A P hB)⟩, ?_⟩
  refine List.forall_mem_cons.2 ⟨⟨1, 14, half1 (z2 (turn3 A)), rfl, half1_turned A P _ 14 (turn3_2 A P hB)⟩, ?_⟩
  refine List.forall_mem_cons.2 ⟨⟨0, 14, half0 (z2 (turn3 A)), rfl, half0_turned A P _ 14 (turn3_2 A P hB)⟩, ?_⟩
  refine List.forall_mem_cons.2 ⟨⟨1, 13, half1 (z1 (turn3 A)), rfl, half1_turned A P _ 13 (turn3_1 A P hB)⟩, ?_⟩
  exact columns_HS2_27 A P hB
theorem columns_HS2_87 : ∀ pc ∈ kernelRun0_A.sl.HS2_87 (F := Ideal) A.c A.arg1 A.harg1 A.arg2 A.harg2 A.arg3 A.harg3 A.arg4 A.harg4 A.arg11 A.arg12 A.x0 A.x1 A.x2 A.x3, Column A P pc := by
  unfold kernelRun0_A.sl.HS2_87
  refine List.forall_mem_cons.2 ⟨⟨0, 43, half0 (z3 (turn10 A)), rfl, half0_turned A P _ 43 (turn10_3 A P hB)⟩, ?_⟩
  exact columns_HS2_86 A P hB
theorem columns_HS2_110 : ∀ pc ∈ kernelRun0_A.sl.HS2_110 (F := Ideal) A.c A.arg1 A.harg1 A.arg2 A.harg2 A.arg3 A.harg3 A.arg4 A.harg4 A.arg11 A.arg12 A.x0 A.x1 A.x2 A.x3, Column A P pc := by
  unfold kernelRun0_A.sl.HS2_110
  refine List.forall_mem_cons.2 ⟨⟨1, 54, half1 (z2 (turn13 A)), rfl, half1_turned A P _ 54 (turn13_2 A P hB)⟩, ?_⟩
  refine List.forall_mem_cons.2 ⟨⟨0, 54, half0 (z2 (turn13 A)), rfl, half0_turned A P _ 54 (turn13_2 A P hB)⟩, ?_⟩
  refine List.forall_mem_cons.2 ⟨⟨1, 53, half1 (z1 (turn13 A)), rfl, half1_turned A P _ 53 (turn13_1 A P hB)⟩, ?_⟩
  refine List.forall_mem_cons.2 ⟨⟨0, 53, half0 (z1 (turn13 A)), rfl, half0_turned A P _ 53 (turn13_1 A P hB)⟩, ?_⟩
  refine List.forall_mem_cons.2 ⟨⟨1, 52, half1 (z0 (turn13 A)), rfl, half1_turned A P _ 52 (turn13_0 A P hB)⟩, ?_⟩
  refine List.forall_mem_cons.2 ⟨⟨0, 52, half0 (z0 (turn13 A)), rfl, half0_turned A P _ 52 (turn13_0 A P hB)⟩, ?_⟩
  refine List.forall_mem_cons.2 ⟨⟨1, 51, half1 (z3 (turn12 A)), rfl, half1_turned A P _ 51 (turn12_3 A P hB)⟩, ?_⟩
  refine List.forall_mem_cons.2 ⟨⟨0, 51, half0 (z3 (turn12 A)), rfl, half0_turned A P _ 51 (turn12_3 A P hB)⟩, ?_⟩
  refine List.forall_mem_cons.2 ⟨⟨1, 50, half1 (z2 (turn12 A)), rfl, half1_turned A P _ 50 (turn12_2 A P hB)⟩, ?_⟩
  refine List.forall_mem_cons.2 ⟨⟨0, 50, half0 (z2 (turn12 A)), rfl, half0_turned A P _ 50 (turn12_2 A P hB)⟩, ?_⟩
  refine List.forall_mem_cons.2 ⟨⟨1, 49, half1 (z1 (turn12 A)), rfl, half1_turned A P _ 49 (turn12_1 A P hB)⟩, ?_⟩
  refine List.forall_mem_cons.2 ⟨⟨0, 49, half0 (z1 (turn12 A)), rfl, half0_turned A P _ 49 (turn12_1 A P hB)⟩, ?_⟩
  refine List.forall_mem_cons.2 ⟨⟨1, 48, half1 (z0 (turn12 A)), rfl, half1_turned A P _ 48 (turn12_0 A P hB)⟩, ?_⟩
  refine List.forall_mem_cons.2 ⟨⟨0, 48, half0 (z0 (turn12 A)), rfl, half0_turned A P _ 48 (turn12_0 A P hB)⟩, ?_⟩
  refine List.forall_mem_cons.2 ⟨⟨1, 47, half1 (z3 (turn11 A)), rfl, half1_turned A P _ 47 (turn11_3 A P hB)⟩, ?_⟩
  refine List.forall_mem_cons.2 ⟨⟨0, 47, half0 (z3 (turn11 A)), rfl, half0_turned A P _ 47 (turn11_3 A P hB)⟩, ?_⟩
  refine List.forall_mem_cons.2 ⟨⟨1, 46, half1 (z2 (turn11 A)), rfl, half1_turned A P _ 46 (turn11_2 A P hB)⟩, ?_⟩
  refine List.forall_mem_cons.2 ⟨⟨0, 46, half0 (z2 (turn11 A)), rfl, half0_turned A P _ 46 (turn11_2 A P hB)⟩, ?_⟩
  refine List.forall_mem_cons.2 ⟨⟨1, 45, half1 (z1 (turn11 A)), rfl, half1_turned A P _ 45 (turn11_1 A P hB)⟩, ?_⟩
  refine List.forall_mem_cons.2 ⟨⟨0, 45, half0 (z1 (turn11 A)), rfl, half0_turned A P _ 45 (turn11_1 A P hB)⟩, ?_⟩
  refine List.forall_mem_cons.2 ⟨⟨1, 44, half1 (z0 (turn11 A)), rfl, half1_turned A P _ 44 (turn11_0 A P hB)⟩, ?_⟩
  refine List.forall_mem_cons.2 ⟨⟨0, 44, half0 (z0 (turn11 A)), rfl, half0_turned A P _ 44 (turn11_0 A P hB)⟩, ?_⟩
  refine List.forall_mem_cons.2 ⟨⟨1, 43, half1 (z3 (turn10 A)), rfl, half1_turned A P _ 43 (turn10_3 A P hB)⟩, ?_⟩
  exact columns_HS2_87 A P hB
theorem columns_HS2_111 : ∀ pc ∈ kernelRun0_A.sl.HS2_111 (F := Ideal) A.c A.arg1 A.harg1 A.arg2 A.harg2 A.arg3 A.harg3 A.arg4 A.harg4 A.arg11 A.arg12 A.x0 A.x1 A.x2 A.x3, Column A P pc := by
  unfold kernelRun0_A.sl.HS2_111
  refine List.forall_mem_cons.2 ⟨⟨0, 55, half0 (z3 (turn13 A)), rfl, half0_turned A P _ 55 (turn13_3 A P hB)⟩, ?_⟩
  exact columns_HS2_110 A P hB
theorem columns_HS2_128 : ∀ pc ∈ kernelRun0_A.sl.HS2_128 (F := Ideal) A.c A.arg1 A.harg1 A.arg2 A.harg2 A.arg3 A.harg3 A.arg4 A.harg4 A.arg11 A.arg12 A.x0 A.x1 A.x2 A.x3, Column A P pc := by
  unfold kernelRun0_A.sl.HS2_128
  refine List.forall_mem_cons.2 ⟨⟨1, 63, half1 (z3 (turn15 A)), rfl, half1_turned A P _ 63 (turn15_3 A P hB)⟩, ?_⟩
  refine List.forall_mem_cons.2 ⟨⟨0, 63, half0 (z3 (turn15 A)), rfl, half0_turned A P _ 63 (turn15_3 A P hB)⟩, ?_⟩
  refine List.forall_mem_cons.2 ⟨⟨1, 62, half1 (z2 (turn15 A)), rfl, half1_turned A P _ 62 (turn15_2 A P hB)⟩, ?_⟩
  refine List.forall_mem_cons.2 ⟨⟨0, 62, half0 (z2 (turn15 A)), rfl, half0_turned A P _ 62 (turn15_2 A P hB)⟩, ?_⟩
  refine List.forall_mem_cons.2 ⟨⟨1, 61, half1 (z1 (turn15 A)), rfl, half1_turned A P _ 61 (turn15_1 A P hB)⟩, ?_⟩
  refine List.forall_mem_cons.2 ⟨⟨0, 61, half0 (z1 (turn15 A)), rfl, half0_turned A P _ 61 (turn15_1 A P hB)⟩, ?_⟩
  refine List.forall_mem_cons.2 ⟨⟨1, 60, half1 (z0 (turn15 A)), rfl, half1_turned A P _ 60 (turn15_0 A P hB)⟩, ?_⟩
  refine List.forall_mem_cons.2 ⟨⟨0, 60, half0 (z0 (turn15 A)), rfl, half0_turned A P _ 60 (turn15_0 A P hB)⟩, ?_⟩
  refine List.forall_mem_cons.2 ⟨⟨1, 59, half1 (z3 (turn14 A)), rfl, half1_turned A P _ 59 (turn14_3 A P hB)⟩, ?_⟩
  refine List.forall_mem_cons.2 ⟨⟨0, 59, half0 (z3 (turn14 A)), rfl, half0_turned A P _ 59 (turn14_3 A P hB)⟩, ?_⟩
  refine List.forall_mem_cons.2 ⟨⟨1, 58, half1 (z2 (turn14 A)), rfl, half1_turned A P _ 58 (turn14_2 A P hB)⟩, ?_⟩
  refine List.forall_mem_cons.2 ⟨⟨0, 58, half0 (z2 (turn14 A)), rfl, half0_turned A P _ 58 (turn14_2 A P hB)⟩, ?_⟩
  refine List.forall_mem_cons.2 ⟨⟨1, 57, half1 (z1 (turn14 A)), rfl, half1_turned A P _ 57 (turn14_1 A P hB)⟩, ?_⟩
  refine List.forall_mem_cons.2 ⟨⟨0, 57, half0 (z1 (turn14 A)), rfl, half0_turned A P _ 57 (turn14_1 A P hB)⟩, ?_⟩
  refine List.forall_mem_cons.2 ⟨⟨1, 56, half1 (z0 (turn14 A)), rfl, half1_turned A P _ 56 (turn14_0 A P hB)⟩, ?_⟩
  refine List.forall_mem_cons.2 ⟨⟨0, 56, half0 (z0 (turn14 A)), rfl, half0_turned A P _ 56 (turn14_0 A P hB)⟩, ?_⟩
  refine List.forall_mem_cons.2 ⟨⟨1, 55, half1 (z3 (turn13 A)), rfl, half1_turned A P _ 55 (turn13_3 A P hB)⟩, ?_⟩
  exact columns_HS2_111 A P hB
theorem columns_HS2_135 : ∀ pc ∈ kernelRun0_A.sl.HS2_135 (F := Ideal) A.c A.arg1 A.harg1 A.arg2 A.harg2 A.arg3 A.harg3 A.arg4 A.harg4 A.arg11 A.arg12 A.x0 A.x1 A.x2 A.x3, Column A P pc := by
  unfold kernelRun0_A.sl.HS2_135
  refine List.forall_mem_cons.2 ⟨⟨0, 67, half0 (z3 (turn16 A)), rfl, half0_turned A P _ 67 (turn16_3 A P hB)⟩, ?_⟩
  refine List.forall_mem_cons.2 ⟨⟨1, 66, half1 (z2 (turn16 A)), rfl, half1_turned A P _ 66 (turn16_2 A P hB)⟩, ?_⟩
  refine List.forall_mem_cons.2 ⟨⟨0, 66, half0 (z2 (turn16 A)), rfl, half0_turned A P _ 66 (turn16_2 A P hB)⟩, ?_⟩
  refine List.forall_mem_cons.2 ⟨⟨1, 65, half1 (z1 (turn16 A)), rfl, half1_turned A P _ 65 (turn16_1 A P hB)⟩, ?_⟩
  refine List.forall_mem_cons.2 ⟨⟨0, 65, half0 (z1 (turn16 A)), rfl, half0_turned A P _ 65 (turn16_1 A P hB)⟩, ?_⟩
  refine List.forall_mem_cons.2 ⟨⟨1, 64, half1 (z0 (turn16 A)), rfl, half1_turned A P _ 64 (turn16_0 A P hB)⟩, ?_⟩
  refine List.forall_mem_cons.2 ⟨⟨0, 64, half0 (z0 (turn16 A)), rfl, half0_turned A P _ 64 (turn16_0 A P hB)⟩, ?_⟩
  exact columns_HS2_128 A P hB
theorem columns_HS2_160 : ∀ pc ∈ kernelRun0_A.sl.HS2_160 (F := Ideal) A.c A.arg1 A.harg1 A.arg2 A.harg2 A.arg3 A.harg3 A.arg4 A.harg4 A.arg11 A.arg12 A.x0 A.x1 A.x2 A.x3, Column A P pc := by
  unfold kernelRun0_A.sl.HS2_160
  refine List.forall_mem_cons.2 ⟨⟨1, 79, half1 (z3 (turn19 A)), rfl, half1_turned A P _ 79 (turn19_3 A P hB)⟩, ?_⟩
  refine List.forall_mem_cons.2 ⟨⟨0, 79, half0 (z3 (turn19 A)), rfl, half0_turned A P _ 79 (turn19_3 A P hB)⟩, ?_⟩
  refine List.forall_mem_cons.2 ⟨⟨1, 78, half1 (z2 (turn19 A)), rfl, half1_turned A P _ 78 (turn19_2 A P hB)⟩, ?_⟩
  refine List.forall_mem_cons.2 ⟨⟨0, 78, half0 (z2 (turn19 A)), rfl, half0_turned A P _ 78 (turn19_2 A P hB)⟩, ?_⟩
  refine List.forall_mem_cons.2 ⟨⟨1, 77, half1 (z1 (turn19 A)), rfl, half1_turned A P _ 77 (turn19_1 A P hB)⟩, ?_⟩
  refine List.forall_mem_cons.2 ⟨⟨0, 77, half0 (z1 (turn19 A)), rfl, half0_turned A P _ 77 (turn19_1 A P hB)⟩, ?_⟩
  refine List.forall_mem_cons.2 ⟨⟨1, 76, half1 (z0 (turn19 A)), rfl, half1_turned A P _ 76 (turn19_0 A P hB)⟩, ?_⟩
  refine List.forall_mem_cons.2 ⟨⟨0, 76, half0 (z0 (turn19 A)), rfl, half0_turned A P _ 76 (turn19_0 A P hB)⟩, ?_⟩
  refine List.forall_mem_cons.2 ⟨⟨1, 75, half1 (z3 (turn18 A)), rfl, half1_turned A P _ 75 (turn18_3 A P hB)⟩, ?_⟩
  refine List.forall_mem_cons.2 ⟨⟨0, 75, half0 (z3 (turn18 A)), rfl, half0_turned A P _ 75 (turn18_3 A P hB)⟩, ?_⟩
  refine List.forall_mem_cons.2 ⟨⟨1, 74, half1 (z2 (turn18 A)), rfl, half1_turned A P _ 74 (turn18_2 A P hB)⟩, ?_⟩
  refine List.forall_mem_cons.2 ⟨⟨0, 74, half0 (z2 (turn18 A)), rfl, half0_turned A P _ 74 (turn18_2 A P hB)⟩, ?_⟩
  refine List.forall_mem_cons.2 ⟨⟨1, 73, half1 (z1 (turn18 A)), rfl, half1_turned A P _ 73 (turn18_1 A P hB)⟩, ?_⟩
  refine List.forall_mem_cons.2 ⟨⟨0, 73, half0 (z1 (turn18 A)), rfl, half0_turned A P _ 73 (turn18_1 A P hB)⟩, ?_⟩
  refine List.forall_mem_cons.2 ⟨⟨1, 72, half1 (z0 (turn18 A)), rfl, half1_turned A P _ 72 (turn18_0 A P hB)⟩, ?_⟩
  refine List.forall_mem_cons.2 ⟨⟨0, 72, half0 (z0 (turn18 A)), rfl, half0_turned A P _ 72 (turn18_0 A P hB)⟩, ?_⟩
  refine List.forall_mem_cons.2 ⟨⟨1, 71, half1 (z3 (turn17 A)), rfl, half1_turned A P _ 71 (turn17_3 A P hB)⟩, ?_⟩
  refine List.forall_mem_cons.2 ⟨⟨0, 71, half0 (z3 (turn17 A)), rfl, half0_turned A P _ 71 (turn17_3 A P hB)⟩, ?_⟩
  refine List.forall_mem_cons.2 ⟨⟨1, 70, half1 (z2 (turn17 A)), rfl, half1_turned A P _ 70 (turn17_2 A P hB)⟩, ?_⟩
  refine List.forall_mem_cons.2 ⟨⟨0, 70, half0 (z2 (turn17 A)), rfl, half0_turned A P _ 70 (turn17_2 A P hB)⟩, ?_⟩
  refine List.forall_mem_cons.2 ⟨⟨1, 69, half1 (z1 (turn17 A)), rfl, half1_turned A P _ 69 (turn17_1 A P hB)⟩, ?_⟩
  refine List.forall_mem_cons.2 ⟨⟨0, 69, half0 (z1 (turn17 A)), rfl, half0_turned A P _ 69 (turn17_1 A P hB)⟩, ?_⟩
  refine List.forall_mem_cons.2 ⟨⟨1, 68, half1 (z0 (turn17 A)), rfl, half1_turned A P _ 68 (turn17_0 A P hB)⟩, ?_⟩
  refine List.forall_mem_cons.2 ⟨⟨0, 68, half0 (z0 (turn17 A)), rfl, half0_turned A P _ 68 (turn17_0 A P hB)⟩, ?_⟩
  refine List.forall_mem_cons.2 ⟨⟨1, 67, half1 (z3 (turn16 A)), rfl, half1_turned A P _ 67 (turn16_3 A P hB)⟩, ?_⟩
  exact columns_HS2_135 A P hB

end Cert.TransformIdeal.Parts

end
-- ==== Proof.TransformCodes.lean ====
/-
  The steps and codes of one run of the transform's body: after the last four columns the running magnitude is bounded as
  the whole table is (`met_r_185`), so the row of steps is `steps` (`row_apply`); the code plane's 64 stores hold the codes
  `coded` of the table's entries (`coded_all`), which the body reads back 256 rows at a time (`sheet_apply`).
-/
module

public import proofs.«01_k».proof.Proof.TransformTable

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (A : Args) (P : Fin 64 → Fin 64 → EReal) (hB : Diagonal A.x3 P)

/-! ## The greatest magnitude -/

theorem grow_le (m : FVec Ideal S64x256 .f32) (Z : FVec Ideal S256x256 .f32) (a : Fin 64) (t : Fin 256) (b : EReal) : grow m Z (ix2 a t) ≤ b ↔
    (((m (ix2 a t) ≤ b ∧ max (z0 Z (ix2 a t)) (-(z0 Z (ix2 a t))) ≤ b) ∧ max (z1 Z (ix2 a t)) (-(z1 Z (ix2 a t))) ≤ b)
      ∧ max (z2 Z (ix2 a t)) (-(z2 Z (ix2 a t))) ≤ b) ∧ max (z3 Z (ix2 a t)) (-(z3 Z (ix2 a t))) ≤ b := by
  rw [← max_le_iff, ← max_le_iff, ← max_le_iff, ← max_le_iff]
  exact Iff.rfl

/-- The running magnitude has met the first `4 * n` columns: what bounds it. -/
def Met (m : FVec Ideal S64x256 .f32) (n : Nat) : Prop :=
  ∀ (a : Fin 64) (t : Fin 256) (b : EReal), m (ix2 a t) ≤ b ↔ 0 ≤ b ∧ ∀ k : Fin 80, k.val < 4 * n → max (turned A P a k t) (-(turned A P a k t)) ≤ b

theorem met_zero : Met A P (k0_pay191 (F := Ideal)) 0 := by
  intro a t b
  have e : k0_pay191 (F := Ideal) (ix2 a t) = 0 := by pointwise [k0_pay191]
  rw [e]
  exact ⟨fun h => ⟨h, fun k hk => absurd hk (by omega)⟩, fun h => h.1⟩

theorem met_grow (m : FVec Ideal S64x256 .f32) (Z : FVec Ideal S256x256 .f32) (n : Nat) (hn : n < 20) (h : Met A P m n)
    (h0 : ∀ a t, z0 Z (ix2 a t) = turned A P a ⟨4 * n, by omega⟩ t) (h1 : ∀ a t, z1 Z (ix2 a t) = turned A P a ⟨4 * n + 1, by omega⟩ t)
    (h2 : ∀ a t, z2 Z (ix2 a t) = turned A P a ⟨4 * n + 2, by omega⟩ t) (h3 : ∀ a t, z3 Z (ix2 a t) = turned A P a ⟨4 * n + 3, by omega⟩ t) :
    Met A P (grow m Z) (n + 1) := by
  intro a t b
  rw [grow_le, h0, h1, h2, h3, h a t b]
  constructor
  · rintro ⟨⟨⟨⟨⟨hb, hk⟩, k0⟩, k1⟩, k2⟩, k3⟩
    refine ⟨hb, fun k hlt => ?_⟩
    rcases Nat.lt_or_ge k.val (4 * n) with hl | hg
    · exact hk k hl
    · have hc : k = ⟨4 * n, by omega⟩ ∨ k = ⟨4 * n + 1, by omega⟩ ∨ k = ⟨4 * n + 2, by omega⟩ ∨ k = ⟨4 * n + 3, by omega⟩ := by
        simp only [Fin.ext_iff]; omega
      rcases hc with e | e | e | e <;> rw [e]
      · exact k0
      · exact k1
      · exact k2
      · exact k3
  · rintro ⟨hb, hk⟩
    exact ⟨⟨⟨⟨⟨hb, fun k hl => hk k (by omega)⟩, hk _ (by show 4 * n < 4 * (n + 1); omega)⟩, hk _ (by show 4 * n + 1 < 4 * (n + 1); omega)⟩,
      hk _ (by show 4 * n + 2 < 4 * (n + 1); omega)⟩, hk _ (by show 4 * n + 3 < 4 * (n + 1); omega)⟩

section
include hB
theorem met_r_67 : Met A P (kernelRun0_A.sl.r_67 (F := Ideal) A.c A.arg1 A.harg1 A.arg2 A.harg2 A.arg3 A.harg3 A.arg4 A.harg4 A.arg11 A.arg12 A.x0 A.x1 A.x2 A.x3) 1 :=
  have e : (kernelRun0_A.sl.r_67 (F := Ideal) A.c A.arg1 A.harg1 A.arg2 A.harg2 A.arg3 A.harg3 A.arg4 A.harg4 A.arg11 A.arg12 A.x0 A.x1 A.x2 A.x3) = grow (k0_pay191 (F := Ideal)) (turn0 A) := rfl
  e ▸ met_grow A P _ _ 0 (by omega) (met_zero A P) (turn0_0 A P hB) (turn0_1 A P hB) (turn0_2 A P hB) (turn0_3 A P hB)
theorem met_r_74 : Met A P (kernelRun0_A.sl.r_74 (F := Ideal) A.c A.arg1 A.harg1 A.arg2 A.harg2 A.arg3 A.harg3 A.arg4 A.harg4 A.arg11 A.arg12 A.x0 A.x1 A.x2 A.x3) 2 :=
  have e : (kernelRun0_A.sl.r_74 (F := Ideal) A.c A.arg1 A.harg1 A.arg2 A.harg2 A.arg3 A.harg3 A.arg4 A.harg4 A.arg11 A.arg12 A.x0 A.x1 A.x2 A.x3) = grow (kernelRun0_A.sl.r_67 (F := Ideal) A.c A.arg1 A.harg1 A.arg2 A.harg2 A.arg3 A.harg3 A.arg4 A.harg4 A.arg11 A.arg12 A.x0 A.x1 A.x2 A.x3) (turn1 A) := rfl
  e ▸ met_grow A P _ _ 1 (by omega) (met_r_67 A P hB) (turn1_0 A P hB) (turn1_1 A P hB) (turn1_2 A P hB) (turn1_3 A P hB)
theorem met_r_81 : Met A P (kernelRun0_A.sl.r_81 (F := Ideal) A.c A.arg1 A.harg1 A.arg2 A.harg2 A.arg3 A.harg3 A.arg4 A.harg4 A.arg11 A.arg12 A.x0 A.x1 A.x2 A.x3) 3 :=
  have e : (kernelRun0_A.sl.r_81 (F := Ideal) A.c A.arg1 A.harg1 A.arg2 A.harg2 A.arg3 A.harg3 A.arg4 A.harg4 A.arg11 A.arg12 A.x0 A.x1 A.x2 A.x3) = grow (kernelRun0_A.sl.r_74 (F := Ideal) A.c A.arg1 A.harg1 A.arg2 A.harg2 A.arg3 A.harg3 A.arg4 A.harg4 A.arg11 A.arg12 A.x0 A.x1 A.x2 A.x3) (turn2 A) := rfl
  e ▸ met_grow A P _ _ 2 (by omega) (met_r_74 A P hB) (turn2_0 A P hB) (turn2_1 A P hB) (turn2_2 A P hB) (turn2_3 A P hB)
theorem met_r_86 : Met A P (kernelRun0_A.sl.r_86 (F := Ideal) A.c A.arg1 A.harg1 A.arg2 A.harg2 A.arg3 A.harg3 A.arg4 A.harg4 A.arg11 A.arg12 A.x0 A.x1 A.x2 A.x3) 4 :=
  have e : (kernelRun0_A.sl.r_86 (F := Ideal) A.c A.arg1 A.harg1 A.arg2 A.harg2 A.arg3 A.harg3 A.arg4 A.harg4 A.arg11 A.arg12 A.x0 A.x1 A.x2 A.x3) = grow (kernelRun0_A.sl.r_81 (F := Ideal) A.c A.arg1 A.harg1 A.arg2 A.harg2 A.arg3 A.harg3 A.arg4 A.harg4 A.arg11 A.arg12 A.x0 A.x1 A.x2 A.x3) (turn3 A) := rfl
  e ▸ met_grow A P _ _ 3 (by omega) (met_r_81 A P hB) (turn3_0 A P hB) (turn3_1 A P hB) (turn3_2 A P hB) (turn3_3 A P hB)
theorem met_r_91 : Met A P (kernelRun0_A.sl.r_91 (F := Ideal) A.c A.arg1 A.harg1 A.arg2 A.harg2 A.arg3 A.harg3 A.arg4 A.harg4 A.arg11 A.arg12 A.x0 A.x1 A.x2 A.x3) 5 :=
  have e : (kernelRun0_A.sl.r_91 (F := Ideal) A.c A.arg1 A.harg1 A.arg2 A.harg2 A.arg3 A.harg3 A.arg4 A.harg4 A.arg11 A.arg12 A.x0 A.x1 A.x2 A.x3) = grow (kernelRun0_A.sl.r_86 (F := Ideal) A.c A.arg1 A.harg1 A.arg2 A.harg2 A.arg3 A.harg3 A.arg4 A.harg4 A.arg11 A.arg12 A.x0 A.x1 A.x2 A.x3) (turn4 A) := rfl
  e ▸ met_grow A P _ _ 4 (by omega) (met_r_86 A P hB) (turn4_0 A P hB) (turn4_1 A P hB) (turn4_2 A P hB) (turn4_3 A P hB)
theorem met_r_97 : Met A P (kernelRun0_A.sl.r_97 (F := Ideal) A.c A.arg1 A.harg1 A.arg2 A.harg2 A.arg3 A.harg3 A.arg4 A.harg4 A.arg11 A.arg12 A.x0 A.x1 A.x2 A.x3) 6 :=
  have e : (kernelRun0_A.sl.r_97 (F := Ideal) A.c A.arg1 A.harg1 A.arg2 A.harg2 A.arg3 A.harg3 A.arg4 A.harg4 A.arg11 A.arg12 A.x0 A.x1 A.x2 A.x3) = grow (kernelRun0_A.sl.r_91 (F := Ideal) A.c A.arg1 A.harg1 A.arg2 A.harg2 A.arg3 A.harg3 A.arg4 A.harg4 A.arg11 A.arg12 A.x0 A.x1 A.x2 A.x3) (turn5 A) := rfl
  e ▸ met_grow A P _ _ 5 (by omega) (met_r_91 A P hB) (turn5_0 A P hB) (turn5_1 A P hB) (turn5_2 A P hB) (turn5_3 A P hB)
theorem met_r_100 : Met A P (kernelRun0_A.sl.r_100 (F := Ideal) A.c A.arg1 A.harg1 A.arg2 A.harg2 A.arg3 A.harg3 A.arg4 A.harg4 A.arg11 A.arg12 A.x0 A.x1 A.x2 A.x3) 7 :=
  have e : (kernelRun0_A.sl.r_100 (F := Ideal) A.c A.arg1 A.harg1 A.arg2 A.harg2 A.arg3 A.harg3 A.arg4 A.harg4 A.arg11 A.arg12 A.x0 A.x1 A.x2 A.x3) = grow (kernelRun0_A.sl.r_97 (F := Ideal) A.c A.arg1 A.harg1 A.arg2 A.harg2 A.arg3 A.harg3 A.arg4 A.harg4 A.arg11 A.arg12 A.x0 A.x1 A.x2 A.x3) (turn6 A) := rfl
  e ▸ met_grow A P _ _ 6 (by omega) (met_r_97 A P hB) (turn6_0 A P hB) (turn6_1 A P hB) (turn6_2 A P hB) (turn6_3 A P hB)
theorem met_r_107 : Met A P (kernelRun0_A.sl.r_107 (F := Ideal) A.c A.arg1 A.harg1 A.arg2 A.harg2 A.arg3 A.harg3 A.arg4 A.harg4 A.arg11 A.arg12 A.x0 A.x1 A.x2 A.x3) 8 :=
  have e : (kernelRun0_A.sl.r_107 (F := Ideal) A.c A.arg1 A.harg1 A.arg2 A.harg2 A.arg3 A.harg3 A.arg4 A.harg4 A.arg11 A.arg12 A.x0 A.x1 A.x2 A.x3) = grow (kernelRun0_A.sl.r_100 (F := Ideal) A.c A.arg1 A.harg1 A.arg2 A.harg2 A.arg3 A.harg3 A.arg4 A.harg4 A.arg11 A.arg12 A.x0 A.x1 A.x2 A.x3) (turn7 A) := rfl
  e ▸ met_grow A P _ _ 7 (by omega) (met_r_100 A P hB) (turn7_0 A P hB) (turn7_1 A P hB) (turn7_2 A P hB) (turn7_3 A P hB)
theorem met_r_114 : Met A P (kernelRun0_A.sl.r_114 (F := Ideal) A.c A.arg1 A.harg1 A.arg2 A.harg2 A.arg3 A.harg3 A.arg4 A.harg4 A.arg11 A.arg12 A.x0 A.x1 A.x2 A.x3) 9 :=
  have e : (kernelRun0_A.sl.r_114 (F := Ideal) A.c A.arg1 A.harg1 A.arg2 A.harg2 A.arg3 A.harg3 A.arg4 A.harg4 A.arg11 A.arg12 A.x0 A.x1 A.x2 A.x3) = grow (kernelRun0_A.sl.r_107 (F := Ideal) A.c A.arg1 A.harg1 A.arg2 A.harg2 A.arg3 A.harg3 A.arg4 A.harg4 A.arg11 A.arg12 A.x0 A.x1 A.x2 A.x3) (turn8 A) := rfl
  e ▸ met_grow A P _ _ 8 (by omega) (met_r_107 A P hB) (turn8_0 A P hB) (turn8_1 A P hB) (turn8_2 A P hB) (turn8_3 A P hB)
theorem met_r_118 : Met A P (kernelRun0_A.sl.r_118 (F := Ideal) A.c A.arg1 A.harg1 A.arg2 A.harg2 A.arg3 A.harg3 A.arg4 A.harg4 A.arg11 A.arg12 A.x0 A.x1 A.x2 A.x3) 10 :=
  have e : (kernelRun0_A.sl.r_118 (F := Ideal) A.c A.arg1 A.harg1 A.arg2 A.harg2 A.arg3 A.harg3 A.arg4 A.harg4 A.arg11 A.arg12 A.x0 A.x1 A.x2 A.x3) = grow (kernelRun0_A.sl.r_114 (F := Ideal) A.c A.arg1 A.harg1 A.arg2 A.harg2 A.arg3 A.harg3 A.arg4 A.harg4 A.arg11 A.arg12 A.x0 A.x1 A.x2 A.x3) (turn9 A) := rfl
  e ▸ met_grow A P _ _ 9 (by omega) (met_r_114 A P hB) (turn9_0 A P hB) (turn9_1 A P hB) (turn9_2 A P hB) (turn9_3 A P hB)
theorem met_r_126 : Met A P (kernelRun0_A.sl.r_126 (F := Ideal) A.c A.arg1 A.harg1 A.arg2 A.harg2 A.arg3 A.harg3 A.arg4 A.harg4 A.arg11 A.arg12 A.x0 A.x1 A.x2 A.x3) 11 :=
  have e : (kernelRun0_A.sl.r_126 (F := Ideal) A.c A.arg1 A.harg1 A.arg2 A.harg2 A.arg3 A.harg3 A.arg4 A.harg4 A.arg11 A.arg12 A.x0 A.x1 A.x2 A.x3) = grow (kernelRun0_A.sl.r_118 (F := Ideal) A.c A.arg1 A.harg1 A.arg2 A.harg2 A.arg3 A.harg3 A.arg4 A.harg4 A.arg11 A.arg12 A.x0 A.x1 A.x2 A.x3) (turn10 A) := rfl
  e ▸ met_grow A P _ _ 10 (by omega) (met_r_118 A P hB) (turn10_0 A P hB) (turn10_1 A P hB) (turn10_2 A P hB) (turn10_3 A P hB)
theorem met_r_132 : Met A P (kernelRun0_A.sl.r_132 (F := Ideal) A.c A.arg1 A.harg1 A.arg2 A.harg2 A.arg3 A.harg3 A.arg4 A.harg4 A.arg11 A.arg12 A.x0 A.x1 A.x2 A.x3) 12 :=
  have e : (kernelRun0_A.sl.r_132 (F := Ideal) A.c A.arg1 A.harg1 A.arg2 A.harg2 A.arg3 A.harg3 A.arg4 A.harg4 A.arg11 A.arg12 A.x0 A.x1 A.x2 A.x3) = grow (kernelRun0_A.sl.r_126 (F := Ideal) A.c A.arg1 A.harg1 A.arg2 A.harg2 A.arg3 A.harg3 A.arg4 A.harg4 A.arg11 A.arg12 A.x0 A.x1 A.x2 A.x3) (turn11 A) := rfl
  e ▸ met_grow A P _ _ 11 (by omega) (met_r_126 A P hB) (turn11_0 A P hB) (turn11_1 A P hB) (turn11_2 A P hB) (turn11_3 A P hB)
theorem met_r_139 : Met A P (kernelRun0_A.sl.r_139 (F := Ideal) A.c A.arg1 A.harg1 A.arg2 A.harg2 A.arg3 A.harg3 A.arg4 A.harg4 A.arg11 A.arg12 A.x0 A.x1 A.x2 A.x3) 13 :=
  have e : (kernelRun0_A.sl.r_139 (F := Ideal) A.c A.arg1 A.harg1 A.arg2 A.harg2 A.arg3 A.harg3 A.arg4 A.harg4 A.arg11 A.arg12 A.x0 A.x1 A.x2 A.x3) = grow (kernelRun0_A.sl.r_132 (F := Ideal) A.c A.arg1 A.harg1 A.arg2 A.harg2 A.arg3 A.harg3 A.arg4 A.harg4 A.arg11 A.arg12 A.x0 A.x1 A.x2 A.x3) (turn12 A) := rfl
  e ▸ met_grow A P _ _ 12 (by omega) (met_r_132 A P hB) (turn12_0 A P hB) (turn12_1 A P hB) (turn12_2 A P hB) (turn12_3 A P hB)
theorem met_r_147 : Met A P (kernelRun0_A.sl.r_147 (F := Ideal) A.c A.arg1 A.harg1 A.arg2 A.harg2 A.arg3 A.harg3 A.arg4 A.harg4 A.arg11 A.arg12 A.x0 A.x1 A.x2 A.x3) 14 :=
  have e : (kernelRun0_A.sl.r_147 (F := Ideal) A.c A.arg1 A.harg1 A.arg2 A.harg2 A.arg3 A.harg3 A.arg4 A.harg4 A.arg11 A.arg12 A.x0 A.x1 A.x2 A.x3) = grow (kernelRun0_A.sl.r_139 (F := Ideal) A.c A.arg1 A.harg1 A.arg2 A.harg2 A.arg3 A.harg3 A.arg4 A.harg4 A.arg11 A.arg12 A.x0 A.x1 A.x2 A.x3) (turn13 A) := rfl
  e ▸ met_grow A P _ _ 13 (by omega) (met_r_139 A P hB) (turn13_0 A P hB) (turn13_1 A P hB) (turn13_2 A P hB) (turn13_3 A P hB)
theorem met_r_153 : Met A P (kernelRun0_A.sl.r_153 (F := Ideal) A.c A.arg1 A.harg1 A.arg2 A.harg2 A.arg3 A.harg3 A.arg4 A.harg4 A.arg11 A.arg12 A.x0 A.x1 A.x2 A.x3) 15 :=
  have e : (kernelRun0_A.sl.r_153 (F := Ideal) A.c A.arg1 A.harg1 A.arg2 A.harg2 A.arg3 A.harg3 A.arg4 A.harg4 A.arg11 A.arg12 A.x0 A.x1 A.x2 A.x3) = grow (kernelRun0_A.sl.r_147 (F := Ideal) A.c A.arg1 A.harg1 A.arg2 A.harg2 A.arg3 A.harg3 A.arg4 A.harg4 A.arg11 A.arg12 A.x0 A.x1 A.x2 A.x3) (turn14 A) := rfl
  e ▸ met_grow A P _ _ 14 (by omega) (met_r_147 A P hB) (turn14_0 A P hB) (turn14_1 A P hB) (turn14_2 A P hB) (turn14_3 A P hB)
theorem met_r_159 : Met A P (kernelRun0_A.sl.r_159 (F := Ideal) A.c A.arg1 A.harg1 A.arg2 A.harg2 A.arg3 A.harg3 A.arg4 A.harg4 A.arg11 A.arg12 A.x0 A.x1 A.x2 A.x3) 16 :=
  have e : (kernelRun0_A.sl.r_159 (F := Ideal) A.c A.arg1 A.harg1 A.arg2 A.harg2 A.arg3 A.harg3 A.arg4 A.harg4 A.arg11 A.arg12 A.x0 A.x1 A.x2 A.x3) = grow (kernelRun0_A.sl.r_153 (F := Ideal) A.c A.arg1 A.harg1 A.arg2 A.harg2 A.arg3 A.harg3 A.arg4 A.harg4 A.arg11 A.arg12 A.x0 A.x1 A.x2 A.x3) (turn15 A) := rfl
  e ▸ met_grow A P _ _ 15 (by omega) (met_r_153 A P hB) (turn15_0 A P hB) (turn15_1 A P hB) (turn15_2 A P hB) (turn15_3 A P hB)
theorem met_r_167 : Met A P (kernelRun0_A.sl.r_167 (F := Ideal) A.c A.arg1 A.harg1 A.arg2 A.harg2 A.arg3 A.harg3 A.arg4 A.harg4 A.arg11 A.arg12 A.x0 A.x1 A.x2 A.x3) 17 :=
  have e : (kernelRun0_A.sl.r_167 (F := Ideal) A.c A.arg1 A.harg1 A.arg2 A.harg2 A.arg3 A.harg3 A.arg4 A.harg4 A.arg11 A.arg12 A.x0 A.x1 A.x2 A.x3) = grow (kernelRun0_A.sl.r_159 (F := Ideal) A.c A.arg1 A.harg1 A.arg2 A.harg2 A.arg3 A.harg3 A.arg4 A.harg4 A.arg11 A.arg12 A.x0 A.x1 A.x2 A.x3) (turn16 A) := rfl
  e ▸ met_grow A P _ _ 16 (by omega) (met_r_159 A P hB) (turn16_0 A P hB) (turn16_1 A P hB) (turn16_2 A P hB) (turn16_3 A P hB)
theorem met_r_172 : Met A P (kernelRun0_A.sl.r_172 (F := Ideal) A.c A.arg1 A.harg1 A.arg2 A.harg2 A.arg3 A.harg3 A.arg4 A.harg4 A.arg11 A.arg12 A.x0 A.x1 A.x2 A.x3) 18 :=
  have e : (kernelRun0_A.sl.r_172 (F := Ideal) A.c A.arg1 A.harg1 A.arg2 A.harg2 A.arg3 A.harg3 A.arg4 A.harg4 A.arg11 A.arg12 A.x0 A.x1 A.x2 A.x3) = grow (kernelRun0_A.sl.r_167 (F := Ideal) A.c A.arg1 A.harg1 A.arg2 A.harg2 A.arg3 A.harg3 A.arg4 A.harg4 A.arg11 A.arg12 A.x0 A.x1 A.x2 A.x3) (turn17 A) := rfl
  e ▸ met_grow A P _ _ 17 (by omega) (met_r_167 A P hB) (turn17_0 A P hB) (turn17_1 A P hB) (turn17_2 A P hB) (turn17_3 A P hB)
theorem met_r_177 : Met A P (kernelRun0_A.sl.r_177 (F := Ideal) A.c A.arg1 A.harg1 A.arg2 A.harg2 A.arg3 A.harg3 A.arg4 A.harg4 A.arg11 A.arg12 A.x0 A.x1 A.x2 A.x3) 19 :=
  have e : (kernelRun0_A.sl.r_177 (F := Ideal) A.c A.arg1 A.harg1 A.arg2 A.harg2 A.arg3 A.harg3 A.arg4 A.harg4 A.arg11 A.arg12 A.x0 A.x1 A.x2 A.x3) = grow (kernelRun0_A.sl.r_172 (F := Ideal) A.c A.arg1 A.harg1 A.arg2 A.harg2 A.arg3 A.harg3 A.arg4 A.harg4 A.arg11 A.arg12 A.x0 A.x1 A.x2 A.x3) (turn18 A) := rfl
  e ▸ met_grow A P _ _ 18 (by omega) (met_r_172 A P hB) (turn18_0 A P hB) (turn18_1 A P hB) (turn18_2 A P hB) (turn18_3 A P hB)
theorem met_r_185 : Met A P (kernelRun0_A.sl.r_185 (F := Ideal) A.c A.arg1 A.harg1 A.arg2 A.harg2 A.arg3 A.harg3 A.arg4 A.harg4 A.arg11 A.arg12 A.x0 A.x1 A.x2 A.x3) 20 :=
  have e : (kernelRun0_A.sl.r_185 (F := Ideal) A.c A.arg1 A.harg1 A.arg2 A.harg2 A.arg3 A.harg3 A.arg4 A.harg4 A.arg11 A.arg12 A.x0 A.x1 A.x2 A.x3) = grow (kernelRun0_A.sl.r_177 (F := Ideal) A.c A.arg1 A.harg1 A.arg2 A.harg2 A.arg3 A.harg3 A.arg4 A.harg4 A.arg11 A.arg12 A.x0 A.x1 A.x2 A.x3) (turn19 A) := rfl
  e ▸ met_grow A P _ _ 19 (by omega) (met_r_177 A P hB) (turn19_0 A P hB) (turn19_1 A P hB) (turn19_2 A P hB) (turn19_3 A P hB)
end

/-- The step of a token whose column of running magnitudes is bounded as `p` is. -/
theorem pay585_apply (x : FVec Ideal S64x256 .f32) (v : EReal) (t : Fin 256) (p : EReal) (hp : ∀ b, p ≤ b ↔ ∀ a : Fin 64, x (ix2 a t) ≤ b) :
    k0_pay585 (F := Ideal) x v (ix2 0 t) = Rotate.step v p := by
  pointwise [k0_pay585]
  have e : Finset.fold max (Ideal.ofBits .f32 0xFF800000#32) (fun a : Fin 64 => x (ix2 a t)) Finset.univ = p := by
    refine eq_of_forall_ge_iff fun b => ?_
    rw [hp, Finset.fold_max_le, Rotate.bottom]
    exact ⟨fun h a => h.2 a (Finset.mem_univ a), fun h => ⟨bot_le, fun a _ => h a⟩⟩
  rw [e, Rotate.seven]
  rfl

/-- The step of token `t`, as the body leaves it. -/
def steps (t : Fin 256) : EReal := Rotate.step (A.x4 (ix1 0)) (Rotate.peak fun a k => turned A P a k t)

/-- The row of steps. -/
def row : FVec Ideal S1x256 .f32 := kernelRun0_A.sl.r_188 (F := Ideal) A.c A.arg1 A.harg1 A.arg2 A.harg2 A.arg3 A.harg3 A.arg4 A.harg4 A.arg5 A.harg5 A.arg11 A.arg12 A.x0 A.x1 A.x2 A.x3 A.x4

theorem clip_eq : kernelRun0_A.sl.r_187 (F := Ideal) A.c A.arg5 A.harg5 A.x4 = A.x4 (ix1 0) := by
  unfold kernelRun0_A.sl.r_187
  rw [View.readAt_eq_ld, A.harg5.read_unread]
  refine congrArg A.x4 (funext fun a => Fin.ext ?_)
  match a with
  | ⟨0, _⟩ => rfl

include hB in
theorem row_apply (t : Fin 256) : row A (ix2 0 t) = steps A P t := by
  have e : row A = k0_pay585 (F := Ideal) (kernelRun0_A.sl.r_185 (F := Ideal) A.c A.arg1 A.harg1 A.arg2 A.harg2 A.arg3 A.harg3 A.arg4 A.harg4 A.arg11 A.arg12 A.x0 A.x1 A.x2 A.x3) (kernelRun0_A.sl.r_187 (F := Ideal) A.c A.arg5 A.harg5 A.x4) := rfl
  rw [e, clip_eq]
  refine pay585_apply _ _ t _ fun b => ?_
  rw [Rotate.peak_le_iff]
  constructor
  · intro h a
    exact (met_r_185 A P hB a t b).2 ⟨(Rotate.magnitude_nonneg _).trans (h 0 0), fun k _ => h a k⟩
  · intro h a k
    exact ((met_r_185 A P hB a t b).1 (h a)).2 k (by omega)

/-! ## Reading the table plane -/

theorem column_mem0 (r : Nat) (hr : r < 80) : ∃ w, (⟨StridedRows.rowRect (C := 2) (N := 64) (L := 128) rows_fit 0 ⟨r, hr⟩, w⟩ : View.Piece (Elt Ideal) S2x5376x128 .f32) ∈ kernelRun0_A.sl.HS2_160 (F := Ideal) A.c A.arg1 A.harg1 A.arg2 A.harg2 A.arg3 A.harg3 A.arg4 A.harg4 A.arg11 A.arg12 A.x0 A.x1 A.x2 A.x3 := by
  interval_cases r
  · exact ⟨_, List.mem_of_getElem? (i := 159) rfl⟩
  · exact ⟨_, List.mem_of_getElem? (i := 157) rfl⟩
  · exact ⟨_, List.mem_of_getElem? (i := 155) rfl⟩
  · exact ⟨_, List.mem_of_getElem? (i := 153) rfl⟩
  · exact ⟨_, List.mem_of_getElem? (i := 151) rfl⟩
  · exact ⟨_, List.mem_of_getElem? (i := 149) rfl⟩
  · exact ⟨_, List.mem_of_getElem? (i := 147) rfl⟩
  · exact ⟨_, List.mem_of_getElem? (i := 145) rfl⟩
  · exact ⟨_, List.mem_of_getElem? (i := 143) rfl⟩
  · exact ⟨_, List.mem_of_getElem? (i := 141) rfl⟩
  · exact ⟨_, List.mem_of_getElem? (i := 139) rfl⟩
  · exact ⟨_, List.mem_of_getElem? (i := 137) rfl⟩
  · exact ⟨_, List.mem_of_getElem? (i := 135) rfl⟩
  · exact ⟨_, List.mem_of_getElem? (i := 133) rfl⟩
  · exact ⟨_, List.mem_of_getElem? (i := 131) rfl⟩
  · exact ⟨_, List.mem_of_getElem? (i := 129) rfl⟩
  · exact ⟨_, List.mem_of_getElem? (i := 127) rfl⟩
  · exact ⟨_, List.mem_of_getElem? (i := 125) rfl⟩
  · exact ⟨_, List.mem_of_getElem? (i := 123) rfl⟩
  · exact ⟨_, List.mem_of_getElem? (i := 121) rfl⟩
  · exact ⟨_, List.mem_of_getElem? (i := 119) rfl⟩
  · exact ⟨_, List.mem_of_getElem? (i := 117) rfl⟩
  · exact ⟨_, List.mem_of_getElem? (i := 115) rfl⟩
  · exact ⟨_, List.mem_of_getElem? (i := 113) rfl⟩
  · exact ⟨_, List.mem_of_getElem? (i := 111) rfl⟩
  · exact ⟨_, List.mem_of_getElem? (i := 109) rfl⟩
  · exact ⟨_, List.mem_of_getElem? (i := 107) rfl⟩
  · exact ⟨_, List.mem_of_getElem? (i := 105) rfl⟩
  · exact ⟨_, List.mem_of_getElem? (i := 103) rfl⟩
  · exact ⟨_, List.mem_of_getElem? (i := 101) rfl⟩
  · exact ⟨_, List.mem_of_getElem? (i := 99) rfl⟩
  · exact ⟨_, List.mem_of_getElem? (i := 97) rfl⟩
  · exact ⟨_, List.mem_of_getElem? (i := 95) rfl⟩
  · exact ⟨_, List.mem_of_getElem? (i := 93) rfl⟩
  · exact ⟨_, List.mem_of_getElem? (i := 91) rfl⟩
  · exact ⟨_, List.mem_of_getElem? (i := 89) rfl⟩
  · exact ⟨_, List.mem_of_getElem? (i := 87) rfl⟩
  · exact ⟨_, List.mem_of_getElem? (i := 85) rfl⟩
  · exact ⟨_, List.mem_of_getElem? (i := 83) rfl⟩
  · exact ⟨_, List.mem_of_getElem? (i := 81) rfl⟩
  · exact ⟨_, List.mem_of_getElem? (i := 79) rfl⟩
  · exact ⟨_, List.mem_of_getElem? (i := 77) rfl⟩
  · exact ⟨_, List.mem_of_getElem? (i := 75) rfl⟩
  · exact ⟨_, List.mem_of_getElem? (i := 73) rfl⟩
  · exact ⟨_, List.mem_of_getElem? (i := 71) rfl⟩
  · exact ⟨_, List.mem_of_getElem? (i := 69) rfl⟩
  · exact ⟨_, List.mem_of_getElem? (i := 67) rfl⟩
  · exact ⟨_, List.mem_of_getElem? (i := 65) rfl⟩
  · exact ⟨_, List.mem_of_getElem? (i := 63) rfl⟩
  · exact ⟨_, List.mem_of_getElem? (i := 61) rfl⟩
  · exact ⟨_, List.mem_of_getElem? (i := 59) rfl⟩
  · exact ⟨_, List.mem_of_getElem? (i := 57) rfl⟩
  · exact ⟨_, List.mem_of_getElem? (i := 55) rfl⟩
  · exact ⟨_, List.mem_of_getElem? (i := 53) rfl⟩
  · exact ⟨_, List.mem_of_getElem? (i := 51) rfl⟩
  · exact ⟨_, List.mem_of_getElem? (i := 49) rfl⟩
  · exact ⟨_, List.mem_of_getElem? (i := 47) rfl⟩
  · exact ⟨_, List.mem_of_getElem? (i := 45) rfl⟩
  · exact ⟨_, List.mem_of_getElem? (i := 43) rfl⟩
  · exact ⟨_, List.mem_of_getElem? (i := 41) rfl⟩
  · exact ⟨_, List.mem_of_getElem? (i := 39) rfl⟩
  · exact ⟨_, List.mem_of_getElem? (i := 37) rfl⟩
  · exact ⟨_, List.mem_of_getElem? (i := 35) rfl⟩
  · exact ⟨_, List.mem_of_getElem? (i := 33) rfl⟩
  · exact ⟨_, List.mem_of_getElem? (i := 31) rfl⟩
  · exact ⟨_, List.mem_of_getElem? (i := 29) rfl⟩
  · exact ⟨_, List.mem_of_getElem? (i := 27) rfl⟩
  · exact ⟨_, List.mem_of_getElem? (i := 25) rfl⟩
  · exact ⟨_, List.mem_of_getElem? (i := 23) rfl⟩
  · exact ⟨_, List.mem_of_getElem? (i := 21) rfl⟩
  · exact ⟨_, List.mem_of_getElem? (i := 19) rfl⟩
  · exact ⟨_, List.mem_of_getElem? (i := 17) rfl⟩
  · exact ⟨_, List.mem_of_getElem? (i := 15) rfl⟩
  · exact ⟨_, List.mem_of_getElem? (i := 13) rfl⟩
  · exact ⟨_, List.mem_of_getElem? (i := 11) rfl⟩
  · exact ⟨_, List.mem_of_getElem? (i := 9) rfl⟩
  · exact ⟨_, List.mem_of_getElem? (i := 7) rfl⟩
  · exact ⟨_, List.mem_of_getElem? (i := 5) rfl⟩
  · exact ⟨_, List.mem_of_getElem? (i := 3) rfl⟩
  · exact ⟨_, List.mem_of_getElem? (i := 1) rfl⟩
theorem column_mem1 (r : Nat) (hr : r < 80) : ∃ w, (⟨StridedRows.rowRect (C := 2) (N := 64) (L := 128) rows_fit 1 ⟨r, hr⟩, w⟩ : View.Piece (Elt Ideal) S2x5376x128 .f32) ∈ kernelRun0_A.sl.HS2_160 (F := Ideal) A.c A.arg1 A.harg1 A.arg2 A.harg2 A.arg3 A.harg3 A.arg4 A.harg4 A.arg11 A.arg12 A.x0 A.x1 A.x2 A.x3 := by
  interval_cases r
  · exact ⟨_, List.mem_of_getElem? (i := 158) rfl⟩
  · exact ⟨_, List.mem_of_getElem? (i := 156) rfl⟩
  · exact ⟨_, List.mem_of_getElem? (i := 154) rfl⟩
  · exact ⟨_, List.mem_of_getElem? (i := 152) rfl⟩
  · exact ⟨_, List.mem_of_getElem? (i := 150) rfl⟩
  · exact ⟨_, List.mem_of_getElem? (i := 148) rfl⟩
  · exact ⟨_, List.mem_of_getElem? (i := 146) rfl⟩
  · exact ⟨_, List.mem_of_getElem? (i := 144) rfl⟩
  · exact ⟨_, List.mem_of_getElem? (i := 142) rfl⟩
  · exact ⟨_, List.mem_of_getElem? (i := 140) rfl⟩
  · exact ⟨_, List.mem_of_getElem? (i := 138) rfl⟩
  · exact ⟨_, List.mem_of_getElem? (i := 136) rfl⟩
  · exact ⟨_, List.mem_of_getElem? (i := 134) rfl⟩
  · exact ⟨_, List.mem_of_getElem? (i := 132) rfl⟩
  · exact ⟨_, List.mem_of_getElem? (i := 130) rfl⟩
  · exact ⟨_, List.mem_of_getElem? (i := 128) rfl⟩
  · exact ⟨_, List.mem_of_getElem? (i := 126) rfl⟩
  · exact ⟨_, List.mem_of_getElem? (i := 124) rfl⟩
  · exact ⟨_, List.mem_of_getElem? (i := 122) rfl⟩
  · exact ⟨_, List.mem_of_getElem? (i := 120) rfl⟩
  · exact ⟨_, List.mem_of_getElem? (i := 118) rfl⟩
  · exact ⟨_, List.mem_of_getElem? (i := 116) rfl⟩
  · exact ⟨_, List.mem_of_getElem? (i := 114) rfl⟩
  · exact ⟨_, List.mem_of_getElem? (i := 112) rfl⟩
  · exact ⟨_, List.mem_of_getElem? (i := 110) rfl⟩
  · exact ⟨_, List.mem_of_getElem? (i := 108) rfl⟩
  · exact ⟨_, List.mem_of_getElem? (i := 106) rfl⟩
  · exact ⟨_, List.mem_of_getElem? (i := 104) rfl⟩
  · exact ⟨_, List.mem_of_getElem? (i := 102) rfl⟩
  · exact ⟨_, List.mem_of_getElem? (i := 100) rfl⟩
  · exact ⟨_, List.mem_of_getElem? (i := 98) rfl⟩
  · exact ⟨_, List.mem_of_getElem? (i := 96) rfl⟩
  · exact ⟨_, List.mem_of_getElem? (i := 94) rfl⟩
  · exact ⟨_, List.mem_of_getElem? (i := 92) rfl⟩
  · exact ⟨_, List.mem_of_getElem? (i := 90) rfl⟩
  · exact ⟨_, List.mem_of_getElem? (i := 88) rfl⟩
  · exact ⟨_, List.mem_of_getElem? (i := 86) rfl⟩
  · exact ⟨_, List.mem_of_getElem? (i := 84) rfl⟩
  · exact ⟨_, List.mem_of_getElem? (i := 82) rfl⟩
  · exact ⟨_, List.mem_of_getElem? (i := 80) rfl⟩
  · exact ⟨_, List.mem_of_getElem? (i := 78) rfl⟩
  · exact ⟨_, List.mem_of_getElem? (i := 76) rfl⟩
  · exact ⟨_, List.mem_of_getElem? (i := 74) rfl⟩
  · exact ⟨_, List.mem_of_getElem? (i := 72) rfl⟩
  · exact ⟨_, List.mem_of_getElem? (i := 70) rfl⟩
  · exact ⟨_, List.mem_of_getElem? (i := 68) rfl⟩
  · exact ⟨_, List.mem_of_getElem? (i := 66) rfl⟩
  · exact ⟨_, List.mem_of_getElem? (i := 64) rfl⟩
  · exact ⟨_, List.mem_of_getElem? (i := 62) rfl⟩
  · exact ⟨_, List.mem_of_getElem? (i := 60) rfl⟩
  · exact ⟨_, List.mem_of_getElem? (i := 58) rfl⟩
  · exact ⟨_, List.mem_of_getElem? (i := 56) rfl⟩
  · exact ⟨_, List.mem_of_getElem? (i := 54) rfl⟩
  · exact ⟨_, List.mem_of_getElem? (i := 52) rfl⟩
  · exact ⟨_, List.mem_of_getElem? (i := 50) rfl⟩
  · exact ⟨_, List.mem_of_getElem? (i := 48) rfl⟩
  · exact ⟨_, List.mem_of_getElem? (i := 46) rfl⟩
  · exact ⟨_, List.mem_of_getElem? (i := 44) rfl⟩
  · exact ⟨_, List.mem_of_getElem? (i := 42) rfl⟩
  · exact ⟨_, List.mem_of_getElem? (i := 40) rfl⟩
  · exact ⟨_, List.mem_of_getElem? (i := 38) rfl⟩
  · exact ⟨_, List.mem_of_getElem? (i := 36) rfl⟩
  · exact ⟨_, List.mem_of_getElem? (i := 34) rfl⟩
  · exact ⟨_, List.mem_of_getElem? (i := 32) rfl⟩
  · exact ⟨_, List.mem_of_getElem? (i := 30) rfl⟩
  · exact ⟨_, List.mem_of_getElem? (i := 28) rfl⟩
  · exact ⟨_, List.mem_of_getElem? (i := 26) rfl⟩
  · exact ⟨_, List.mem_of_getElem? (i := 24) rfl⟩
  · exact ⟨_, List.mem_of_getElem? (i := 22) rfl⟩
  · exact ⟨_, List.mem_of_getElem? (i := 20) rfl⟩
  · exact ⟨_, List.mem_of_getElem? (i := 18) rfl⟩
  · exact ⟨_, List.mem_of_getElem? (i := 16) rfl⟩
  · exact ⟨_, List.mem_of_getElem? (i := 14) rfl⟩
  · exact ⟨_, List.mem_of_getElem? (i := 12) rfl⟩
  · exact ⟨_, List.mem_of_getElem? (i := 10) rfl⟩
  · exact ⟨_, List.mem_of_getElem? (i := 8) rfl⟩
  · exact ⟨_, List.mem_of_getElem? (i := 6) rfl⟩
  · exact ⟨_, List.mem_of_getElem? (i := 4) rfl⟩
  · exact ⟨_, List.mem_of_getElem? (i := 2) rfl⟩
  · exact ⟨_, List.mem_of_getElem? (i := 0) rfl⟩

theorem column_mem (p : Fin 2) (r : Fin 80) : ∃ w, (⟨StridedRows.rowRect (C := 2) (N := 64) (L := 128) rows_fit p r, w⟩ : View.Piece (Elt Ideal) S2x5376x128 .f32) ∈ kernelRun0_A.sl.HS2_160 (F := Ideal) A.c A.arg1 A.harg1 A.arg2 A.harg2 A.arg3 A.harg3 A.arg4 A.harg4 A.arg11 A.arg12 A.x0 A.x1 A.x2 A.x3 := by
  match p with
  | ⟨0, _⟩ => exact column_mem0 A r.val r.isLt
  | ⟨1, _⟩ => exact column_mem1 A r.val r.isLt

/-- A row of the table, one token half, as the body reads it. -/
def line (p off : Nat) (h : ∀ a, (![p, off, 0] : Fin 3 → Nat) a + S1x80x128.size a ≤ S2x5376x128.size a) : Vec Ideal S1x80x128 .f32 :=
  A.arg13.view.readCov (kernelRun0_A.sl.HS2_160 (F := Ideal) A.c A.arg1 A.harg1 A.arg2 A.harg2 A.arg3 A.harg3 A.arg4 A.harg4 A.arg11 A.arg12 A.x0 A.x1 A.x2 A.x3) (Rect.unit (s := S2x5376x128) ![p, off, 0] S1x80x128.size h).toLoadRect

include hB in
theorem line_apply (p off : Nat) (h) (a : Fin 64) (hp : p < 2) (e : off = a.val * 84) (k : Fin 80) (l : Fin 128) :
    line A p off h (ix3 0 k l) = entry A P ⟨p, hp⟩ k a l := by
  subst e
  exact congrFun (StridedRows.readCov_tile (C := 2) (N := 64) (DP := 84) (D := 80) (L := 128) A.arg13.view rows_fit (fun c r n l => entry A P c r n l) _
    (columns_HS2_160 A P hB) ⟨p, hp⟩ (fun r => column_mem A ⟨p, hp⟩ r) a) (ix3 0 k l)

/-! ## The codes -/

/-- The code at row `n` of the code plane, token `t`. -/
def coded (n : Fin 5120) (t : Fin 256) : EReal :=
  Rotate.code (turned A P ⟨n.val / 80, by omega⟩ ⟨n.val % 80, by omega⟩ t) (steps A P t)

def codePlane (y : S5120x256.Idx) : EReal := coded A P (y 0) (y 1)

include hB in
theorem codes0_plane (j : Fin 32) (oa ob r0 : Nat) (ha hb) (hr : ∀ a, (![r0, 0] : Fin 2 → Nat) a + S160x128.size a ≤ S5120x256.size a) (ea : oa = 2 * j.val * 84) (eb : ob = (2 * j.val + 1) * 84) (er : r0 = 160 * j.val) (x : S160x128.Idx) :
    codes0 (row A) (line A 0 oa ha) (line A 0 ob hb) x = codePlane A P ((Rect.unit (s := S5120x256) ![r0, 0] S160x128.size hr).emb x) := by
  idx_vars x
  have v0 : ((Rect.unit (s := S5120x256) ![r0, 0] S160x128.size hr).emb (ix2 x0 x1) 0) = (⟨160 * j.val + x0.val, by omega⟩ : Fin 5120) := Fin.ext (show r0 + 1 * x0.val = _ by rw [er]; show _ = 160 * j.val + x0.val; omega)
  have v1 : ((Rect.unit (s := S5120x256) ![r0, 0] S160x128.size hr).emb (ix2 x0 x1) 1) = (⟨128 * 0 + x1.val, by omega⟩ : Fin 256) := Fin.ext (show 0 + 1 * x1.val = 128 * 0 + x1.val by omega)
  unfold codePlane
  rw [v0, v1]
  unfold coded
  rw [codes0_apply _ _ _ x0 x1 (turned A P ⟨(160 * j.val + x0.val) / 80, by omega⟩ ⟨(160 * j.val + x0.val) % 80, by omega⟩ ⟨128 * 0 + x1.val, by omega⟩)]
  · rw [row_apply A P hB]
  · intro hlt
    rw [line_apply A P hB 0 oa ha ⟨2 * j.val, by omega⟩ (by omega) ea]
    unfold entry
    congr 1 <;> apply Fin.ext <;> simp only [] <;> omega
  · intro hge
    rw [line_apply A P hB 0 ob hb ⟨2 * j.val + 1, by omega⟩ (by omega) eb]
    unfold entry
    congr 1 <;> apply Fin.ext <;> simp only [] <;> omega

include hB in
theorem codes1_plane (j : Fin 32) (oa ob r0 : Nat) (ha hb) (hr : ∀ a, (![r0, 128] : Fin 2 → Nat) a + S160x128.size a ≤ S5120x256.size a) (ea : oa = 2 * j.val * 84) (eb : ob = (2 * j.val + 1) * 84) (er : r0 = 160 * j.val) (x : S160x128.Idx) :
    codes1 (row A) (line A 1 oa ha) (line A 1 ob hb) x = codePlane A P ((Rect.unit (s := S5120x256) ![r0, 128] S160x128.size hr).emb x) := by
  idx_vars x
  have v0 : ((Rect.unit (s := S5120x256) ![r0, 128] S160x128.size hr).emb (ix2 x0 x1) 0) = (⟨160 * j.val + x0.val, by omega⟩ : Fin 5120) := Fin.ext (show r0 + 1 * x0.val = _ by rw [er]; show _ = 160 * j.val + x0.val; omega)
  have v1 : ((Rect.unit (s := S5120x256) ![r0, 128] S160x128.size hr).emb (ix2 x0 x1) 1) = (⟨128 * 1 + x1.val, by omega⟩ : Fin 256) := Fin.ext (show 128 + 1 * x1.val = 128 * 1 + x1.val by omega)
  unfold codePlane
  rw [v0, v1]
  unfold coded
  rw [codes1_apply _ _ _ x0 x1 (turned A P ⟨(160 * j.val + x0.val) / 80, by omega⟩ ⟨(160 * j.val + x0.val) % 80, by omega⟩ ⟨128 * 1 + x1.val, by omega⟩)]
  · rw [row_apply A P hB]
  · intro hlt
    rw [line_apply A P hB 1 oa ha ⟨2 * j.val, by omega⟩ (by omega) ea]
    unfold entry
    congr 1 <;> apply Fin.ext <;> simp only [] <;> omega
  · intro hge
    rw [line_apply A P hB 1 ob hb ⟨2 * j.val + 1, by omega⟩ (by omega) eb]
    unfold entry
    congr 1 <;> apply Fin.ext <;> simp only [] <;> omega

/-- A store into the code plane that holds the codes of its place. -/
def Coded (pc : View.Piece (Elt Ideal) S5120x256 .fp8e4m3) : Prop := ∀ x, pc.2 x = codePlane A P (pc.1.emb x)

include hB in
theorem coded_all : ∀ pc ∈ kernelRun0_A.sl.HS3_64 (F := Ideal) A.c A.arg1 A.harg1 A.arg2 A.harg2 A.arg3 A.harg3 A.arg4 A.harg4 A.arg5 A.harg5 A.arg11 A.arg12 A.arg13 A.x0 A.x1 A.x2 A.x3 A.x4, Coded A P pc := by
  unfold kernelRun0_A.sl.HS3_64
  refine List.forall_mem_cons.2 ⟨codes1_plane A P hB 31 5208 5292 4960 inb_S2x5376x128_S1x80x128_1_5208_0 inb_S2x5376x128_S1x80x128_1_5292_0 inb_S5120x256_S160x128_4960_128 rfl rfl rfl, ?_⟩
  refine List.forall_mem_cons.2 ⟨codes0_plane A P hB 31 5208 5292 4960 inb_S2x5376x128_S1x80x128_0_5208_0 inb_S2x5376x128_S1x80x128_0_5292_0 inb_S5120x256_S160x128_4960_0 rfl rfl rfl, ?_⟩
  refine List.forall_mem_cons.2 ⟨codes1_plane A P hB 30 5040 5124 4800 inb_S2x5376x128_S1x80x128_1_5040_0 inb_S2x5376x128_S1x80x128_1_5124_0 inb_S5120x256_S160x128_4800_128 rfl rfl rfl, ?_⟩
  refine List.forall_mem_cons.2 ⟨codes0_plane A P hB 30 5040 5124 4800 inb_S2x5376x128_S1x80x128_0_5040_0 inb_S2x5376x128_S1x80x128_0_5124_0 inb_S5120x256_S160x128_4800_0 rfl rfl rfl, ?_⟩
  refine List.forall_mem_cons.2 ⟨codes1_plane A P hB 29 4872 4956 4640 inb_S2x5376x128_S1x80x128_1_4872_0 inb_S2x5376x128_S1x80x128_1_4956_0 inb_S5120x256_S160x128_4640_128 rfl rfl rfl, ?_⟩
  refine List.forall_mem_cons.2 ⟨codes0_plane A P hB 29 4872 4956 4640 inb_S2x5376x128_S1x80x128_0_4872_0 inb_S2x5376x128_S1x80x128_0_4956_0 inb_S5120x256_S160x128_4640_0 rfl rfl rfl, ?_⟩
  refine List.forall_mem_cons.2 ⟨codes1_plane A P hB 28 4704 4788 4480 inb_S2x5376x128_S1x80x128_1_4704_0 inb_S2x5376x128_S1x80x128_1_4788_0 inb_S5120x256_S160x128_4480_128 rfl rfl rfl, ?_⟩
  refine List.forall_mem_cons.2 ⟨codes0_plane A P hB 28 4704 4788 4480 inb_S2x5376x128_S1x80x128_0_4704_0 inb_S2x5376x128_S1x80x128_0_4788_0 inb_S5120x256_S160x128_4480_0 rfl rfl rfl, ?_⟩
  refine List.forall_mem_cons.2 ⟨codes1_plane A P hB 27 4536 4620 4320 inb_S2x5376x128_S1x80x128_1_4536_0 inb_S2x5376x128_S1x80x128_1_4620_0 inb_S5120x256_S160x128_4320_128 rfl rfl rfl, ?_⟩
  refine List.forall_mem_cons.2 ⟨codes0_plane A P hB 27 4536 4620 4320 inb_S2x5376x128_S1x80x128_0_4536_0 inb_S2x5376x128_S1x80x128_0_4620_0 inb_S5120x256_S160x128_4320_0 rfl rfl rfl, ?_⟩
  refine List.forall_mem_cons.2 ⟨codes1_plane A P hB 26 4368 4452 4160 inb_S2x5376x128_S1x80x128_1_4368_0 inb_S2x5376x128_S1x80x128_1_4452_0 inb_S5120x256_S160x128_4160_128 rfl rfl rfl, ?_⟩
  refine List.forall_mem_cons.2 ⟨codes0_plane A P hB 26 4368 4452 4160 inb_S2x5376x128_S1x80x128_0_4368_0 inb_S2x5376x128_S1x80x128_0_4452_0 inb_S5120x256_S160x128_4160_0 rfl rfl rfl, ?_⟩
  refine List.forall_mem_cons.2 ⟨codes1_plane A P hB 25 4200 4284 4000 inb_S2x5376x128_S1x80x128_1_4200_0 inb_S2x5376x128_S1x80x128_1_4284_0 inb_S5120x256_S160x128_4000_128 rfl rfl rfl, ?_⟩
  refine List.forall_mem_cons.2 ⟨codes0_plane A P hB 25 4200 4284 4000 inb_S2x5376x128_S1x80x128_0_4200_0 inb_S2x5376x128_S1x80x128_0_4284_0 inb_S5120x256_S160x128_4000_0 rfl rfl rfl, ?_⟩
  refine List.forall_mem_cons.2 ⟨codes1_plane A P hB 24 4032 4116 3840 inb_S2x5376x128_S1x80x128_1_4032_0 inb_S2x5376x128_S1x80x128_1_4116_0 inb_S5120x256_S160x128_3840_128 rfl rfl rfl, ?_⟩
  refine List.forall_mem_cons.2 ⟨codes0_plane A P hB 24 4032 4116 3840 inb_S2x5376x128_S1x80x128_0_4032_0 inb_S2x5376x128_S1x80x128_0_4116_0 inb_S5120x256_S160x128_3840_0 rfl rfl rfl, ?_⟩
  refine List.forall_mem_cons.2 ⟨codes1_plane A P hB 23 3864 3948 3680 inb_S2x5376x128_S1x80x128_1_3864_0 inb_S2x5376x128_S1x80x128_1_3948_0 inb_S5120x256_S160x128_3680_128 rfl rfl rfl, ?_⟩
  refine List.forall_mem_cons.2 ⟨codes0_plane A P hB 23 3864 3948 3680 inb_S2x5376x128_S1x80x128_0_3864_0 inb_S2x5376x128_S1x80x128_0_3948_0 inb_S5120x256_S160x128_3680_0 rfl rfl rfl, ?_⟩
  refine List.forall_mem_cons.2 ⟨codes1_plane A P hB 22 3696 3780 3520 inb_S2x5376x128_S1x80x128_1_3696_0 inb_S2x5376x128_S1x80x128_1_3780_0 inb_S5120x256_S160x128_3520_128 rfl rfl rfl, ?_⟩
  refine List.forall_mem_cons.2 ⟨codes0_plane A P hB 22 3696 3780 3520 inb_S2x5376x128_S1x80x128_0_3696_0 inb_S2x5376x128_S1x80x128_0_3780_0 inb_S5120x256_S160x128_3520_0 rfl rfl rfl, ?_⟩
  refine List.forall_mem_cons.2 ⟨codes1_plane A P hB 21 3528 3612 3360 inb_S2x5376x128_S1x80x128_1_3528_0 inb_S2x5376x128_S1x80x128_1_3612_0 inb_S5120x256_S160x128_3360_128 rfl rfl rfl, ?_⟩
  refine List.forall_mem_cons.2 ⟨codes0_plane A P hB 21 3528 3612 3360 inb_S2x5376x128_S1x80x128_0_3528_0 inb_S2x5376x128_S1x80x128_0_3612_0 inb_S5120x256_S160x128_3360_0 rfl rfl rfl, ?_⟩
  refine List.forall_mem_cons.2 ⟨codes1_plane A P hB 20 3360 3444 3200 inb_S2x5376x128_S1x80x128_1_3360_0 inb_S2x5376x128_S1x80x128_1_3444_0 inb_S5120x256_S160x128_3200_128 rfl rfl rfl, ?_⟩
  refine List.forall_mem_cons.2 ⟨codes0_plane A P hB 20 3360 3444 3200 inb_S2x5376x128_S1x80x128_0_3360_0 inb_S2x5376x128_S1x80x128_0_3444_0 inb_S5120x256_S160x128_3200_0 rfl rfl rfl, ?_⟩
  refine List.forall_mem_cons.2 ⟨codes1_plane A P hB 19 3192 3276 3040 inb_S2x5376x128_S1x80x128_1_3192_0 inb_S2x5376x128_S1x80x128_1_3276_0 inb_S5120x256_S160x128_3040_128 rfl rfl rfl, ?_⟩
  refine List.forall_mem_cons.2 ⟨codes0_plane A P hB 19 3192 3276 3040 inb_S2x5376x128_S1x80x128_0_3192_0 inb_S2x5376x128_S1x80x128_0_3276_0 inb_S5120x256_S160x128_3040_0 rfl rfl rfl, ?_⟩
  refine List.forall_mem_cons.2 ⟨codes1_plane A P hB 18 3024 3108 2880 inb_S2x5376x128_S1x80x128_1_3024_0 inb_S2x5376x128_S1x80x128_1_3108_0 inb_S5120x256_S160x128_2880_128 rfl rfl rfl, ?_⟩
  refine List.forall_mem_cons.2 ⟨codes0_plane A P hB 18 3024 3108 2880 inb_S2x5376x128_S1x80x128_0_3024_0 inb_S2x5376x128_S1x80x128_0_3108_0 inb_S5120x256_S160x128_2880_0 rfl rfl rfl, ?_⟩
  refine List.forall_mem_cons.2 ⟨codes1_plane A P hB 17 2856 2940 2720 inb_S2x5376x128_S1x80x128_1_2856_0 inb_S2x5376x128_S1x80x128_1_2940_0 inb_S5120x256_S160x128_2720_128 rfl rfl rfl, ?_⟩
  refine List.forall_mem_cons.2 ⟨codes0_plane A P hB 17 2856 2940 2720 inb_S2x5376x128_S1x80x128_0_2856_0 inb_S2x5376x128_S1x80x128_0_2940_0 inb_S5120x256_S160x128_2720_0 rfl rfl rfl, ?_⟩
  refine List.forall_mem_cons.2 ⟨codes1_plane A P hB 16 2688 2772 2560 inb_S2x5376x128_S1x80x128_1_2688_0 inb_S2x5376x128_S1x80x128_1_2772_0 inb_S5120x256_S160x128_2560_128 rfl rfl rfl, ?_⟩
  refine List.forall_mem_cons.2 ⟨codes0_plane A P hB 16 2688 2772 2560 inb_S2x5376x128_S1x80x128_0_2688_0 inb_S2x5376x128_S1x80x128_0_2772_0 inb_S5120x256_S160x128_2560_0 rfl rfl rfl, ?_⟩
  refine List.forall_mem_cons.2 ⟨codes1_plane A P hB 15 2520 2604 2400 inb_S2x5376x128_S1x80x128_1_2520_0 inb_S2x5376x128_S1x80x128_1_2604_0 inb_S5120x256_S160x128_2400_128 rfl rfl rfl, ?_⟩
  refine List.forall_mem_cons.2 ⟨codes0_plane A P hB 15 2520 2604 2400 inb_S2x5376x128_S1x80x128_0_2520_0 inb_S2x5376x128_S1x80x128_0_2604_0 inb_S5120x256_S160x128_2400_0 rfl rfl rfl, ?_⟩
  refine List.forall_mem_cons.2 ⟨codes1_plane A P hB 14 2352 2436 2240 inb_S2x5376x128_S1x80x128_1_2352_0 inb_S2x5376x128_S1x80x128_1_2436_0 inb_S5120x256_S160x128_2240_128 rfl rfl rfl, ?_⟩
  refine List.forall_mem_cons.2 ⟨codes0_plane A P hB 14 2352 2436 2240 inb_S2x5376x128_S1x80x128_0_2352_0 inb_S2x5376x128_S1x80x128_0_2436_0 inb_S5120x256_S160x128_2240_0 rfl rfl rfl, ?_⟩
  refine List.forall_mem_cons.2 ⟨codes1_plane A P hB 13 2184 2268 2080 inb_S2x5376x128_S1x80x128_1_2184_0 inb_S2x5376x128_S1x80x128_1_2268_0 inb_S5120x256_S160x128_2080_128 rfl rfl rfl, ?_⟩
  refine List.forall_mem_cons.2 ⟨codes0_plane A P hB 13 2184 2268 2080 inb_S2x5376x128_S1x80x128_0_2184_0 inb_S2x5376x128_S1x80x128_0_2268_0 inb_S5120x256_S160x128_2080_0 rfl rfl rfl, ?_⟩
  refine List.forall_mem_cons.2 ⟨codes1_plane A P hB 12 2016 2100 1920 inb_S2x5376x128_S1x80x128_1_2016_0 inb_S2x5376x128_S1x80x128_1_2100_0 inb_S5120x256_S160x128_1920_128 rfl rfl rfl, ?_⟩
  refine List.forall_mem_cons.2 ⟨codes0_plane A P hB 12 2016 2100 1920 inb_S2x5376x128_S1x80x128_0_2016_0 inb_S2x5376x128_S1x80x128_0_2100_0 inb_S5120x256_S160x128_1920_0 rfl rfl rfl, ?_⟩
  refine List.forall_mem_cons.2 ⟨codes1_plane A P hB 11 1848 1932 1760 inb_S2x5376x128_S1x80x128_1_1848_0 inb_S2x5376x128_S1x80x128_1_1932_0 inb_S5120x256_S160x128_1760_128 rfl rfl rfl, ?_⟩
  refine List.forall_mem_cons.2 ⟨codes0_plane A P hB 11 1848 1932 1760 inb_S2x5376x128_S1x80x128_0_1848_0 inb_S2x5376x128_S1x80x128_0_1932_0 inb_S5120x256_S160x128_1760_0 rfl rfl rfl, ?_⟩
  refine List.forall_mem_cons.2 ⟨codes1_plane A P hB 10 1680 1764 1600 inb_S2x5376x128_S1x80x128_1_1680_0 inb_S2x5376x128_S1x80x128_1_1764_0 inb_S5120x256_S160x128_1600_128 rfl rfl rfl, ?_⟩
  refine List.forall_mem_cons.2 ⟨codes0_plane A P hB 10 1680 1764 1600 inb_S2x5376x128_S1x80x128_0_1680_0 inb_S2x5376x128_S1x80x128_0_1764_0 inb_S5120x256_S160x128_1600_0 rfl rfl rfl, ?_⟩
  refine List.forall_mem_cons.2 ⟨codes1_plane A P hB 9 1512 1596 1440 inb_S2x5376x128_S1x80x128_1_1512_0 inb_S2x5376x128_S1x80x128_1_1596_0 inb_S5120x256_S160x128_1440_128 rfl rfl rfl, ?_⟩
  refine List.forall_mem_cons.2 ⟨codes0_plane A P hB 9 1512 1596 1440 inb_S2x5376x128_S1x80x128_0_1512_0 inb_S2x5376x128_S1x80x128_0_1596_0 inb_S5120x256_S160x128_1440_0 rfl rfl rfl, ?_⟩
  refine List.forall_mem_cons.2 ⟨codes1_plane A P hB 8 1344 1428 1280 inb_S2x5376x128_S1x80x128_1_1344_0 inb_S2x5376x128_S1x80x128_1_1428_0 inb_S5120x256_S160x128_1280_128 rfl rfl rfl, ?_⟩
  refine List.forall_mem_cons.2 ⟨codes0_plane A P hB 8 1344 1428 1280 inb_S2x5376x128_S1x80x128_0_1344_0 inb_S2x5376x128_S1x80x128_0_1428_0 inb_S5120x256_S160x128_1280_0 rfl rfl rfl, ?_⟩
  refine List.forall_mem_cons.2 ⟨codes1_plane A P hB 7 1176 1260 1120 inb_S2x5376x128_S1x80x128_1_1176_0 inb_S2x5376x128_S1x80x128_1_1260_0 inb_S5120x256_S160x128_1120_128 rfl rfl rfl, ?_⟩
  refine List.forall_mem_cons.2 ⟨codes0_plane A P hB 7 1176 1260 1120 inb_S2x5376x128_S1x80x128_0_1176_0 inb_S2x5376x128_S1x80x128_0_1260_0 inb_S5120x256_S160x128_1120_0 rfl rfl rfl, ?_⟩
  refine List.forall_mem_cons.2 ⟨codes1_plane A P hB 6 1008 1092 960 inb_S2x5376x128_S1x80x128_1_1008_0 inb_S2x5376x128_S1x80x128_1_1092_0 inb_S5120x256_S160x128_960_128 rfl rfl rfl, ?_⟩
  refine List.forall_mem_cons.2 ⟨codes0_plane A P hB 6 1008 1092 960 inb_S2x5376x128_S1x80x128_0_1008_0 inb_S2x5376x128_S1x80x128_0_1092_0 inb_S5120x256_S160x128_960_0 rfl rfl rfl, ?_⟩
  refine List.forall_mem_cons.2 ⟨codes1_plane A P hB 5 840 924 800 inb_S2x5376x128_S1x80x128_1_840_0 inb_S2x5376x128_S1x80x128_1_924_0 inb_S5120x256_S160x128_800_128 rfl rfl rfl, ?_⟩
  refine List.forall_mem_cons.2 ⟨codes0_plane A P hB 5 840 924 800 inb_S2x5376x128_S1x80x128_0_840_0 inb_S2x5376x128_S1x80x128_0_924_0 inb_S5120x256_S160x128_800_0 rfl rfl rfl, ?_⟩
  refine List.forall_mem_cons.2 ⟨codes1_plane A P hB 4 672 756 640 inb_S2x5376x128_S1x80x128_1_672_0 inb_S2x5376x128_S1x80x128_1_756_0 inb_S5120x256_S160x128_640_128 rfl rfl rfl, ?_⟩
  refine List.forall_mem_cons.2 ⟨codes0_plane A P hB 4 672 756 640 inb_S2x5376x128_S1x80x128_0_672_0 inb_S2x5376x128_S1x80x128_0_756_0 inb_S5120x256_S160x128_640_0 rfl rfl rfl, ?_⟩
  refine List.forall_mem_cons.2 ⟨codes1_plane A P hB 3 504 588 480 inb_S2x5376x128_S1x80x128_1_504_0 inb_S2x5376x128_S1x80x128_1_588_0 inb_S5120x256_S160x128_480_128 rfl rfl rfl, ?_⟩
  refine List.forall_mem_cons.2 ⟨codes0_plane A P hB 3 504 588 480 inb_S2x5376x128_S1x80x128_0_504_0 inb_S2x5376x128_S1x80x128_0_588_0 inb_S5120x256_S160x128_480_0 rfl rfl rfl, ?_⟩
  refine List.forall_mem_cons.2 ⟨codes1_plane A P hB 2 336 420 320 inb_S2x5376x128_S1x80x128_1_336_0 inb_S2x5376x128_S1x80x128_1_420_0 inb_S5120x256_S160x128_320_128 rfl rfl rfl, ?_⟩
  refine List.forall_mem_cons.2 ⟨codes0_plane A P hB 2 336 420 320 inb_S2x5376x128_S1x80x128_0_336_0 inb_S2x5376x128_S1x80x128_0_420_0 inb_S5120x256_S160x128_320_0 rfl rfl rfl, ?_⟩
  refine List.forall_mem_cons.2 ⟨codes1_plane A P hB 1 168 252 160 inb_S2x5376x128_S1x80x128_1_168_0 inb_S2x5376x128_S1x80x128_1_252_0 inb_S5120x256_S160x128_160_128 rfl rfl rfl, ?_⟩
  refine List.forall_mem_cons.2 ⟨codes0_plane A P hB 1 168 252 160 inb_S2x5376x128_S1x80x128_0_168_0 inb_S2x5376x128_S1x80x128_0_252_0 inb_S5120x256_S160x128_160_0 rfl rfl rfl, ?_⟩
  refine List.forall_mem_cons.2 ⟨codes1_plane A P hB 0 0 84 0 inb_S2x5376x128_S1x80x128_1_0_0 inb_S2x5376x128_S1x80x128_1_84_0 inb_S5120x256_S160x128_0_128 rfl rfl rfl, ?_⟩
  refine List.forall_mem_cons.2 ⟨codes0_plane A P hB 0 0 84 0 inb_S2x5376x128_S1x80x128_0_0_0 inb_S2x5376x128_S1x80x128_0_84_0 inb_S5120x256_S160x128_0_0 rfl rfl rfl, ?_⟩
  exact List.forall_mem_nil _

/-- 256 rows of the code plane, as the body reads them. -/
def sheet (off : Nat) (h : ∀ a, (![off, 0] : Fin 2 → Nat) a + S256x256.size a ≤ S5120x256.size a) : Vec Ideal S256x256 .fp8e4m3 :=
  A.arg14.view.readCov (kernelRun0_A.sl.HS3_64 (F := Ideal) A.c A.arg1 A.harg1 A.arg2 A.harg2 A.arg3 A.harg3 A.arg4 A.harg4 A.arg5 A.harg5 A.arg11 A.arg12 A.arg13 A.x0 A.x1 A.x2 A.x3 A.x4) (Rect.unit (s := S5120x256) ![off, 0] S256x256.size h).toLoadRect

include hB in
theorem sheet_apply (off : Nat) (h) (n : Fin 5120) (q t : Fin 256) (e : n.val = off + q.val) : sheet A off h (ix2 q t) = coded A P n t := by
  unfold sheet
  rw [View.readCov_eq_canon']
  refine (View.canon_apply_of_pieces (Val := Elt Ideal) (e := .fp8e4m3) (codePlane A P) _ (coded_all A P hB) _ (View.cover_of_tiledL (Val := Elt Ideal) (s := S5120x256) (e := .fp8e4m3) (kernelRun0_A.sl.HS3_64 (F := Ideal) A.c A.arg1 A.harg1 A.arg2 A.harg2 A.arg3 A.harg3 A.arg4 A.harg4 A.arg5 A.harg5 A.arg11 A.arg12 A.arg13 A.x0 A.x1 A.x2 A.x3 A.x4) S160x128.size (by sl_kernel_rfl) _)).trans ?_
  have v0 : ((Rect.unit (s := S5120x256) ![off, 0] S256x256.size h).toLoadRect.idx (ix2 q t) 0) = n := Fin.ext (show off + 1 * q.val = n.val by omega)
  have v1 : ((Rect.unit (s := S5120x256) ![off, 0] S256x256.size h).toLoadRect.idx (ix2 q t) 1) = t := Fin.ext (show 0 + 1 * t.val = t.val by omega)
  exact congrArg₂ (coded A P) v0 v1

end Cert.TransformIdeal.Parts

end
-- ==== Proof.TransformOut.lean ====
/-
  What one point of the transform leaves in its four result blocks: the codes and their int8 words, turned by a product
  with the identity, and the steps as a row and as a column.
-/
module

public import proofs.«01_k».proof.Proof.TransformCodes

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (A : Args) (P : Fin 64 → Fin 64 → EReal) (hB : Diagonal A.x3 P)
  (hE : ∀ t q : Fin 256, A.x5 (ix2 t q) = if q = t then 1 else 0)

/-- The stores of the four results of a point. -/
def stores := kernelRun0_A (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5

/-- What the point leaves in its four result blocks. -/
def codesOut : Vec Ideal S256x5120 .i8 := out0_A_6 (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5
def fp8Out : Vec Ideal S256x5120 .fp8e4m3 := out0_A_7 (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5
def rowOut : Vec Ideal S1x1x256 .f32 := out0_A_8 (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5
def colOut : Vec Ideal S256x128 .f32 := out0_A_9 (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5

/-- The identity the body multiplies by. -/
def eye : Vec Ideal S256x256 .bf16 := A.arg6.view.readAt (Elt Ideal) (Rect.unit (s := S256x256) ![0, 0] S256x256.size inb_S256x256_S256x256_0_0).toLoadRect (A.harg6.unread A.x5)

theorem eye_eq : eye A = A.x5 := by
  unfold eye
  rw [View.readAt_eq_ld, A.harg6.read_unread, View.ld_unit_zero (S := S256x256) zero2]

theorem pay1_apply (X : Vec Ideal S256x256 .bf16) (C : Vec Ideal S256x256 .fp8e4m3) (t q : Fin 256) :
    k0_pay1 (F := Ideal) X C (ix2 t q) = ∑ x : Fin 256, X (ix2 t x) * C (ix2 q x) := by
  pointwise [k0_pay1]

theorem pay2_apply (X : Vec Ideal S256x256 .bf16) (C : Vec Ideal S256x256 .fp8e4m3) (t q : Fin 256) :
    k0_pay2 (F := Ideal) X C (ix2 t q) = (Ideal.fptosi 32 (∑ x : Fin 256, X (ix2 t x) * C (ix2 q x))).setWidth 8 := by
  pointwise [k0_pay2]
  rw [pay1_apply]; rfl

theorem pay3_apply (X : Vec Ideal S256x256 .bf16) (C : Vec Ideal S256x256 .fp8e4m3) (t q : Fin 256) :
    k0_pay3 (F := Ideal) X C (ix2 t q) = ∑ x : Fin 256, X (ix2 t x) * C (ix2 q x) := by
  pointwise [k0_pay3]
  exact pay1_apply X C t q

include hB hE in
/-- Against the identity a row of 256 codes comes out turned. -/
theorem product_apply (off : Nat) (h) (n : Fin 5120) (q t : Fin 256) (e : n.val = off + q.val) :
    ∑ x : Fin 256, eye A (ix2 t x) * sheet A off h (ix2 q x) = coded A P n t := by
  rw [eye_eq, Rotate.eye_sum t (fun x => A.x5 (ix2 t x)) (fun x => sheet A off h (ix2 q x)) (hE t)]
  exact sheet_apply A P hB off h n q t e

/-! ## The codes -/

def wholeCodes : Vec Ideal S256x5120 .i8 := fun y => Ideal.fptosi 8 (coded A P (y 1) (y 0))
def wholeFp8 : Vec Ideal S256x5120 .fp8e4m3 := fun y => coded A P (y 1) (y 0)

include hB hE in
theorem codes_piece (off : Nat) (h : ∀ a, (![0, off] : Fin 2 → Nat) a + S256x256.size a ≤ S256x5120.size a)
    (h' : ∀ a, (![off, 0] : Fin 2 → Nat) a + S256x256.size a ≤ S5120x256.size a) (x : S256x256.Idx) :
    k0_pay2 (F := Ideal) (eye A) (sheet A off h') x = wholeCodes A P ((Rect.unit (s := S256x5120) ![0, off] S256x256.size h).idx x) := by
  idx_vars x
  have hn : off + x1.val < 5120 := by have h1 : off + 256 ≤ 5120 := h 1; have := x1.isLt; omega
  refine (pay2_apply _ _ x0 x1).trans ?_
  rw [product_apply A P hB hE off h' ⟨off + x1.val, hn⟩ x1 x0 rfl]
  refine (Rotate.trunc_code _ _).trans ?_
  have v0 : ((Rect.unit (s := S256x5120) ![0, off] S256x256.size h).idx (ix2 x0 x1) 0) = x0 := Fin.ext (show 0 + 1 * x0.val = x0.val by omega)
  have v1 : ((Rect.unit (s := S256x5120) ![0, off] S256x256.size h).idx (ix2 x0 x1) 1) = (⟨off + x1.val, hn⟩ : Fin 5120) := Fin.ext (show off + 1 * x1.val = off + x1.val by omega)
  exact congrArg (Ideal.fptosi 8) (congrArg₂ (coded A P) v1 v0).symm

include hB hE in
theorem fp8_piece (off : Nat) (h : ∀ a, (![0, off] : Fin 2 → Nat) a + S256x256.size a ≤ S256x5120.size a)
    (h' : ∀ a, (![off, 0] : Fin 2 → Nat) a + S256x256.size a ≤ S5120x256.size a) (x : S256x256.Idx) :
    k0_pay3 (F := Ideal) (eye A) (sheet A off h') x = wholeFp8 A P ((Rect.unit (s := S256x5120) ![0, off] S256x256.size h).idx x) := by
  idx_vars x
  have hn : off + x1.val < 5120 := by have h1 : off + 256 ≤ 5120 := h 1; have := x1.isLt; omega
  refine (pay3_apply _ _ x0 x1).trans ?_
  rw [product_apply A P hB hE off h' ⟨off + x1.val, hn⟩ x1 x0 rfl]
  have v0 : ((Rect.unit (s := S256x5120) ![0, off] S256x256.size h).idx (ix2 x0 x1) 0) = x0 := Fin.ext (show 0 + 1 * x0.val = x0.val by omega)
  have v1 : ((Rect.unit (s := S256x5120) ![0, off] S256x256.size h).idx (ix2 x0 x1) 1) = (⟨off + x1.val, hn⟩ : Fin 5120) := Fin.ext (show off + 1 * x1.val = off + x1.val by omega)
  exact (congrArg₂ (coded A P) v1 v0).symm

include hB hE in
theorem codes_all : ∀ pc ∈ (stores A).1, ∀ x, pc.2 x = wholeCodes A P (pc.1.idx x) := by
  refine List.forall_mem_cons.2 ⟨fun x => codes_piece A P hB hE 4864 inb_S256x5120_S256x256_0_4864 inb_S5120x256_S256x256_4864_0 x, ?_⟩
  refine List.forall_mem_cons.2 ⟨fun x => codes_piece A P hB hE 4608 inb_S256x5120_S256x256_0_4608 inb_S5120x256_S256x256_4608_0 x, ?_⟩
  refine List.forall_mem_cons.2 ⟨fun x => codes_piece A P hB hE 4352 inb_S256x5120_S256x256_0_4352 inb_S5120x256_S256x256_4352_0 x, ?_⟩
  refine List.forall_mem_cons.2 ⟨fun x => codes_piece A P hB hE 4096 inb_S256x5120_S256x256_0_4096 inb_S5120x256_S256x256_4096_0 x, ?_⟩
  refine List.forall_mem_cons.2 ⟨fun x => codes_piece A P hB hE 3840 inb_S256x5120_S256x256_0_3840 inb_S5120x256_S256x256_3840_0 x, ?_⟩
  refine List.forall_mem_cons.2 ⟨fun x => codes_piece A P hB hE 3584 inb_S256x5120_S256x256_0_3584 inb_S5120x256_S256x256_3584_0 x, ?_⟩
  refine List.forall_mem_cons.2 ⟨fun x => codes_piece A P hB hE 3328 inb_S256x5120_S256x256_0_3328 inb_S5120x256_S256x256_3328_0 x, ?_⟩
  refine List.forall_mem_cons.2 ⟨fun x => codes_piece A P hB hE 3072 inb_S256x5120_S256x256_0_3072 inb_S5120x256_S256x256_3072_0 x, ?_⟩
  refine List.forall_mem_cons.2 ⟨fun x => codes_piece A P hB hE 2816 inb_S256x5120_S256x256_0_2816 inb_S5120x256_S256x256_2816_0 x, ?_⟩
  refine List.forall_mem_cons.2 ⟨fun x => codes_piece A P hB hE 2560 inb_S256x5120_S256x256_0_2560 inb_S5120x256_S256x256_2560_0 x, ?_⟩
  refine List.forall_mem_cons.2 ⟨fun x => codes_piece A P hB hE 2304 inb_S256x5120_S256x256_0_2304 inb_S5120x256_S256x256_2304_0 x, ?_⟩
  refine List.forall_mem_cons.2 ⟨fun x => codes_piece A P hB hE 2048 inb_S256x5120_S256x256_0_2048 inb_S5120x256_S256x256_2048_0 x, ?_⟩
  refine List.forall_mem_cons.2 ⟨fun x => codes_piece A P hB hE 1792 inb_S256x5120_S256x256_0_1792 inb_S5120x256_S256x256_1792_0 x, ?_⟩
  refine List.forall_mem_cons.2 ⟨fun x => codes_piece A P hB hE 1536 inb_S256x5120_S256x256_0_1536 inb_S5120x256_S256x256_1536_0 x, ?_⟩
  refine List.forall_mem_cons.2 ⟨fun x => codes_piece A P hB hE 1280 inb_S256x5120_S256x256_0_1280 inb_S5120x256_S256x256_1280_0 x, ?_⟩
  refine List.forall_mem_cons.2 ⟨fun x => codes_piece A P hB hE 1024 inb_S256x5120_S256x256_0_1024 inb_S5120x256_S256x256_1024_0 x, ?_⟩
  refine List.forall_mem_cons.2 ⟨fun x => codes_piece A P hB hE 768 inb_S256x5120_S256x256_0_768 inb_S5120x256_S256x256_768_0 x, ?_⟩
  refine List.forall_mem_cons.2 ⟨fun x => codes_piece A P hB hE 512 inb_S256x5120_S256x256_0_512 inb_S5120x256_S256x256_512_0 x, ?_⟩
  refine List.forall_mem_cons.2 ⟨fun x => codes_piece A P hB hE 256 inb_S256x5120_S256x256_0_256 inb_S5120x256_S256x256_256_0 x, ?_⟩
  refine List.forall_mem_cons.2 ⟨fun x => codes_piece A P hB hE 0 inb_S256x5120_S256x256_0_0 inb_S5120x256_S256x256_0_0 x, ?_⟩
  exact List.forall_mem_nil _

include hB hE in
theorem codesOut_apply (t : Fin 256) (n : Fin 5120) : codesOut A (ix2 t n) = Ideal.fptosi 8 (coded A P n t) := by
  unfold codesOut out0_A_6
  rw [View.read_writes_eq_canon _ _ _ (cover0_A_6 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5)]
  exact View.canon_apply_of_pieces (Val := Elt Ideal) (e := .i8) (wholeCodes A P) _ (codes_all A P hB hE) _ (cover0_A_6 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5 _)

include hB hE in
theorem fp8_all : ∀ pc ∈ (stores A).2.1, ∀ x, pc.2 x = wholeFp8 A P (pc.1.idx x) := by
  refine List.forall_mem_cons.2 ⟨fun x => fp8_piece A P hB hE 4864 inb_S256x5120_S256x256_0_4864 inb_S5120x256_S256x256_4864_0 x, ?_⟩
  refine List.forall_mem_cons.2 ⟨fun x => fp8_piece A P hB hE 4608 inb_S256x5120_S256x256_0_4608 inb_S5120x256_S256x256_4608_0 x, ?_⟩
  refine List.forall_mem_cons.2 ⟨fun x => fp8_piece A P hB hE 4352 inb_S256x5120_S256x256_0_4352 inb_S5120x256_S256x256_4352_0 x, ?_⟩
  refine List.forall_mem_cons.2 ⟨fun x => fp8_piece A P hB hE 4096 inb_S256x5120_S256x256_0_4096 inb_S5120x256_S256x256_4096_0 x, ?_⟩
  refine List.forall_mem_cons.2 ⟨fun x => fp8_piece A P hB hE 3840 inb_S256x5120_S256x256_0_3840 inb_S5120x256_S256x256_3840_0 x, ?_⟩
  refine List.forall_mem_cons.2 ⟨fun x => fp8_piece A P hB hE 3584 inb_S256x5120_S256x256_0_3584 inb_S5120x256_S256x256_3584_0 x, ?_⟩
  refine List.forall_mem_cons.2 ⟨fun x => fp8_piece A P hB hE 3328 inb_S256x5120_S256x256_0_3328 inb_S5120x256_S256x256_3328_0 x, ?_⟩
  refine List.forall_mem_cons.2 ⟨fun x => fp8_piece A P hB hE 3072 inb_S256x5120_S256x256_0_3072 inb_S5120x256_S256x256_3072_0 x, ?_⟩
  refine List.forall_mem_cons.2 ⟨fun x => fp8_piece A P hB hE 2816 inb_S256x5120_S256x256_0_2816 inb_S5120x256_S256x256_2816_0 x, ?_⟩
  refine List.forall_mem_cons.2 ⟨fun x => fp8_piece A P hB hE 2560 inb_S256x5120_S256x256_0_2560 inb_S5120x256_S256x256_2560_0 x, ?_⟩
  refine List.forall_mem_cons.2 ⟨fun x => fp8_piece A P hB hE 2304 inb_S256x5120_S256x256_0_2304 inb_S5120x256_S256x256_2304_0 x, ?_⟩
  refine List.forall_mem_cons.2 ⟨fun x => fp8_piece A P hB hE 2048 inb_S256x5120_S256x256_0_2048 inb_S5120x256_S256x256_2048_0 x, ?_⟩
  refine List.forall_mem_cons.2 ⟨fun x => fp8_piece A P hB hE 1792 inb_S256x5120_S256x256_0_1792 inb_S5120x256_S256x256_1792_0 x, ?_⟩
  refine List.forall_mem_cons.2 ⟨fun x => fp8_piece A P hB hE 1536 inb_S256x5120_S256x256_0_1536 inb_S5120x256_S256x256_1536_0 x, ?_⟩
  refine List.forall_mem_cons.2 ⟨fun x => fp8_piece A P hB hE 1280 inb_S256x5120_S256x256_0_1280 inb_S5120x256_S256x256_1280_0 x, ?_⟩
  refine List.forall_mem_cons.2 ⟨fun x => fp8_piece A P hB hE 1024 inb_S256x5120_S256x256_0_1024 inb_S5120x256_S256x256_1024_0 x, ?_⟩
  refine List.forall_mem_cons.2 ⟨fun x => fp8_piece A P hB hE 768 inb_S256x5120_S256x256_0_768 inb_S5120x256_S256x256_768_0 x, ?_⟩
  refine List.forall_mem_cons.2 ⟨fun x => fp8_piece A P hB hE 512 inb_S256x5120_S256x256_0_512 inb_S5120x256_S256x256_512_0 x, ?_⟩
  refine List.forall_mem_cons.2 ⟨fun x => fp8_piece A P hB hE 256 inb_S256x5120_S256x256_0_256 inb_S5120x256_S256x256_256_0 x, ?_⟩
  refine List.forall_mem_cons.2 ⟨fun x => fp8_piece A P hB hE 0 inb_S256x5120_S256x256_0_0 inb_S5120x256_S256x256_0_0 x, ?_⟩
  exact List.forall_mem_nil _

include hB hE in
theorem fp8Out_apply (t : Fin 256) (n : Fin 5120) : fp8Out A (ix2 t n) = coded A P n t := by
  unfold fp8Out out0_A_7
  rw [View.read_writes_eq_canon _ _ _ (cover0_A_7 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5)]
  exact View.canon_apply_of_pieces (Val := Elt Ideal) (e := .fp8e4m3) (wholeFp8 A P) _ (fp8_all A P hB hE) _ (cover0_A_7 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5 _)

/-! ## The steps -/

def wholeRow : Vec Ideal S1x1x256 .f32 := fun y => steps A P (y 2)
def wholeCol : Vec Ideal S256x128 .f32 := fun y => steps A P (y 0)

/-- The magnitudes and the clipping argument the steps are computed from. -/
def tops : FVec Ideal S64x256 .f32 := kernelRun0_A.sl.r_185 (F := Ideal) A.c A.arg1 A.harg1 A.arg2 A.harg2 A.arg3 A.harg3 A.arg4 A.harg4 A.arg11 A.arg12 A.x0 A.x1 A.x2 A.x3
def clip : Ideal .f32 := kernelRun0_A.sl.r_187 (F := Ideal) A.c A.arg5 A.harg5 A.x4

theorem pay586_apply (x : FVec Ideal S64x256 .f32) (v : Ideal .f32) (t : Fin 256) :
    k0_pay586 (F := Ideal) x v (ix3 0 0 t) = k0_pay585 (F := Ideal) x v (ix2 0 t) := by
  pointwise [k0_pay586]

theorem pay587_apply (x : FVec Ideal S64x256 .f32) (v : Ideal .f32) (t : Fin 256) (l : Fin 128) :
    k0_pay587 (F := Ideal) x v (ix2 t l) = k0_pay585 (F := Ideal) x v (ix2 0 t) := by
  pointwise [k0_pay587]

theorem row_eq : row A = k0_pay585 (F := Ideal) (tops A) (clip A) := rfl

include hB in
theorem row_piece (x : S1x1x256.Idx) : k0_pay586 (F := Ideal) (tops A) (clip A) x = wholeRow A P ((Rect.unit (s := S1x1x256) ![0, 0, 0] S1x1x256.size inb_S1x1x256_S1x1x256_0_0_0).idx x) := by
  idx_vars x
  obtain rfl : x0 = 0 := Subsingleton.elim _ _
  obtain rfl : x1 = 0 := Subsingleton.elim _ _
  refine (pay586_apply _ _ x2).trans ?_
  rw [← row_eq, row_apply A P hB]
  exact congrArg (steps A P) (Fin.ext (show x2.val = 0 + 1 * x2.val by omega))

include hB in
theorem col_piece (x : S256x128.Idx) : k0_pay587 (F := Ideal) (tops A) (clip A) x = wholeCol A P ((Rect.unit (s := S256x128) ![0, 0] S256x128.size inb_S256x128_S256x128_0_0).idx x) := by
  idx_vars x
  refine (pay587_apply _ _ x0 x1).trans ?_
  rw [← row_eq, row_apply A P hB]
  exact congrArg (steps A P) (Fin.ext (show x0.val = 0 + 1 * x0.val by omega))

/-- A list of one store, stated of its payload. -/
theorem one_store {S : Shape} {e : EltTy} (G : Vec Ideal S e) (L : List (View.Piece (Elt Ideal) S e)) (r : Rect S) (w : r.shape.Idx → Elt Ideal e)
    (hL : L = [⟨r, w⟩]) (h : ∀ x, w x = G (r.idx x)) : ∀ pc ∈ L, ∀ x, pc.2 x = G (pc.1.idx x) := by
  subst hL
  intro pc hpc
  obtain rfl := List.mem_singleton.1 hpc
  exact h

theorem row_stores : (stores A).2.2.1 = [(⟨Rect.unit (s := S1x1x256) ![0, 0, 0] S1x1x256.size inb_S1x1x256_S1x1x256_0_0_0, k0_pay586 (F := Ideal) (tops A) (clip A)⟩ : View.Piece (Elt Ideal) S1x1x256 .f32)] := rfl

include hB in
theorem row_all : ∀ pc ∈ (stores A).2.2.1, ∀ x, pc.2 x = wholeRow A P (pc.1.idx x) :=
  one_store _ _ _ _ (row_stores A) (row_piece A P hB)

theorem col_stores : (stores A).2.2.2.1 = [(⟨Rect.unit (s := S256x128) ![0, 0] S256x128.size inb_S256x128_S256x128_0_0, k0_pay587 (F := Ideal) (tops A) (clip A)⟩ : View.Piece (Elt Ideal) S256x128 .f32)] := rfl

include hB in
theorem col_all : ∀ pc ∈ (stores A).2.2.2.1, ∀ x, pc.2 x = wholeCol A P (pc.1.idx x) :=
  one_store _ _ _ _ (col_stores A) (col_piece A P hB)

include hB in
theorem rowOut_apply (t : Fin 256) : rowOut A (ix3 0 0 t) = steps A P t := by
  unfold rowOut out0_A_8
  rw [View.read_writes_eq_canon _ _ _ (cover0_A_8 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5)]
  exact View.canon_apply_of_pieces (Val := Elt Ideal) (e := .f32) (wholeRow A P) _ (row_all A P hB) _ (cover0_A_8 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5 _)

include hB in
theorem colOut_apply (t : Fin 256) (l : Fin 128) : colOut A (ix2 t l) = steps A P t := by
  unfold colOut out0_A_9
  rw [View.read_writes_eq_canon _ _ _ (cover0_A_9 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5)]
  exact View.canon_apply_of_pieces (Val := Elt Ideal) (e := .f32) (wholeCol A P) _ (col_all A P hB) _ (cover0_A_9 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.x0 A.x1 A.x2 A.x3 A.x4 A.x5 _)

end Cert.TransformIdeal.Parts

end
-- ==== Proof.TransformOperands.lean ====
/-
  The arrays the transform's pipeline finds, read off the host operations before it: the rows, the scales, the sixteen
  windows of the first rotation, the second rotation four times down a diagonal, and an identity.
-/
module

public import proofs.«01_k».proof.Proof.TransformWords
public import Idealize.ShloMosaic.Lib.StableHlo.ReadAt
public import Idealize.ShloMosaic.Lib.Affine
public import Idealize.ShloMosaic.Lib.Tactic

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (m : (ℓ : Loc nD τ sig) → Buf (Elt Ideal) ℓ) (c : Dev nD)

/-! ## The arrays the pipeline finds -/

theorem V_scales (n : Fin 5120) : (V m c main_v48 : Vec Ideal S1x5120 .f32) (ix2 0 n) = (m ((c : Thread nD τ).loc main_arg1) : Vec Ideal S5120 .f32) (ix1 n) := by
  unfold V
  after_reads_at

theorem V_clip : (V m c main_v49 : Vec Ideal S1 .f32) (ix1 0) = (m ((c : Thread nD τ).loc main_arg4) : Vec Ideal S_ .f32) ix0 := by
  unfold V
  after_reads_at

theorem V_x (r : Fin 12288) (n : Fin 5120) : (V m c main_v0 : Vec Ideal S12288x5120 .bf16) (ix2 r n)
    = (m ((c : Thread nD τ).loc main_arg0) : Vec Ideal S6x2048x5120 .bf16) (ix3 ⟨r.val / 2048, by omega⟩ ⟨r.val % 2048, by omega⟩ n) := by
  unfold V
  after_reads_at

/-- One where two positions of an identity agree, zero elsewhere. -/
theorem identity_entry (a b : Nat) (ha : a < 256) (hb : b < 256) :
    (FloatOps.uitofp (F := Ideal) FTy.bf16 (IntOp.cmpi CmpIPredicate.eq (IntOp.addi (BitVec.ofNat 32 a) 0#32) (BitVec.ofNat 32 b)) : EReal)
      = if a = b then 1 else 0 := by
  have e : IntOp.addi (BitVec.ofNat 32 a) 0#32 = BitVec.ofNat 32 a := by simp [IntOp.addi]
  rw [e]
  by_cases h : a = b
  · subst h
    rw [if_pos rfl]
    show (((IntOp.cmpi CmpIPredicate.eq (BitVec.ofNat 32 a) (BitVec.ofNat 32 a)).toNat : ℝ) : EReal) = 1
    simp [IntOp.cmpi]
  · have hne : BitVec.ofNat 32 a ≠ BitVec.ofNat 32 b := fun h' => h (by
      have := congrArg BitVec.toNat h'
      simpa [BitVec.toNat_ofNat, Nat.mod_eq_of_lt (show a < 4294967296 by omega), Nat.mod_eq_of_lt (show b < 4294967296 by omega)] using this)
    rw [if_neg h]
    show (((IntOp.cmpi CmpIPredicate.eq (BitVec.ofNat 32 a) (BitVec.ofNat 32 b)).toNat : ℝ) : EReal) = 0
    simp [IntOp.cmpi, hne]

theorem V_eye (r q : Fin 256) : (V m c main_v47 : Vec Ideal S256x256 .bf16) (ix2 r q) = (if q = r then 1 else 0 : EReal) := by
  have e : (V m c main_v47 : Vec Ideal S256x256 .bf16) (ix2 r q)
      = (FloatOps.uitofp (F := Ideal) FTy.bf16 (IntOp.cmpi CmpIPredicate.eq (IntOp.addi (BitVec.ofNat 32 r.val) 0#32) (BitVec.ofNat 32 q.val)) : EReal) := by
    unfold V
    after_reads_at
  rw [e, identity_entry _ _ r.isLt q.isLt]
  exact if_congr ⟨fun h => Fin.ext h.symm, fun h => congrArg Fin.val h.symm⟩ rfl rfl

theorem V_turns (r q : Fin 256) : (V m c main_v41 : Vec Ideal S256x256 .bf16) (ix2 r q)
    = (if r.val / 64 = q.val / 64 then 1 else 0 : EReal)
      * (m ((c : Thread nD τ).loc main_arg2) : Vec Ideal S64x64 .bf16) (ix2 ⟨q.val % 64, by omega⟩ ⟨r.val % 64, by omega⟩) := by
  rw [← identity_entry (r.val / 64) (q.val / 64) (by omega) (by omega)]
  unfold V
  after_reads_at

/-- The matrix of the second rotation stands four times down the diagonal. -/
theorem turns_diagonal : Diagonal (V m c main_v41 : Vec Ideal S256x256 .bf16)
    (fun a i => (m ((c : Thread nD τ).loc main_arg2) : Vec Ideal S64x64 .bf16) (ix2 i a)) := by
  intro j a q
  rw [V_turns]
  by_cases h : 64 * j.val ≤ q.val ∧ q.val < 64 * j.val + 64
  · rw [dif_pos h, if_pos (by show (64 * j.val + a.val) / 64 = q.val / 64; omega), one_mul]
    exact congrArg₂ (fun x y : Fin 64 => (m ((c : Thread nD τ).loc main_arg2) : Vec Ideal S64x64 .bf16) (ix2 x y))
      (Fin.ext (show q.val % 64 = q.val - 64 * j.val by omega)) (Fin.ext (show (64 * j.val + a.val) % 64 = a.val by omega))
  · rw [dif_neg h, if_neg (by show ¬((64 * j.val + a.val) / 64 = q.val / 64); omega), zero_mul]

/-! ## The windows of the first rotation -/

/-- What a buffer holds when the sixteen windows are laid one below the other. -/
def before (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34]) (fun b => m (c, b)) 65 (Proc.devRef .tc b)

/-- One entry of a window whose 80 places begin at `off`. -/
def windowEntry (off : Nat) (k : Fin 80) (q : Fin 256) : EReal :=
  if h : off ≤ q.val ∧ q.val < off + 80 then (m ((c : Thread nD τ).loc main_arg3) : Vec Ideal S80x80 .bf16) (ix2 ⟨q.val - off, by omega⟩ k) else 0

theorem windowEntry_in (off : Nat) (k : Fin 80) (q : Fin 256) (h : off ≤ q.val ∧ q.val < off + 80) :
    windowEntry m c off k q = (m ((c : Thread nD τ).loc main_arg3) : Vec Ideal S80x80 .bf16) (ix2 ⟨q.val - off, by omega⟩ k) := dif_pos h

theorem windowEntry_out (off : Nat) (k : Fin 80) (q : Fin 256) (h : ¬(off ≤ q.val ∧ q.val < off + 80)) : windowEntry m c off k q = 0 := dif_neg h

theorem pad_zero : (FloatOps.sitofp (F := Ideal) FTy.bf16 0#32 : EReal) = 0 := by
  show (((0#32).toInt : ℝ) : EReal) = 0
  simp

theorem V_pad0 (k : Fin 80) (q : Fin 256) : (before m c main_v2 : Vec Ideal S80x256 .bf16) (ix2 k q) = windowEntry m c 0 k q := by
  unfold before
  after_reads_at
  by_cases h : 0 ≤ q.val ∧ q.val < 0 + 80
  · exact (dif_pos (by omega)).trans (windowEntry_in m c _ k q h).symm
  · exact (dif_neg (by omega)).trans (pad_zero.trans (windowEntry_out m c _ k q h).symm)

theorem V_pad1 (k : Fin 80) (q : Fin 256) : (before m c main_v4 : Vec Ideal S80x256 .bf16) (ix2 k q) = windowEntry m c 80 k q := by
  unfold before
  after_reads_at
  by_cases h : 80 ≤ q.val ∧ q.val < 80 + 80
  · exact (dif_pos (by omega)).trans (windowEntry_in m c _ k q h).symm
  · exact (dif_neg (by omega)).trans (pad_zero.trans (windowEntry_out m c _ k q h).symm)

theorem V_pad2 (k : Fin 80) (q : Fin 256) : (before m c main_v6 : Vec Ideal S80x256 .bf16) (ix2 k q) = windowEntry m c 160 k q := by
  unfold before
  after_reads_at
  by_cases h : 160 ≤ q.val ∧ q.val < 160 + 80
  · exact (dif_pos (by omega)).trans (windowEntry_in m c _ k q h).symm
  · exact (dif_neg (by omega)).trans (pad_zero.trans (windowEntry_out m c _ k q h).symm)

theorem V_pad3 (k : Fin 80) (q : Fin 256) : (before m c main_v8 : Vec Ideal S80x256 .bf16) (ix2 k q) = windowEntry m c 112 k q := by
  unfold before
  after_reads_at
  by_cases h : 112 ≤ q.val ∧ q.val < 112 + 80
  · exact (dif_pos (by omega)).trans (windowEntry_in m c _ k q h).symm
  · exact (dif_neg (by omega)).trans (pad_zero.trans (windowEntry_out m c _ k q h).symm)

theorem V_pad4 (k : Fin 80) (q : Fin 256) : (before m c main_v10 : Vec Ideal S80x256 .bf16) (ix2 k q) = windowEntry m c 64 k q := by
  unfold before
  after_reads_at
  by_cases h : 64 ≤ q.val ∧ q.val < 64 + 80
  · exact (dif_pos (by omega)).trans (windowEntry_in m c _ k q h).symm
  · exact (dif_neg (by omega)).trans (pad_zero.trans (windowEntry_out m c _ k q h).symm)

theorem V_pad5 (k : Fin 80) (q : Fin 256) : (before m c main_v12 : Vec Ideal S80x256 .bf16) (ix2 k q) = windowEntry m c 144 k q := by
  unfold before
  after_reads_at
  by_cases h : 144 ≤ q.val ∧ q.val < 144 + 80
  · exact (dif_pos (by omega)).trans (windowEntry_in m c _ k q h).symm
  · exact (dif_neg (by omega)).trans (pad_zero.trans (windowEntry_out m c _ k q h).symm)

theorem V_pad6 (k : Fin 80) (q : Fin 256) : (before m c main_v14 : Vec Ideal S80x256 .bf16) (ix2 k q) = windowEntry m c 96 k q := by
  unfold before
  after_reads_at
  by_cases h : 96 ≤ q.val ∧ q.val < 96 + 80
  · exact (dif_pos (by omega)).trans (windowEntry_in m c _ k q h).symm
  · exact (dif_neg (by omega)).trans (pad_zero.trans (windowEntry_out m c _ k q h).symm)

theorem V_pad7 (k : Fin 80) (q : Fin 256) : (before m c main_v16 : Vec Ideal S80x256 .bf16) (ix2 k q) = windowEntry m c 176 k q := by
  unfold before
  after_reads_at
  by_cases h : 176 ≤ q.val ∧ q.val < 176 + 80
  · exact (dif_pos (by omega)).trans (windowEntry_in m c _ k q h).symm
  · exact (dif_neg (by omega)).trans (pad_zero.trans (windowEntry_out m c _ k q h).symm)

theorem V_pad8 (k : Fin 80) (q : Fin 256) : (before m c main_v18 : Vec Ideal S80x256 .bf16) (ix2 k q) = windowEntry m c 0 k q := by
  unfold before
  after_reads_at
  by_cases h : 0 ≤ q.val ∧ q.val < 0 + 80
  · exact (dif_pos (by omega)).trans (windowEntry_in m c _ k q h).symm
  · exact (dif_neg (by omega)).trans (pad_zero.trans (windowEntry_out m c _ k q h).symm)

theorem V_pad9 (k : Fin 80) (q : Fin 256) : (before m c main_v20 : Vec Ideal S80x256 .bf16) (ix2 k q) = windowEntry m c 80 k q := by
  unfold before
  after_reads_at
  by_cases h : 80 ≤ q.val ∧ q.val < 80 + 80
  · exact (dif_pos (by omega)).trans (windowEntry_in m c _ k q h).symm
  · exact (dif_neg (by omega)).trans (pad_zero.trans (windowEntry_out m c _ k q h).symm)

theorem V_pad10 (k : Fin 80) (q : Fin 256) : (before m c main_v22 : Vec Ideal S80x256 .bf16) (ix2 k q) = windowEntry m c 160 k q := by
  unfold before
  after_reads_at
  by_cases h : 160 ≤ q.val ∧ q.val < 160 + 80
  · exact (dif_pos (by omega)).trans (windowEntry_in m c _ k q h).symm
  · exact (dif_neg (by omega)).trans (pad_zero.trans (windowEntry_out m c _ k q h).symm)

theorem V_pad11 (k : Fin 80) (q : Fin 256) : (before m c main_v24 : Vec Ideal S80x256 .bf16) (ix2 k q) = windowEntry m c 112 k q := by
  unfold before
  after_reads_at
  by_cases h : 112 ≤ q.val ∧ q.val < 112 + 80
  · exact (dif_pos (by omega)).trans (windowEntry_in m c _ k q h).symm
  · exact (dif_neg (by omega)).trans (pad_zero.trans (windowEntry_out m c _ k q h).symm)

theorem V_pad12 (k : Fin 80) (q : Fin 256) : (before m c main_v26 : Vec Ideal S80x256 .bf16) (ix2 k q) = windowEntry m c 64 k q := by
  unfold before
  after_reads_at
  by_cases h : 64 ≤ q.val ∧ q.val < 64 + 80
  · exact (dif_pos (by omega)).trans (windowEntry_in m c _ k q h).symm
  · exact (dif_neg (by omega)).trans (pad_zero.trans (windowEntry_out m c _ k q h).symm)

theorem V_pad13 (k : Fin 80) (q : Fin 256) : (before m c main_v28 : Vec Ideal S80x256 .bf16) (ix2 k q) = windowEntry m c 144 k q := by
  unfold before
  after_reads_at
  by_cases h : 144 ≤ q.val ∧ q.val < 144 + 80
  · exact (dif_pos (by omega)).trans (windowEntry_in m c _ k q h).symm
  · exact (dif_neg (by omega)).trans (pad_zero.trans (windowEntry_out m c _ k q h).symm)

theorem V_pad14 (k : Fin 80) (q : Fin 256) : (before m c main_v30 : Vec Ideal S80x256 .bf16) (ix2 k q) = windowEntry m c 96 k q := by
  unfold before
  after_reads_at
  by_cases h : 96 ≤ q.val ∧ q.val < 96 + 80
  · exact (dif_pos (by omega)).trans (windowEntry_in m c _ k q h).symm
  · exact (dif_neg (by omega)).trans (pad_zero.trans (windowEntry_out m c _ k q h).symm)

theorem V_pad15 (k : Fin 80) (q : Fin 256) : (before m c main_v32 : Vec Ideal S80x256 .bf16) (ix2 k q) = windowEntry m c 176 k q := by
  unfold before
  after_reads_at
  by_cases h : 176 ≤ q.val ∧ q.val < 176 + 80
  · exact (dif_pos (by omega)).trans (windowEntry_in m c _ k q h).symm
  · exact (dif_neg (by omega)).trans (pad_zero.trans (windowEntry_out m c _ k q h).symm)

/-- Sixteen blocks of 80 rows laid one below the other, read back. -/
theorem join_apply (p : Fin 16 → Vec Ideal S80x256 .bf16) (b : Fin 16) (k : Fin 80) (q : Fin 256) :
    concatenate S1280x256 0 [⟨S80x256, p 0⟩, ⟨S80x256, p 1⟩, ⟨S80x256, p 2⟩, ⟨S80x256, p 3⟩, ⟨S80x256, p 4⟩, ⟨S80x256, p 5⟩, ⟨S80x256, p 6⟩, ⟨S80x256, p 7⟩, ⟨S80x256, p 8⟩, ⟨S80x256, p 9⟩, ⟨S80x256, p 10⟩, ⟨S80x256, p 11⟩, ⟨S80x256, p 12⟩, ⟨S80x256, p 13⟩, ⟨S80x256, p 14⟩, ⟨S80x256, p 15⟩] concatenates_S80x256_S80x256_S80x256_S80x256_S80x256_S80x256_S80x256_S80x256_S80x256_S80x256_S80x256_S80x256_S80x256_S80x256_S80x256_S80x256_S1280x256_d0 (ix2 ⟨b.val * 80 + k.val, by omega⟩ q) = p b (ix2 k q) := by
  refine concatenate_ofFn_apply (t := S1280x256) (s₁ := S80x256) 0 p concatenates_S80x256_S80x256_S80x256_S80x256_S80x256_S80x256_S80x256_S80x256_S80x256_S80x256_S80x256_S80x256_S80x256_S80x256_S80x256_S80x256_S1280x256_d0 rfl 80 rfl (ix2 ⟨b.val * 80 + k.val, by omega⟩ q) b ?_ (ix2 k q) ?_ ?_
  · show (b.val * 80 + k.val) / 80 = b.val; omega
  · show k.val = (b.val * 80 + k.val) % 80; omega
  · intro d hd
    match d, hd with
    | ⟨0, _⟩, hd => exact absurd rfl hd
    | ⟨1, _⟩, _ => rfl

/-- The sixteen windows, one below the other. -/
theorem V_windows : (V m c main_v33 : Vec Ideal S1280x256 .bf16)
    = concatenate S1280x256 0 [⟨S80x256, (before m c main_v2 : Vec Ideal S80x256 .bf16)⟩, ⟨S80x256, (before m c main_v4 : Vec Ideal S80x256 .bf16)⟩, ⟨S80x256, (before m c main_v6 : Vec Ideal S80x256 .bf16)⟩, ⟨S80x256, (before m c main_v8 : Vec Ideal S80x256 .bf16)⟩, ⟨S80x256, (before m c main_v10 : Vec Ideal S80x256 .bf16)⟩, ⟨S80x256, (before m c main_v12 : Vec Ideal S80x256 .bf16)⟩, ⟨S80x256, (before m c main_v14 : Vec Ideal S80x256 .bf16)⟩, ⟨S80x256, (before m c main_v16 : Vec Ideal S80x256 .bf16)⟩, ⟨S80x256, (before m c main_v18 : Vec Ideal S80x256 .bf16)⟩, ⟨S80x256, (before m c main_v20 : Vec Ideal S80x256 .bf16)⟩, ⟨S80x256, (before m c main_v22 : Vec Ideal S80x256 .bf16)⟩, ⟨S80x256, (before m c main_v24 : Vec Ideal S80x256 .bf16)⟩, ⟨S80x256, (before m c main_v26 : Vec Ideal S80x256 .bf16)⟩, ⟨S80x256, (before m c main_v28 : Vec Ideal S80x256 .bf16)⟩, ⟨S80x256, (before m c main_v30 : Vec Ideal S80x256 .bf16)⟩, ⟨S80x256, (before m c main_v32 : Vec Ideal S80x256 .bf16)⟩] concatenates_S80x256_S80x256_S80x256_S80x256_S80x256_S80x256_S80x256_S80x256_S80x256_S80x256_S80x256_S80x256_S80x256_S80x256_S80x256_S80x256_S1280x256_d0 := by
  refine Eq.trans (b := ?mid) ?_ ?_
  rotate_left
  · unfold V
    after_reads_simp
    rfl
  · rfl

/-- The window whose 80 places begin at `off`, as an array. -/
def window (off : Nat) : Vec Ideal S80x256 .bf16 := fun y => windowEntry m c off (y 0) (y 1)

theorem pad0_eq : (before m c main_v2 : Vec Ideal S80x256 .bf16) = window m c 0 :=
  funext fun y => by
    idx_vars y
    exact V_pad0 m c y0 y1
theorem pad1_eq : (before m c main_v4 : Vec Ideal S80x256 .bf16) = window m c 80 :=
  funext fun y => by
    idx_vars y
    exact V_pad1 m c y0 y1
theorem pad2_eq : (before m c main_v6 : Vec Ideal S80x256 .bf16) = window m c 160 :=
  funext fun y => by
    idx_vars y
    exact V_pad2 m c y0 y1
theorem pad3_eq : (before m c main_v8 : Vec Ideal S80x256 .bf16) = window m c 112 :=
  funext fun y => by
    idx_vars y
    exact V_pad3 m c y0 y1
theorem pad4_eq : (before m c main_v10 : Vec Ideal S80x256 .bf16) = window m c 64 :=
  funext fun y => by
    idx_vars y
    exact V_pad4 m c y0 y1
theorem pad5_eq : (before m c main_v12 : Vec Ideal S80x256 .bf16) = window m c 144 :=
  funext fun y => by
    idx_vars y
    exact V_pad5 m c y0 y1
theorem pad6_eq : (before m c main_v14 : Vec Ideal S80x256 .bf16) = window m c 96 :=
  funext fun y => by
    idx_vars y
    exact V_pad6 m c y0 y1
theorem pad7_eq : (before m c main_v16 : Vec Ideal S80x256 .bf16) = window m c 176 :=
  funext fun y => by
    idx_vars y
    exact V_pad7 m c y0 y1
theorem pad8_eq : (before m c main_v18 : Vec Ideal S80x256 .bf16) = window m c 0 :=
  funext fun y => by
    idx_vars y
    exact V_pad8 m c y0 y1
theorem pad9_eq : (before m c main_v20 : Vec Ideal S80x256 .bf16) = window m c 80 :=
  funext fun y => by
    idx_vars y
    exact V_pad9 m c y0 y1
theorem pad10_eq : (before m c main_v22 : Vec Ideal S80x256 .bf16) = window m c 160 :=
  funext fun y => by
    idx_vars y
    exact V_pad10 m c y0 y1
theorem pad11_eq : (before m c main_v24 : Vec Ideal S80x256 .bf16) = window m c 112 :=
  funext fun y => by
    idx_vars y
    exact V_pad11 m c y0 y1
theorem pad12_eq : (before m c main_v26 : Vec Ideal S80x256 .bf16) = window m c 64 :=
  funext fun y => by
    idx_vars y
    exact V_pad12 m c y0 y1
theorem pad13_eq : (before m c main_v28 : Vec Ideal S80x256 .bf16) = window m c 144 :=
  funext fun y => by
    idx_vars y
    exact V_pad13 m c y0 y1
theorem pad14_eq : (before m c main_v30 : Vec Ideal S80x256 .bf16) = window m c 96 :=
  funext fun y => by
    idx_vars y
    exact V_pad14 m c y0 y1
theorem pad15_eq : (before m c main_v32 : Vec Ideal S80x256 .bf16) = window m c 176 :=
  funext fun y => by
    idx_vars y
    exact V_pad15 m c y0 y1

/-- Where the 80 places of block `b` stand in its window of 256. -/
def place (b : Fin 16) : Nat := (![0, 80, 160, 112, 64, 144, 96, 176, 0, 80, 160, 112, 64, 144, 96, 176] : Fin 16 → Nat) b

theorem place_start (b : Fin 16) : start b + place b = 80 * b.val := by revert b; decide
theorem place_le (b : Fin 16) : place b + 80 ≤ 256 := by revert b; decide

theorem windows_apply (b : Fin 16) (k : Fin 80) (q : Fin 256) :
    (V m c main_v33 : Vec Ideal S1280x256 .bf16) (ix2 ⟨b.val * 80 + k.val, by omega⟩ q) = windowEntry m c (place b) k q := by
  rw [V_windows, pad0_eq, pad1_eq, pad2_eq, pad3_eq, pad4_eq, pad5_eq, pad6_eq, pad7_eq, pad8_eq, pad9_eq, pad10_eq, pad11_eq, pad12_eq, pad13_eq, pad14_eq, pad15_eq]
  exact join_apply (fun b => window m c (place b)) b k q

end Cert.TransformIdeal.Parts

end
-- ==== Proof.TransformArrays.lean ====
/-
  The transform's four result arrays over the extended reals, entry by entry, in terms of the five argument arrays.
-/
module

public import proofs.«01_k».proof.Proof.TransformOut
public import proofs.«01_k».proof.Proof.TransformOperands

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (m : (ℓ : Loc nD τ sig) → Buf (Elt Ideal) ℓ) (c : Dev nD) (t : Fin cfg0.N)

theorem lt48 : t.val < 48 := lt_of_lt_of_eq t.isLt N_0

/-- The block each window shows at point `t`: rows and results move with the point, the rest stand still. -/
theorem idx_all : ∀ t : Fin cfg0.N,
    (win0_0.index t (0 : Fin 2) = t.val ∧ win0_0.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0)
    ∧ (win0_9.index t (0 : Fin 2) = t.val ∧ win0_9.index t (1 : Fin 2) = 0) :=
  (by decide +kernel : ∀ t : Fin grid0.N, _)

theorem still : ∀ t : Fin cfg0.N,
    (∀ a, win0_1.index t a = 0) ∧ (∀ a, win0_2.index t a = 0) ∧ (∀ a, win0_3.index t a = 0) ∧ (∀ a, win0_4.index t a = 0) ∧ (∀ a, win0_5.index t a = 0) :=
  (by decide +kernel : ∀ t : Fin grid0.N, _)

theorem iblk0_apply (a : Fin 256) (n : Fin 5120) : (iblk m c 0 t : Vec Ideal S256x5120 .bf16) (ix2 a n)
    = (V m c main_v0 : Vec Ideal S12288x5120 .bf16) (ix2 ⟨256 * t.val + a.val, by have := lt48 t; omega⟩ n) := by
  obtain ⟨⟨i0, i1⟩, -⟩ := idx_all t
  unfold iblk
  rw [View.read_apply]
  show V m c main_v0 _ = V m c main_v0 _
  congr 1
  funext d
  apply Fin.ext
  match d with
  | ⟨0, _⟩ => show win0_0.index t 0 * 256 + 1 * a.val = 256 * t.val + a.val; rw [i0]; omega
  | ⟨1, _⟩ => show win0_0.index t 1 * 5120 + 1 * n.val = n.val; rw [i1]; omega

theorem iblk1_eq : (iblk m c 1 t : Vec Ideal S1x5120 .f32) = V m c main_v48 :=
  Memref.read_access_unit_zero (Elt Ideal) main_v48 (show (fun a => (win0_1.index t) a * main_v48.ty.shape.size a) = fun _ => 0 from
    funext fun a => by rw [(still t).1 a, Nat.zero_mul]) _ (V m c main_v48)

theorem iblk2_eq : (iblk m c 2 t : Vec Ideal S1280x256 .bf16) = V m c main_v33 :=
  Memref.read_access_unit_zero (Elt Ideal) main_v33 (show (fun a => (win0_2.index t) a * main_v33.ty.shape.size a) = fun _ => 0 from
    funext fun a => by rw [(still t).2.1 a, Nat.zero_mul]) _ (V m c main_v33)

theorem iblk3_eq : (iblk m c 3 t : Vec Ideal S256x256 .bf16) = V m c main_v41 :=
  Memref.read_access_unit_zero (Elt Ideal) main_v41 (show (fun a => (win0_3.index t) a * main_v41.ty.shape.size a) = fun _ => 0 from
    funext fun a => by rw [(still t).2.2.1 a, Nat.zero_mul]) _ (V m c main_v41)

theorem iblk4_eq : (iblk m c 4 t : Vec Ideal S1 .f32) = V m c main_v49 :=
  Memref.read_access_unit_zero (Elt Ideal) main_v49 (show (fun a => (win0_4.index t) a * main_v49.ty.shape.size a) = fun _ => 0 from
    funext fun a => by rw [(still t).2.2.2.1 a, Nat.zero_mul]) _ (V m c main_v49)

theorem iblk5_eq : (iblk m c 5 t : Vec Ideal S256x256 .bf16) = V m c main_v47 :=
  Memref.read_access_unit_zero (Elt Ideal) main_v47 (show (fun a => (win0_5.index t) a * main_v47.ty.shape.size a) = fun _ => 0 from
    funext fun a => by rw [(still t).2.2.2.2 a, Nat.zero_mul]) _ (V m c main_v47)

/-- The buffers and blocks of point `t`. -/
def point : Args where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := scM0_0
  harg11 := Memref.isWhole_whole _
  arg12 := scM0_1
  harg12 := Memref.isWhole_whole _
  arg13 := scM0_2
  harg13 := Memref.isWhole_whole _
  arg14 := scM0_3
  harg14 := Memref.isWhole_whole _
  x0 := iblk m c 0 t
  x1 := iblk m c 1 t
  x2 := iblk m c 2 t
  x3 := iblk m c 3 t
  x4 := iblk m c 4 t
  x5 := iblk m c 5 t

/-- The rotations' matrices and a row of `x` times its scales, from the argument arrays. -/
def P (a i : Fin 64) : EReal := (m ((c : Thread nD τ).loc main_arg2) : Vec Ideal S64x64 .bf16) (ix2 i a)
def P' (i a : Fin 64) : EReal := (m ((c : Thread nD τ).loc main_arg2) : Vec Ideal S64x64 .bf16) (ix2 i a)
def Q (j k : Fin 80) : EReal := (m ((c : Thread nD τ).loc main_arg3) : Vec Ideal S80x80 .bf16) (ix2 j k)
def x (r : Fin 12288) (n : Fin 5120) : EReal :=
  (m ((c : Thread nD τ).loc main_arg0) : Vec Ideal S6x2048x5120 .bf16) (ix3 ⟨r.val / 2048, by omega⟩ ⟨r.val % 2048, by omega⟩ n)
def scale (n : Fin 5120) : EReal := (m ((c : Thread nD τ).loc main_arg1) : Vec Ideal S5120 .f32) (ix1 n)
def X (r : Fin 12288) (n : Fin 5120) : EReal := x m c r n * scale m c n
def L : EReal := (m ((c : Thread nD τ).loc main_arg4) : Vec Ideal S_ .f32) ix0

/-- The rotated table, the step and a code of row `r`. -/
def table (r : Fin 12288) : Fin 64 → Fin 80 → EReal := Rotate.rot (X m c r) (P' m c) (Q m c)
def stepAt (r : Fin 12288) : EReal := Rotate.step (L m c) (Rotate.peak (table m c r))
def codeAt (r : Fin 12288) (n : Fin 5120) : EReal := Rotate.code (table m c r ⟨n.val / 80, by omega⟩ ⟨n.val % 80, by omega⟩) (stepAt m c r)

/-- The row of the array that row `a` of point `t` is. -/
def rowOf (a : Fin 256) : Fin 12288 := ⟨256 * t.val + a.val, by have := lt48 t; omega⟩

theorem hB : Diagonal (point m c t).x3 (P m c) := by
  show Diagonal (iblk m c 3 t : Vec Ideal S256x256 .bf16) (P m c)
  rw [iblk3_eq]
  exact turns_diagonal m c

theorem hE (a q : Fin 256) : (point m c t).x5 (ix2 a q) = if q = a then 1 else 0 := by
  show (iblk m c 5 t : Vec Ideal S256x256 .bf16) (ix2 a q) = _
  rw [iblk5_eq]
  exact V_eye m c a q

theorem scaled_point (a : Fin 256) (n : Fin 5120) : scaled (point m c t) (ix2 a n) = X m c (rowOf t a) n := by
  rw [scaled_apply]
  unfold X
  refine congrArg₂ (fun u v : EReal => u * v) ?_ ?_
  · show (iblk m c 0 t : Vec Ideal S256x5120 .bf16) (ix2 a n) = _
    rw [iblk0_apply, V_x]
    rfl
  · show (iblk m c 1 t : Vec Ideal S1x5120 .f32) (ix2 0 n) = _
    rw [iblk1_eq, V_scales]
    rfl

/-- The first rotation of a row of the point. -/
theorem mids_point (i : Fin 64) (k : Fin 80) (a : Fin 256) : mids (point m c t) i k a = Rotate.mid (X m c (rowOf t a)) (Q m c) i k := by
  have hb : i.val % 16 < 16 := Nat.mod_lt _ (by decide)
  have hs := place_start ⟨i.val % 16, hb⟩
  have hl := place_le ⟨i.val % 16, hb⟩
  have hw := start_le ⟨i.val % 16, hb⟩
  unfold mids
  refine (Rotate.window_sum (place ⟨i.val % 16, hb⟩) hl (fun j : Fin 80 => Q m c j k) _ _ fun q => ?_).trans ?_
  · show (iblk m c 2 t : Vec Ideal S1280x256 .bf16) (ix2 ⟨i.val % 16 * 80 + k.val, _⟩ q) = _
    rw [iblk2_eq]
    exact windows_apply m c ⟨i.val % 16, hb⟩ k q
  · unfold Rotate.mid
    refine Finset.sum_congr rfl fun j _ => ?_
    rw [scaled_point, mul_comm]
    refine congrArg (· * Q m c j k) (congrArg (X m c (rowOf t a)) (Fin.ext ?_))
    show 1280 * (i.val / 16) + start ⟨i.val % 16, _⟩ + (place ⟨i.val % 16, hb⟩ + j.val) = i.val * 80 + j.val
    have hs' : start ⟨i.val % 16, hb⟩ + place ⟨i.val % 16, hb⟩ = 80 * (i.val % 16) := hs
    omega

theorem turned_point (x : Fin 64) (k : Fin 80) (a : Fin 256) : turned (point m c t) (P m c) x k a = table m c (rowOf t a) x k := by
  unfold turned table Rotate.rot
  refine Finset.sum_congr rfl fun i _ => ?_
  rw [mids_point]
  rfl

theorem clip_point : (point m c t).x4 (ix1 0) = L m c := by
  show (iblk m c 4 t : Vec Ideal S1 .f32) (ix1 0) = _
  rw [iblk4_eq]
  exact V_clip m c

theorem steps_point (a : Fin 256) : steps (point m c t) (P m c) a = stepAt m c (rowOf t a) := by
  unfold steps stepAt
  rw [clip_point]
  exact congrArg (fun Z => Rotate.step (L m c) (Rotate.peak Z)) (funext fun x => funext fun k => turned_point m c t x k a)

theorem coded_point (n : Fin 5120) (a : Fin 256) : coded (point m c t) (P m c) n a = codeAt m c (rowOf t a) n := by
  unfold coded codeAt
  rw [steps_point, turned_point]

/-! ## The result arrays -/

theorem codesOut_mk (c : Dev nD) (i : grid0.Coords) (a1 : Memref sig .tc .vmem S256x5120 .bf16) (h1 : a1.IsWhole) (a2 : Memref sig .tc .vmem S1x5120 .f32) (h2 : a2.IsWhole) (a3 : Memref sig .tc .vmem S1280x256 .bf16) (h3 : a3.IsWhole) (a4 : Memref sig .tc .vmem S256x256 .bf16) (h4 : a4.IsWhole) (a5 : Memref sig .tc .smem S1 .f32) (h5 : a5.IsWhole) (a6 : Memref sig .tc .vmem S256x256 .bf16) (h6 : a6.IsWhole) (a7 : Memref sig .tc .vmem S256x5120 .i8) (h7 : a7.IsWhole) (a8 : Memref sig .tc .vmem S256x5120 .fp8e4m3) (h8 : a8.IsWhole) (a9 : Memref sig .tc .vmem S1x1x256 .f32) (h9 : a9.IsWhole) (a10 : Memref sig .tc .vmem S256x128 .f32) (h10 : a10.IsWhole) (a11 : Memref sig .tc .vmem S256x5120 .bf16) (h11 : a11.IsWhole) (a12 : Memref sig .tc .vmem S2x2880x2x128 .bf16) (h12 : a12.IsWhole) (a13 : Memref sig .tc .vmem S2x5376x128 .f32) (h13 : a13.IsWhole) (a14 : Memref sig .tc .vmem S5120x256 .fp8e4m3) (h14 : a14.IsWhole) (x0 : Vec Ideal S256x5120 .bf16) (x1 : Vec Ideal S1x5120 .f32) (x2 : Vec Ideal S1280x256 .bf16) (x3 : Vec Ideal S256x256 .bf16) (x4 : Vec Ideal S1 .f32) (x5 : Vec Ideal S256x256 .bf16) :
    out0_A_6 (F := Ideal) c i a1 h1 a2 h2 a3 h3 a4 h4 a5 h5 a6 h6 a7 h7 a8 h8 a9 h9 a10 h10 a11 h11 a12 h12 a13 h13 a14 h14 x0 x1 x2 x3 x4 x5 = codesOut ⟨c, i, a1, h1, a2, h2, a3, h3, a4, h4, a5, h5, a6, h6, a7, h7, a8, h8, a9, h9, a10, h10, a11, h11, a12, h12, a13, h13, a14, h14, x0, x1, x2, x3, x4, x5⟩ := rfl

theorem flushed6_point : (dats m 0 c).flushed 6 t = (cfg0.win 6).cut (grid0.coords t) (codesOut (point m c t)) :=
  (flushed6_A m c t).trans (congrArg ((cfg0.win 6).cut (grid0.coords t)) (codesOut_mk _ _ _ _ _ _ _ _ _ _ _ _ _ _ _ _ _ _ _ _ _ _ _ _ _ _ _ _ _ _ _ _ _ _ _ _ ))

theorem fp8Out_mk (c : Dev nD) (i : grid0.Coords) (a1 : Memref sig .tc .vmem S256x5120 .bf16) (h1 : a1.IsWhole) (a2 : Memref sig .tc .vmem S1x5120 .f32) (h2 : a2.IsWhole) (a3 : Memref sig .tc .vmem S1280x256 .bf16) (h3 : a3.IsWhole) (a4 : Memref sig .tc .vmem S256x256 .bf16) (h4 : a4.IsWhole) (a5 : Memref sig .tc .smem S1 .f32) (h5 : a5.IsWhole) (a6 : Memref sig .tc .vmem S256x256 .bf16) (h6 : a6.IsWhole) (a7 : Memref sig .tc .vmem S256x5120 .i8) (h7 : a7.IsWhole) (a8 : Memref sig .tc .vmem S256x5120 .fp8e4m3) (h8 : a8.IsWhole) (a9 : Memref sig .tc .vmem S1x1x256 .f32) (h9 : a9.IsWhole) (a10 : Memref sig .tc .vmem S256x128 .f32) (h10 : a10.IsWhole) (a11 : Memref sig .tc .vmem S256x5120 .bf16) (h11 : a11.IsWhole) (a12 : Memref sig .tc .vmem S2x2880x2x128 .bf16) (h12 : a12.IsWhole) (a13 : Memref sig .tc .vmem S2x5376x128 .f32) (h13 : a13.IsWhole) (a14 : Memref sig .tc .vmem S5120x256 .fp8e4m3) (h14 : a14.IsWhole) (x0 : Vec Ideal S256x5120 .bf16) (x1 : Vec Ideal S1x5120 .f32) (x2 : Vec Ideal S1280x256 .bf16) (x3 : Vec Ideal S256x256 .bf16) (x4 : Vec Ideal S1 .f32) (x5 : Vec Ideal S256x256 .bf16) :
    out0_A_7 (F := Ideal) c i a1 h1 a2 h2 a3 h3 a4 h4 a5 h5 a6 h6 a7 h7 a8 h8 a9 h9 a10 h10 a11 h11 a12 h12 a13 h13 a14 h14 x0 x1 x2 x3 x4 x5 = fp8Out ⟨c, i, a1, h1, a2, h2, a3, h3, a4, h4, a5, h5, a6, h6, a7, h7, a8, h8, a9, h9, a10, h10, a11, h11, a12, h12, a13, h13, a14, h14, x0, x1, x2, x3, x4, x5⟩ := rfl

theorem flushed7_point : (dats m 0 c).flushed 7 t = (cfg0.win 7).cut (grid0.coords t) (fp8Out (point m c t)) :=
  (flushed7_A m c t).trans (congrArg ((cfg0.win 7).cut (grid0.coords t)) (fp8Out_mk _ _ _ _ _ _ _ _ _ _ _ _ _ _ _ _ _ _ _ _ _ _ _ _ _ _ _ _ _ _ _ _ _ _ _ _ ))

theorem rowOut_mk (c : Dev nD) (i : grid0.Coords) (a1 : Memref sig .tc .vmem S256x5120 .bf16) (h1 : a1.IsWhole) (a2 : Memref sig .tc .vmem S1x5120 .f32) (h2 : a2.IsWhole) (a3 : Memref sig .tc .vmem S1280x256 .bf16) (h3 : a3.IsWhole) (a4 : Memref sig .tc .vmem S256x256 .bf16) (h4 : a4.IsWhole) (a5 : Memref sig .tc .smem S1 .f32) (h5 : a5.IsWhole) (a6 : Memref sig .tc .vmem S256x256 .bf16) (h6 : a6.IsWhole) (a7 : Memref sig .tc .vmem S256x5120 .i8) (h7 : a7.IsWhole) (a8 : Memref sig .tc .vmem S256x5120 .fp8e4m3) (h8 : a8.IsWhole) (a9 : Memref sig .tc .vmem S1x1x256 .f32) (h9 : a9.IsWhole) (a10 : Memref sig .tc .vmem S256x128 .f32) (h10 : a10.IsWhole) (a11 : Memref sig .tc .vmem S256x5120 .bf16) (h11 : a11.IsWhole) (a12 : Memref sig .tc .vmem S2x2880x2x128 .bf16) (h12 : a12.IsWhole) (a13 : Memref sig .tc .vmem S2x5376x128 .f32) (h13 : a13.IsWhole) (a14 : Memref sig .tc .vmem S5120x256 .fp8e4m3) (h14 : a14.IsWhole) (x0 : Vec Ideal S256x5120 .bf16) (x1 : Vec Ideal S1x5120 .f32) (x2 : Vec Ideal S1280x256 .bf16) (x3 : Vec Ideal S256x256 .bf16) (x4 : Vec Ideal S1 .f32) (x5 : Vec Ideal S256x256 .bf16) :
    out0_A_8 (F := Ideal) c i a1 h1 a2 h2 a3 h3 a4 h4 a5 h5 a6 h6 a7 h7 a8 h8 a9 h9 a10 h10 a11 h11 a12 h12 a13 h13 a14 h14 x0 x1 x2 x3 x4 x5 = rowOut ⟨c, i, a1, h1, a2, h2, a3, h3, a4, h4, a5, h5, a6, h6, a7, h7, a8, h8, a9, h9, a10, h10, a11, h11, a12, h12, a13, h13, a14, h14, x0, x1, x2, x3, x4, x5⟩ := rfl

theorem flushed8_point : (dats m 0 c).flushed 8 t = (cfg0.win 8).cut (grid0.coords t) (rowOut (point m c t)) :=
  (flushed8_A m c t).trans (congrArg ((cfg0.win 8).cut (grid0.coords t)) (rowOut_mk _ _ _ _ _ _ _ _ _ _ _ _ _ _ _ _ _ _ _ _ _ _ _ _ _ _ _ _ _ _ _ _ _ _ _ _ ))

theorem colOut_mk (c : Dev nD) (i : grid0.Coords) (a1 : Memref sig .tc .vmem S256x5120 .bf16) (h1 : a1.IsWhole) (a2 : Memref sig .tc .vmem S1x5120 .f32) (h2 : a2.IsWhole) (a3 : Memref sig .tc .vmem S1280x256 .bf16) (h3 : a3.IsWhole) (a4 : Memref sig .tc .vmem S256x256 .bf16) (h4 : a4.IsWhole) (a5 : Memref sig .tc .smem S1 .f32) (h5 : a5.IsWhole) (a6 : Memref sig .tc .vmem S256x256 .bf16) (h6 : a6.IsWhole) (a7 : Memref sig .tc .vmem S256x5120 .i8) (h7 : a7.IsWhole) (a8 : Memref sig .tc .vmem S256x5120 .fp8e4m3) (h8 : a8.IsWhole) (a9 : Memref sig .tc .vmem S1x1x256 .f32) (h9 : a9.IsWhole) (a10 : Memref sig .tc .vmem S256x128 .f32) (h10 : a10.IsWhole) (a11 : Memref sig .tc .vmem S256x5120 .bf16) (h11 : a11.IsWhole) (a12 : Memref sig .tc .vmem S2x2880x2x128 .bf16) (h12 : a12.IsWhole) (a13 : Memref sig .tc .vmem S2x5376x128 .f32) (h13 : a13.IsWhole) (a14 : Memref sig .tc .vmem S5120x256 .fp8e4m3) (h14 : a14.IsWhole) (x0 : Vec Ideal S256x5120 .bf16) (x1 : Vec Ideal S1x5120 .f32) (x2 : Vec Ideal S1280x256 .bf16) (x3 : Vec Ideal S256x256 .bf16) (x4 : Vec Ideal S1 .f32) (x5 : Vec Ideal S256x256 .bf16) :
    out0_A_9 (F := Ideal) c i a1 h1 a2 h2 a3 h3 a4 h4 a5 h5 a6 h6 a7 h7 a8 h8 a9 h9 a10 h10 a11 h11 a12 h12 a13 h13 a14 h14 x0 x1 x2 x3 x4 x5 = colOut ⟨c, i, a1, h1, a2, h2, a3, h3, a4, h4, a5, h5, a6, h6, a7, h7, a8, h8, a9, h9, a10, h10, a11, h11, a12, h12, a13, h13, a14, h14, x0, x1, x2, x3, x4, x5⟩ := rfl

theorem flushed9_point : (dats m 0 c).flushed 9 t = (cfg0.win 9).cut (grid0.coords t) (colOut (point m c t)) :=
  (flushed9_A m c t).trans (congrArg ((cfg0.win 9).cut (grid0.coords t)) (colOut_mk _ _ _ _ _ _ _ _ _ _ _ _ _ _ _ _ _ _ _ _ _ _ _ _ _ _ _ _ _ _ _ _ _ _ _ _ ))

end Cert.TransformIdeal.Parts

end
-- ==== Proof.TransformResults.lean ====
/-
  The transform's four result arrays over the extended reals, entry by entry: the codes, twice, and the rows' steps, twice.
-/
module

public import proofs.«01_k».proof.Proof.TransformArrays

@[expose] public section

set_option maxRecDepth 16384

noncomputable section

namespace Cert.TransformIdeal.Parts

open Cert.TransformIdeal Cert.TransformIdeal.Gen Cert.TransformIdeal.Value Idealize.ShloMosaic Idealize.ShloMosaic.TcCoe Idealize.SL.Sem

variable (m : (ℓ : Loc nD τ sig) → Buf (Elt Ideal) ℓ) (c : Dev nD) (t : Fin cfg0.N)

theorem flushes : ∀ t : Fin cfg0.N, (cfg0.win 6).flush t = true ∧ (cfg0.win 7).flush t = true ∧ (cfg0.win 8).flush t = true ∧ (cfg0.win 9).flush t = true :=
  (by decide +kernel : ∀ t : Fin grid0.N, _)

/-- The point that writes row `r`, and the row's place in that point's block. -/
def pointOf (r : Fin 12288) : Fin cfg0.N := ⟨r.val / 256, by rw [show cfg0.N = 48 from N_0]; omega⟩
def inBlock (r : Fin 12288) : Fin 256 := ⟨r.val % 256, by omega⟩

theorem rowOf_pointOf (r : Fin 12288) : rowOf (pointOf r) (inBlock r) = r :=
  Fin.ext (show 256 * (r.val / 256) + r.val % 256 = r.val by omega)

theorem block6 (a : Fin 256) (n : Fin 5120) : ((dats m 0 c).arrAt 6 cfg0.N : Vec Ideal S12288x5120 .i8) (ix2 (rowOf t a) n) = codesOut (point m c t) (ix2 a n) := by
  have ho := congrFun ((blocks6 m c t (flushes t).1).trans (flushed6_point m c t)) (ix2 a n)
  have hi := (idx_all t).2.1
  rw [View.read_apply] at ho
  refine Eq.trans (congrArg ((dats m 0 c).arrAt 6 cfg0.N : Vec Ideal S12288x5120 .i8) ?_) ho
  funext d
  apply Fin.ext
  match d with
  | ⟨0, _⟩ => show 256 * t.val + a.val = win0_6.index t 0 * 256 + 1 * a.val; rw [hi.1]; omega
  | ⟨1, _⟩ => show n.val = win0_6.index t 1 * 5120 + 1 * n.val; rw [hi.2]; omega

theorem block7 (a : Fin 256) (n : Fin 5120) : ((dats m 0 c).arrAt 7 cfg0.N : Vec Ideal S12288x5120 .fp8e4m3) (ix2 (rowOf t a) n) = fp8Out (point m c t) (ix2 a n) := by
  have ho := congrFun ((blocks7 m c t (flushes t).2.1).trans (flushed7_point m c t)) (ix2 a n)
  have hi := (idx_all t).2.2.1
  rw [View.read_apply] at ho
  refine Eq.trans (congrArg ((dats m 0 c).arrAt 7 cfg0.N : Vec Ideal S12288x5120 .fp8e4m3) ?_) ho
  funext d
  apply Fin.ext
  match d with
  | ⟨0, _⟩ => show 256 * t.val + a.val = win0_7.index t 0 * 256 + 1 * a.val; rw [hi.1]; omega
  | ⟨1, _⟩ => show n.val = win0_7.index t 1 * 5120 + 1 * n.val; rw [hi.2]; omega

theorem block8 (a : Fin 256) : ((dats m 0 c).arrAt 8 cfg0.N : Vec Ideal S48x1x256 .f32) (ix3 ⟨t.val, lt48 t⟩ 0 a) = rowOut (point m c t) (ix3 0 0 a) := by
  have ho := congrFun ((blocks8 m c t (flushes t).2.2.1).trans (flushed8_point m c t)) (ix3 0 0 a)
  have hi := (idx_all t).2.2.2.1
  rw [View.read_apply] at ho
  refine Eq.trans (congrArg ((dats m 0 c).arrAt 8 cfg0.N : Vec Ideal S48x1x256 .f32) ?_) ho
  funext d
  apply Fin.ext
  match d with
  | ⟨0, _⟩ => show t.val = win0_8.index t 0 * 1 + 1 * 0; rw [hi.1]; omega
  | ⟨1, _⟩ => show 0 = win0_8.index t 1 * 1 + 1 * 0; rw [hi.2.1]
  | ⟨2, _⟩ => show a.val = win0_8.index t 2 * 256 + 1 * a.val; rw [hi.2.2]; omega

theorem block9 (a : Fin 256) (l : Fin 128) : ((dats m 0 c).arrAt 9 cfg0.N : Vec Ideal S12288x128 .f32) (ix2 (rowOf t a) l) = colOut (point m c t) (ix2 a l) := by
  have ho := congrFun ((blocks9 m c t (flushes t).2.2.2).trans (flushed9_point m c t)) (ix2 a l)
  have hi := (idx_all t).2.2.2.2
  rw [View.read_apply] at ho
  refine Eq.trans (congrArg ((dats m 0 c).arrAt 9 cfg0.N : Vec Ideal S12288x128 .f32) ?_) ho
  funext d
  apply Fin.ext
  match d with
  | ⟨0, _⟩ => show 256 * t.val + a.val = win0_9.index t 0 * 256 + 1 * a.val; rw [hi.1]; omega
  | ⟨1, _⟩ => show l.val = win0_9.index t 1 * 128 + 1 * l.val; rw [hi.2]; omega

/-! ## The results -/

theorem result_codes (r : Fin 12288) (n : Fin 5120) :
    ((dats m 0 c).arrAt 6 cfg0.N : Vec Ideal S12288x5120 .i8) (ix2 r n) = Ideal.fptosi 8 (codeAt m c r n) := by
  have h := (block6 m c (pointOf r) (inBlock r) n).trans (codesOut_apply _ (P m c) (hB m c _) (hE m c _) (inBlock r) n)
  rw [coded_point, rowOf_pointOf] at h
  exact h

theorem result_fp8 (r : Fin 12288) (n : Fin 5120) :
    ((dats m 0 c).arrAt 7 cfg0.N : Vec Ideal S12288x5120 .fp8e4m3) (ix2 r n) = codeAt m c r n := by
  have h := (block7 m c (pointOf r) (inBlock r) n).trans (fp8Out_apply _ (P m c) (hB m c _) (hE m c _) (inBlock r) n)
  rw [coded_point, rowOf_pointOf] at h
  exact h

theorem result_rows (u : Fin 48) (a : Fin 256) :
    ((dats m 0 c).arrAt 8 cfg0.N : Vec Ideal S48x1x256 .f32) (ix3 u 0 a) = stepAt m c ⟨256 * u.val + a.val, by omega⟩ := by
  have h := (block8 m c ⟨u.val, lt_of_lt_of_eq u.isLt N_0.symm⟩ a).trans (rowOut_apply _ (P m c) (hB m c _) a)
  rw [steps_point] at h
  exact h

theorem result_columns (r : Fin 12288) (l : Fin 128) :
    ((dats m 0 c).arrAt 9 cfg0.N : Vec Ideal S12288x128 .f32) (ix2 r l) = stepAt m c r := by
  have h := (block9 m c (pointOf r) (inBlock r) l).trans (colOut_apply _ (P m c) (hB m c _) (inBlock r) l)
  rw [steps_point, rowOf_pointOf] at h
  exact h

end Cert.TransformIdeal.Parts

end
-- ==== Proof.TransformReferenceValue.lean ====
/-
  The transform reference's arrays over the extended reals: its host lines one after another, entry by entry.
-/
module

public import proofs.«01_k».proof.Proof.Gen.TransformReferenceIdeal.Value
public import proofs.«01_k».proof.Proof.Rotate
public import Idealize.ShloMosaic.Lib.StableHlo.ReadAt
public import Idealize.ShloMosaic.Lib.Affine
public import Idealize.ShloMosaic.Lib.Tactic

@[expose] public section

set_option maxRecDepth 16384

noncomputable section

namespace Cert.TransformReferenceIdeal.Whole

open Cert.TransformReferenceIdeal Cert.TransformReferenceIdeal.Gen Cert.TransformReferenceIdeal.Value Idealize.ShloMosaic Idealize.ShloMosaic.TcCoe Idealize.SL.Sem

variable (m : (ℓ : Loc nD τ sig) → Buf (Elt Ideal) ℓ) (c : Dev nD)

/-- The rotations' matrices and a row of `x` times its scales, from the argument arrays. -/
def P (i a : Fin 64) : EReal := (m ((c : Thread nD τ).loc main_arg2) : Vec Ideal S64x64 .bf16) (ix2 i a)
def Q (j k : Fin 80) : EReal := (m ((c : Thread nD τ).loc main_arg3) : Vec Ideal S80x80 .bf16) (ix2 j k)
def x (r : Fin 12288) (n : Fin 5120) : EReal :=
  (m ((c : Thread nD τ).loc main_arg0) : Vec Ideal S6x2048x5120 .bf16) (ix3 ⟨r.val / 2048, by omega⟩ ⟨r.val % 2048, by omega⟩ n)
def scale (n : Fin 5120) : EReal := (m ((c : Thread nD τ).loc main_arg1) : Vec Ideal S5120 .f32) (ix1 n)
def X (r : Fin 12288) (n : Fin 5120) : EReal := x m c r n * scale m c n
def L : EReal := (m ((c : Thread nD τ).loc main_arg4) : Vec Ideal S_ .f32) ix0

/-- The rotated table, the step and a code of row `r`. -/
def table (r : Fin 12288) : Fin 64 → Fin 80 → EReal := Rotate.rot (X m c r) (P m c) (Q m c)
def stepAt (r : Fin 12288) : EReal := Rotate.step (L m c) (Rotate.peak (table m c r))
def codeAt (r : Fin 12288) (n : Fin 5120) : EReal := Rotate.code (table m c r ⟨n.val / 80, by omega⟩ ⟨n.val % 80, by omega⟩) (stepAt m c r)

/-! ## The host lines in three stretches: up to the rows' peaks, up to the steps' candidates, and the rest -/

abbrev Mem := Valuation τ sig (Elt Ideal)

abbrev peakOps {F : FTy → Type} [FloatOps F] : List (HloOp τ sig (Elt F)) :=
  [ StableHlo.unary main_arg0 main_v0 ((extf .f32 · bitsLt_bf16_f32) : (⟨S6x2048x5120, .bf16⟩ : BufTy).Contents (Elt F) → (⟨S6x2048x5120, .f32⟩ : BufTy).Contents (Elt F)),
    StableHlo.unary main_arg1 main_v1 (broadcastInDim S1x1x5120 ![2] bcast_S5120_S1x1x5120_2 : (⟨S5120, .f32⟩ : BufTy).Contents (Elt F) → (⟨S1x1x5120, .f32⟩ : BufTy).Contents (Elt F)),
    StableHlo.unary main_v1 main_v2 (broadcastInDim S6x2048x5120 ![0, 1, 2] bcast_S1x1x5120_S6x2048x5120_0_1_2 : (⟨S1x1x5120, .f32⟩ : BufTy).Contents (Elt F) → (⟨S6x2048x5120, .f32⟩ : BufTy).Contents (Elt F)),
    StableHlo.binary main_v0 main_v2 main_v3 (mulf : (⟨S6x2048x5120, .f32⟩ : BufTy).Contents (Elt F) → (⟨S6x2048x5120, .f32⟩ : BufTy).Contents (Elt F) → (⟨S6x2048x5120, .f32⟩ : BufTy).Contents (Elt F)),
    StableHlo.unary main_v3 main_v4 ((truncf .bf16 · bitsLt_bf16_f32) : (⟨S6x2048x5120, .f32⟩ : BufTy).Contents (Elt F) → (⟨S6x2048x5120, .bf16⟩ : BufTy).Contents (Elt F)),
    StableHlo.reshape main_v4 main_v5 (rfl : (.bf16 : EltTy) = .bf16) shapeCasts_S6x2048x5120_S12288x64x80,
    StableHlo.binary main_v5 main_arg3 main_v6 ((fun l r => Host.dotGeneral dot_S12288x64x80_S80x80_S12288x64x80_2_0_01_1_n_n none l r) : (⟨S12288x64x80, .bf16⟩ : BufTy).Contents (Elt F) → (⟨S80x80, .bf16⟩ : BufTy).Contents (Elt F) → (⟨S12288x64x80, .f32⟩ : BufTy).Contents (Elt F)),
    StableHlo.unary main_v6 main_v7 ((truncf .bf16 · bitsLt_bf16_f32) : (⟨S12288x64x80, .f32⟩ : BufTy).Contents (Elt F) → (⟨S12288x64x80, .bf16⟩ : BufTy).Contents (Elt F)),
    StableHlo.binary main_v7 main_arg2 main_v8 ((fun l r => Host.dotGeneral dot_S12288x64x80_S64x64_S12288x80x64_1_0_02_1_n_n none l r) : (⟨S12288x64x80, .bf16⟩ : BufTy).Contents (Elt F) → (⟨S64x64, .bf16⟩ : BufTy).Contents (Elt F) → (⟨S12288x80x64, .f32⟩ : BufTy).Contents (Elt F)),
    StableHlo.unary main_v8 main_v9 ((transpose S12288x64x80 [0, 2, 1] · transposes_S12288x80x64_S12288x64x80_0_2_1) : (⟨S12288x80x64, .f32⟩ : BufTy).Contents (Elt F) → (⟨S12288x64x80, .f32⟩ : BufTy).Contents (Elt F)),
    StableHlo.reshape main_v9 main_v10 (rfl : (.f32 : EltTy) = .f32) shapeCasts_S12288x64x80_S12288x5120,
    StableHlo.unary main_arg4 main_v11 (Host.negf : (⟨S_, .f32⟩ : BufTy).Contents (Elt F) → (⟨S_, .f32⟩ : BufTy).Contents (Elt F)),
    StableHlo.unary main_v11 main_v12 (Host.exp : (⟨S_, .f32⟩ : BufTy).Contents (Elt F) → (⟨S_, .f32⟩ : BufTy).Contents (Elt F)),
    StableHlo.nullary main_cst (constant S_ .f32 0x3F800000#32),
    StableHlo.binary main_cst main_v12 main_v13 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3F800000#32),
    StableHlo.binary main_cst_0 main_v13 main_v14 (Host.divf : (⟨S_, .f32⟩ : BufTy).Contents (Elt F) → (⟨S_, .f32⟩ : BufTy).Contents (Elt F) → (⟨S_, .f32⟩ : BufTy).Contents (Elt F)),
    StableHlo.unary main_v10 main_v15 (Host.absf : (⟨S12288x5120, .f32⟩ : BufTy).Contents (Elt F) → (⟨S12288x5120, .f32⟩ : BufTy).Contents (Elt F)),
    StableHlo.nullary main_cst_1 (constant S_ .f32 0xFF800000#32),
    StableHlo.binary main_v15 main_cst_1 main_v16 ((fun x v => Host.reduce FloatOps.maximumf x v reducesTo_S12288x5120_S12288_d1 h_S_) : (⟨S12288x5120, .f32⟩ : BufTy).Contents (Elt F) → (⟨S_, .f32⟩ : BufTy).Contents (Elt F) → (⟨S12288, .f32⟩ : BufTy).Contents (Elt F)) ]

abbrev stepOps {F : FTy → Type} [FloatOps F] : List (HloOp τ sig (Elt F)) :=
  [ StableHlo.nullary main_cst_2 (constant S_ .f32 0x00000000#32),
    StableHlo.unary main_cst_2 main_v17 (broadcastInDim S12288 ![] bcast_S_S12288 : (⟨S_, .f32⟩ : BufTy).Contents (Elt F) → (⟨S12288, .f32⟩ : BufTy).Contents (Elt F)),
    StableHlo.binary main_v16 main_v17 main_v18 (cmpf .oeq : (⟨S12288, .f32⟩ : BufTy).Contents (Elt F) → (⟨S12288, .f32⟩ : BufTy).Contents (Elt F) → (⟨S12288, .i1⟩ : BufTy).Contents (Elt F)),
    StableHlo.unary main_v14 main_v19 (broadcastInDim S12288 ![] bcast_S_S12288 : (⟨S_, .f32⟩ : BufTy).Contents (Elt F) → (⟨S12288, .f32⟩ : BufTy).Contents (Elt F)),
    StableHlo.binary main_v19 main_v16 main_v20 (mulf : (⟨S12288, .f32⟩ : BufTy).Contents (Elt F) → (⟨S12288, .f32⟩ : BufTy).Contents (Elt F) → (⟨S12288, .f32⟩ : BufTy).Contents (Elt F)),
    StableHlo.nullary main_cst_3 (constant S_ .f32 0x40E00000#32),
    StableHlo.unary main_cst_3 main_v21 (broadcastInDim S12288 ![] bcast_S_S12288 : (⟨S_, .f32⟩ : BufTy).Contents (Elt F) → (⟨S12288, .f32⟩ : BufTy).Contents (Elt F)),
    StableHlo.binary main_v20 main_v21 main_v22 (Host.divf : (⟨S12288, .f32⟩ : BufTy).Contents (Elt F) → (⟨S12288, .f32⟩ : BufTy).Contents (Elt F) → (⟨S12288, .f32⟩ : BufTy).Contents (Elt F)),
    StableHlo.nullary main_cst_4 (constant S_ .f32 0x3F800000#32) ]

abbrev codeOps : List (HloOp τ sig (Elt Ideal)) := List.flatten [hostOps0_1, hostOps0_2, hostOps0_3, hostOps0_4, hostOps0_5, hostOps0_6]

theorem after_join (l₁ l₂ : List (HloOp τ sig (Elt Ideal))) (W : Mem) : StableHlo.after (l₁ ++ l₂) W = StableHlo.after l₂ (StableHlo.after l₁ W) := by
  induction l₁ generalizing W with
  | nil => rfl
  | cons op l ih => exact ih _

/-- The memory after the first stretch, and after the second. -/
def first : Mem := StableHlo.after peakOps fun b => m (c, b)
def second : Mem := StableHlo.after stepOps (first m c)

theorem V_eq (b : Ref sig .tc) : V m c b = StableHlo.after codeOps (second m c) b := by
  unfold second first
  rw [← after_join, ← after_join]
  rfl

/-- What a memory holds of the rotated table, the logistic, the peaks, the steps' candidates and their stand-in. -/
def tableOf (W : Mem) (r : Fin 12288) (n : Fin 5120) : EReal := (W (Proc.tc.devRef main_v10) : Vec Ideal S12288x5120 .f32) (ix2 r n)
def logisticOf (W : Mem) : EReal := (W (Proc.tc.devRef main_v14) : Vec Ideal S_ .f32) ix0
def peakOf (W : Mem) (r : Fin 12288) : EReal := (W (Proc.tc.devRef main_v16) : Vec Ideal S12288 .f32) (ix1 r)
def zeroOf (W : Mem) (r : Fin 12288) : BitVec 1 := (W (Proc.tc.devRef main_v18) : Vec Ideal S12288 .i1) (ix1 r)
def candidateOf (W : Mem) (r : Fin 12288) : EReal := (W (Proc.tc.devRef main_v22) : Vec Ideal S12288 .f32) (ix1 r)
def oneOf (W : Mem) : EReal := (W (Proc.tc.devRef main_cst_4) : Vec Ideal S_ .f32) ix0

/-! ## Up to the peaks -/

theorem first_table (r : Fin 12288) (n : Fin 5120) : tableOf (first m c) r n = table m c r ⟨n.val / 80, by omega⟩ ⟨n.val % 80, by omega⟩ := by
  unfold tableOf first
  after_reads_at
  exact Finset.sum_congr rfl fun i _ => mul_comm _ _

theorem first_logistic : logisticOf (first m c) = Ideal.logistic (L m c) := by
  unfold logisticOf first
  after_reads_at
  rfl

/-- The greatest of a row's magnitudes, its bound read row by row. -/
theorem fold_peak (Z : Fin 64 → Fin 80 → EReal) : Finset.fold max (Ideal.ofBits FTy.f32 4286578688#32)
    (fun n : Fin 5120 => max (Z ⟨n.val / 80, by omega⟩ ⟨n.val % 80, by omega⟩) (-(Z ⟨n.val / 80, by omega⟩ ⟨n.val % 80, by omega⟩))) Finset.univ = Rotate.peak Z := by
  refine Rotate.eq_peak fun b => ?_
  rw [Finset.fold_max_le, Rotate.bottom]
  constructor
  · intro h a k
    have := h.2 ⟨a.val * 80 + k.val, by omega⟩ (Finset.mem_univ _)
    simpa only [show (⟨(a.val * 80 + k.val) / 80, by omega⟩ : Fin 64) = a from Fin.ext (by show (a.val * 80 + k.val) / 80 = a.val; omega),
      show (⟨(a.val * 80 + k.val) % 80, by omega⟩ : Fin 80) = k from Fin.ext (by show (a.val * 80 + k.val) % 80 = k.val; omega)] using this
  · exact fun h => ⟨bot_le, fun n _ => h _ _⟩

theorem first_peak (r : Fin 12288) : peakOf (first m c) r = Rotate.peak (table m c r) := by
  unfold peakOf first
  after_reads_at
  refine Eq.trans ?_ (fold_peak (table m c r))
  refine congrArg (fun f => Finset.fold max (Ideal.ofBits FTy.f32 4286578688#32) f Finset.univ) (funext fun n => ?_)
  have e : (∑ x : Fin 64, Rotate.mid (X m c r) (Q m c) x ⟨n.val % 80, by omega⟩ * P m c x ⟨n.val / 80, by omega⟩) = table m c r ⟨n.val / 80, by omega⟩ ⟨n.val % 80, by omega⟩ :=
    Finset.sum_congr rfl fun i _ => mul_comm _ _
  exact congrArg (fun z : EReal => max z (-z)) e

/-! ## Up to the steps' candidates -/

section lines
variable (W : Mem)

theorem step_zero (r : Fin 12288) : zeroOf (StableHlo.after stepOps W) r = FloatOps.cmpf (F := Ideal) (φ := .f32) CmpFPredicate.oeq (peakOf W r) (0 : EReal) := by
  unfold zeroOf peakOf
  after_reads_at

theorem step_value (r : Fin 12288) : candidateOf (StableHlo.after stepOps W) r = Ideal.div (logisticOf W * peakOf W r) 7 := by
  rw [← Rotate.seven]
  unfold candidateOf
  after_reads_at
  rfl

theorem step_one : oneOf (StableHlo.after stepOps W) = 1 := by
  unfold oneOf
  after_reads_at

theorem step_table (r : Fin 12288) (n : Fin 5120) : tableOf (StableHlo.after stepOps W) r n = tableOf W r n := by
  unfold tableOf
  after_reads_at

/-- The step the last stretch picks for row `r`. -/
def picked (r : Fin 12288) : EReal := Scalar.select (zeroOf W r) (oneOf W) (candidateOf W r)

/-- The two clip bounds, as words. -/
theorem seven_word : FloatOps.sitofp (F := Ideal) FTy.f32 7#32 = (7 : EReal) := by
  show (((7#32 : BitVec 32).toInt : ℝ) : EReal) = 7
  rw [show (7#32 : BitVec 32).toInt = 7 from by decide]
  norm_num
  rfl
theorem negSeven_word : FloatOps.sitofp (F := Ideal) FTy.f32 4294967289#32 = (-7 : EReal) := by
  show (((4294967289#32 : BitVec 32).toInt : ℝ) : EReal) = -7
  rw [show (4294967289#32 : BitVec 32).toInt = -7 from by decide]
  norm_num
  rfl

theorem code_value (r : Fin 12288) (n : Fin 5120) : ((StableHlo.after codeOps W (Proc.tc.devRef main_v28) : Vec Ideal S12288x5120 .f32) (ix2 r n) : EReal)
    = Rotate.code (tableOf W r n) (picked W r) := by
  after_reads_at
  rw [seven_word, negSeven_word]
  rfl

theorem code_rows (u : Fin 48) (a : Fin 256) : ((StableHlo.after codeOps W (Proc.tc.devRef main_v29) : Vec Ideal S48x1x256 .f32) (ix3 u 0 a) : EReal)
    = picked W ⟨256 * u.val + a.val, by omega⟩ := by
  rw [show (⟨256 * u.val + a.val, by omega⟩ : Fin 12288) = ⟨u.val * 256 + a.val, by omega⟩ from Fin.ext (by show 256 * u.val + a.val = u.val * 256 + a.val; omega)]
  after_reads_at
  rfl

theorem code_columns (r : Fin 12288) (l : Fin 128) : ((StableHlo.after codeOps W (Proc.tc.devRef main_v31) : Vec Ideal S12288x128 .f32) (ix2 r l) : EReal)
    = picked W r := by
  after_reads_at
  rfl

end lines

/-! ## The arrays of the host lines -/

theorem pick (l p : EReal) : Scalar.select (FloatOps.cmpf (F := Ideal) (φ := .f32) CmpFPredicate.oeq p (0 : EReal)) (1 : EReal) (Ideal.div (Ideal.logistic l * p) 7) = Rotate.step l p := by
  unfold Rotate.step
  by_cases h : p = 0
  · subst h
    rw [if_pos rfl]
    show (if Ideal.cmp CmpFPredicate.oeq (0 : EReal) 0 = 1#1 then (1 : EReal) else _) = 1
    exact if_pos (by simp [Ideal.cmp])
  · rw [if_neg h]
    show (if Ideal.cmp CmpFPredicate.oeq p 0 = 1#1 then (1 : EReal) else _) = _
    exact if_neg (by simp [Ideal.cmp, h])

theorem second_picked (r : Fin 12288) : picked (second m c) r = stepAt m c r := by
  unfold picked second stepAt
  rw [step_zero, step_one, step_value, first_peak, first_logistic]
  exact pick _ _

theorem V_codes (r : Fin 12288) (n : Fin 5120) : ((V m c main_v28 : Vec Ideal S12288x5120 .f32) (ix2 r n) : EReal) = codeAt m c r n := by
  refine (congrFun (V_eq m c main_v28) (ix2 r n)).trans ((code_value (second m c) r n).trans ?_)
  unfold codeAt
  rw [second_picked]
  refine congrArg (fun z => Rotate.code z (stepAt m c r)) ?_
  unfold second
  rw [step_table, first_table]

theorem V_rows (u : Fin 48) (a : Fin 256) : ((V m c main_v29 : Vec Ideal S48x1x256 .f32) (ix3 u 0 a) : EReal) = stepAt m c ⟨256 * u.val + a.val, by omega⟩ :=
  (congrFun (V_eq m c main_v29) (ix3 u 0 a)).trans ((code_rows (second m c) u a).trans (second_picked m c _))

theorem V_columns (r : Fin 12288) (l : Fin 128) : ((V m c main_v31 : Vec Ideal S12288x128 .f32) (ix2 r l) : EReal) = stepAt m c r :=
  (congrFun (V_eq m c main_v31) (ix2 r l)).trans ((code_columns (second m c) r l).trans (second_picked m c r))

/-! ## The results -/

/-- The one grid point. -/
def t₀ : Fin cfg0.N := ⟨0, by decide⟩

theorem iblk0 : (iblk m c 0 t₀ : Vec Ideal S12288x5120 .f32) = V m c main_v28 :=
  Memref.read_access_unit_zero (Elt Ideal) main_v28 (show (fun a => (win0_0.index t₀) a * main_v28.ty.shape.size a) = fun _ => 0 from
    funext fun a => by fin_cases a <;> decide) (fun a => by fin_cases a <;> decide) (V m c main_v28)

theorem hz : (![0, 0] : Fin 2 → Nat) = fun _ => 0 := funext fun a => by fin_cases a <;> rfl

theorem out1_apply (x0 : Vec Ideal S12288x5120 .f32) (r : Fin 12288) (n : Fin 5120) :
    out0_1 (F := Ideal) x0 (ix2 r n) = Ideal.fptosi 8 (x0 (ix2 r n)) := by
  unfold out0_1
  rw [View.canon_unit_zero hz, View.ld_unit_zero (S := S12288x5120) hz]
  pointwise [k0_pay1]
  rfl

theorem out2_apply (x0 : Vec Ideal S12288x5120 .f32) (r : Fin 12288) (n : Fin 5120) :
    (out0_2 (F := Ideal) x0 (ix2 r n) : EReal) = (((Ideal.fptosi 8 (x0 (ix2 r n))).toInt : ℝ) : EReal) := by
  unfold out0_2
  rw [View.canon_unit_zero hz, View.ld_unit_zero (S := S12288x5120) hz]
  pointwise [k0_pay2, k0_pay1]
  rfl

theorem final1 : ((dats m 0 c).arrAt 1 cfg0.N : Vec Ideal S12288x5120 .i8) = out0_1 (V m c main_v28) := by
  have ho := blocks1 m c t₀ (by decide)
  have hz1 : (fun a => (win0_1.index t₀) a * main_v32_0.ty.shape.size a) = fun _ => 0 := funext fun a => by fin_cases a <;> decide
  have hr1 := fun f => Memref.read_access_unit_zero (Elt Ideal) main_v32_0 hz1 (fun a => by fin_cases a <;> decide) f
  rw [hr1] at ho
  rw [ho, flushed1, iblk0]
  rfl

theorem final2 : ((dats m 0 c).arrAt 2 cfg0.N : Vec Ideal S12288x5120 .fp8e4m3) = out0_2 (V m c main_v28) := by
  have ho := blocks2 m c t₀ (by decide)
  have hz2 : (fun a => (win0_2.index t₀) a * main_v32_1.ty.shape.size a) = fun _ => 0 := funext fun a => by fin_cases a <;> decide
  have hr2 := fun f => Memref.read_access_unit_zero (Elt Ideal) main_v32_1 hz2 (fun a => by fin_cases a <;> decide) f
  rw [hr2] at ho
  rw [ho, flushed2, iblk0]
  rfl

theorem result_codes (r : Fin 12288) (n : Fin 5120) :
    ((dats m 0 c).arrAt 1 cfg0.N : Vec Ideal S12288x5120 .i8) (ix2 r n) = Ideal.fptosi 8 (codeAt m c r n) :=
  (congrFun (final1 m c) (ix2 r n)).trans ((out1_apply _ r n).trans (congrArg (Ideal.fptosi 8) (V_codes m c r n)))

theorem result_fp8 (r : Fin 12288) (n : Fin 5120) :
    ((dats m 0 c).arrAt 2 cfg0.N : Vec Ideal S12288x5120 .fp8e4m3) (ix2 r n) = codeAt m c r n :=
  (congrFun (final2 m c) (ix2 r n)).trans ((out2_apply _ r n).trans
    ((congrArg (fun z => (((Ideal.fptosi 8 z).toInt : ℝ) : EReal)) (V_codes m c r n)).trans (Rotate.code_word _ _)))

/-! ## The run -/

variable (ρ : Dev nD → PrngReg)

/-- The reference runs and leaves the two outputs of its body, the two arrays of steps its host lines made, and the arguments as they were. -/
theorem run : θ_run defs (onTc (τ := τ) (main (F := Ideal))) ⟨m, fun _ => 0, ρ⟩ fun r => ∀ c : Dev nD,
      r.2.mem ((c : Thread nD τ).loc main_v32_0) = (dats m 0 c).arrAt 1 cfg0.N
      ∧ r.2.mem ((c : Thread nD τ).loc main_v32_1) = (dats m 0 c).arrAt 2 cfg0.N
      ∧ r.2.mem ((c : Thread nD τ).loc main_v29) = V m c main_v29
      ∧ r.2.mem ((c : Thread nD τ).loc main_v31) = V m c main_v31
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post1 m r h c, post2 m r h c,
      (h c).2 main_v29 (Pipeline.mem_restRefs_of main_v29 (by decide) (by decide)),
      (h c).2 main_v31 (Pipeline.mem_restRefs_of main_v31 (by decide) (by decide)),
      kept_main_arg0 m r h c, kept_main_arg1 m r h c, kept_main_arg2 m r h c, kept_main_arg3 m r h c, kept_main_arg4 m r h c⟩)
    (run_main m ρ)

end Cert.TransformReferenceIdeal.Whole

end
-- ==== Proof.lean ====
/-
  The proof of `Cert.Claim`: the six frames, the idealizations (of the matrix product nothing is rewritten, of the
  transform only how pairs of bf16 words are moved) and, for each of the two calls, the equation of the kernel's results
  with the reference's over the extended reals. The matrix product's arrays both hold the entries of Proof/Nibbles.lean,
  the transform's the codes and steps of Proof/Rotate.lean, of the argument arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Transform
public import proofs.«01_k».proof.Proof.Gen.Transform.Skeleton
public import proofs.«01_k».proof.Proof.Gen.Transform.Launch
public import proofs.«01_k».proof.Proof.Gen.Transform.Points
public import proofs.«01_k».proof.Proof.Gen.Transform.Frame
public import proofs.«01_k».proof.Proof.Gen.TransformIdeal
public import proofs.«01_k».proof.Proof.Gen.TransformIdeal.Skeleton
public import proofs.«01_k».proof.Proof.Gen.TransformIdeal.Launch
public import proofs.«01_k».proof.Proof.Gen.TransformIdeal.Points
public import proofs.«01_k».proof.Proof.Gen.TransformIdeal.Frame
public import proofs.«01_k».proof.Proof.Gen.TransformIdeal.Value
public import proofs.«01_k».proof.Proof.Gen.TransformReferenceIdeal
public import proofs.«01_k».proof.Proof.Gen.TransformReferenceIdeal.Skeleton
public import proofs.«01_k».proof.Proof.Gen.TransformReferenceIdeal.Launch
public import proofs.«01_k».proof.Proof.Gen.TransformReferenceIdeal.Points
public import proofs.«01_k».proof.Proof.Gen.TransformReferenceIdeal.Frame
public import proofs.«01_k».proof.Proof.Gen.TransformReferenceIdeal.Value
public import proofs.«01_k».proof.Proof.KernelValue
public import proofs.«01_k».proof.Proof.ReferenceValue
public import proofs.«01_k».proof.Proof.TransformResults
public import proofs.«01_k».proof.Proof.TransformReferenceValue
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem Cert.Kernel

/-- The two result arrays are equal when the arguments are. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ((Cert.ReferenceIdeal.Gen.dats m' 0 c).arrAt 5 Cert.ReferenceIdeal.cfg0.N : (⟨2, ![12288, 27648]⟩ : Shape).Idx → EReal)
      = Cert.KernelIdeal.Value.G4 m c := by
  funext j
  obtain ⟨r, q, rfl⟩ : ∃ (r : Fin 12288) (q : Fin 27648), j = ix2 r q := ⟨j 0, j 1, eq_ix2 j⟩
  refine (Cert.ReferenceIdeal.Whole.result_apply m' c r q).trans ?_
  rw [h0, h1, h2, h3]
  exact (Cert.KernelIdeal.Blocks.result_apply m c r q).symm

/-! ## The transform -/

/-- Equal arguments give equal rows of `x` times their scales, equal tables, steps and codes. -/
theorem transform_eq (m : (ℓ : Loc Cert.TransformIdeal.nD Cert.TransformIdeal.τ Cert.TransformIdeal.sig) → Buf (Elt Ideal) ℓ)
    (m' : (ℓ : Loc Cert.TransformReferenceIdeal.nD Cert.TransformReferenceIdeal.τ Cert.TransformReferenceIdeal.sig) → Buf (Elt Ideal) ℓ) (c : Dev Cert.TransformIdeal.nD)
    (h0 : m' ((c.tc : Thread Cert.TransformReferenceIdeal.nD Cert.TransformReferenceIdeal.τ).loc Cert.TransformReferenceIdeal.main_arg0) = m ((c.tc : Thread Cert.TransformIdeal.nD Cert.TransformIdeal.τ).loc Cert.TransformIdeal.main_arg0))
    (h1 : m' ((c.tc : Thread Cert.TransformReferenceIdeal.nD Cert.TransformReferenceIdeal.τ).loc Cert.TransformReferenceIdeal.main_arg1) = m ((c.tc : Thread Cert.TransformIdeal.nD Cert.TransformIdeal.τ).loc Cert.TransformIdeal.main_arg1))
    (h2 : m' ((c.tc : Thread Cert.TransformReferenceIdeal.nD Cert.TransformReferenceIdeal.τ).loc Cert.TransformReferenceIdeal.main_arg2) = m ((c.tc : Thread Cert.TransformIdeal.nD Cert.TransformIdeal.τ).loc Cert.TransformIdeal.main_arg2))
    (h3 : m' ((c.tc : Thread Cert.TransformReferenceIdeal.nD Cert.TransformReferenceIdeal.τ).loc Cert.TransformReferenceIdeal.main_arg3) = m ((c.tc : Thread Cert.TransformIdeal.nD Cert.TransformIdeal.τ).loc Cert.TransformIdeal.main_arg3))
    (h4 : m' ((c.tc : Thread Cert.TransformReferenceIdeal.nD Cert.TransformReferenceIdeal.τ).loc Cert.TransformReferenceIdeal.main_arg4) = m ((c.tc : Thread Cert.TransformIdeal.nD Cert.TransformIdeal.τ).loc Cert.TransformIdeal.main_arg4)) :
    Cert.TransformReferenceIdeal.Whole.stepAt m' c = Cert.TransformIdeal.Parts.stepAt m c ∧ Cert.TransformReferenceIdeal.Whole.codeAt m' c = Cert.TransformIdeal.Parts.codeAt m c := by
  have hP : Cert.TransformReferenceIdeal.Whole.P m' c = Cert.TransformIdeal.Parts.P' m c := funext fun i => funext fun a => congrFun h2 (ix2 i a)
  have hQ : Cert.TransformReferenceIdeal.Whole.Q m' c = Cert.TransformIdeal.Parts.Q m c := funext fun j => funext fun k => congrFun h3 (ix2 j k)
  have hX : Cert.TransformReferenceIdeal.Whole.X m' c = Cert.TransformIdeal.Parts.X m c := funext fun r => funext fun n =>
    congrArg₂ (fun u v : EReal => u * v) (congrFun h0 _) (congrFun h1 _)
  have hL : Cert.TransformReferenceIdeal.Whole.L m' c = Cert.TransformIdeal.Parts.L m c := congrFun h4 ix0
  have hT : Cert.TransformReferenceIdeal.Whole.table m' c = Cert.TransformIdeal.Parts.table m c := by
    funext r
    unfold Cert.TransformReferenceIdeal.Whole.table Cert.TransformIdeal.Parts.table
    rw [hP, hQ, hX]
  have hS : Cert.TransformReferenceIdeal.Whole.stepAt m' c = Cert.TransformIdeal.Parts.stepAt m c := by
    funext r
    unfold Cert.TransformReferenceIdeal.Whole.stepAt Cert.TransformIdeal.Parts.stepAt
    rw [hT, hL]
  refine ⟨hS, ?_⟩
  funext r n
  unfold Cert.TransformReferenceIdeal.Whole.codeAt Cert.TransformIdeal.Parts.codeAt
  rw [hT, hS]

theorem codes_eq (m : (ℓ : Loc Cert.TransformIdeal.nD Cert.TransformIdeal.τ Cert.TransformIdeal.sig) → Buf (Elt Ideal) ℓ)
    (m' : (ℓ : Loc Cert.TransformReferenceIdeal.nD Cert.TransformReferenceIdeal.τ Cert.TransformReferenceIdeal.sig) → Buf (Elt Ideal) ℓ) (c : Dev Cert.TransformIdeal.nD)
    (hc : Cert.TransformReferenceIdeal.Whole.codeAt m' c = Cert.TransformIdeal.Parts.codeAt m c) :
    ((Cert.TransformReferenceIdeal.Gen.dats m' 0 c).arrAt 1 Cert.TransformReferenceIdeal.cfg0.N : (⟨2, ![12288, 5120]⟩ : Shape).Idx → BitVec 8)
      = (Cert.TransformIdeal.Gen.dats m 0 c).arrAt 6 Cert.TransformIdeal.cfg0.N := by
  funext j
  obtain ⟨r, n, rfl⟩ : ∃ (r : Fin 12288) (n : Fin 5120), j = ix2 r n := ⟨j 0, j 1, eq_ix2 j⟩
  refine (Cert.TransformReferenceIdeal.Whole.result_codes m' c r n).trans ?_
  rw [hc]
  exact (Cert.TransformIdeal.Parts.result_codes m c r n).symm

theorem fp8_eq (m : (ℓ : Loc Cert.TransformIdeal.nD Cert.TransformIdeal.τ Cert.TransformIdeal.sig) → Buf (Elt Ideal) ℓ)
    (m' : (ℓ : Loc Cert.TransformReferenceIdeal.nD Cert.TransformReferenceIdeal.τ Cert.TransformReferenceIdeal.sig) → Buf (Elt Ideal) ℓ) (c : Dev Cert.TransformIdeal.nD)
    (hc : Cert.TransformReferenceIdeal.Whole.codeAt m' c = Cert.TransformIdeal.Parts.codeAt m c) :
    ((Cert.TransformReferenceIdeal.Gen.dats m' 0 c).arrAt 2 Cert.TransformReferenceIdeal.cfg0.N : (⟨2, ![12288, 5120]⟩ : Shape).Idx → EReal)
      = (Cert.TransformIdeal.Gen.dats m 0 c).arrAt 7 Cert.TransformIdeal.cfg0.N := by
  funext j
  obtain ⟨r, n, rfl⟩ : ∃ (r : Fin 12288) (n : Fin 5120), j = ix2 r n := ⟨j 0, j 1, eq_ix2 j⟩
  refine (Cert.TransformReferenceIdeal.Whole.result_fp8 m' c r n).trans ?_
  rw [hc]
  exact (Cert.TransformIdeal.Parts.result_fp8 m c r n).symm

theorem rows_eq (m : (ℓ : Loc Cert.TransformIdeal.nD Cert.TransformIdeal.τ Cert.TransformIdeal.sig) → Buf (Elt Ideal) ℓ)
    (m' : (ℓ : Loc Cert.TransformReferenceIdeal.nD Cert.TransformReferenceIdeal.τ Cert.TransformReferenceIdeal.sig) → Buf (Elt Ideal) ℓ) (c : Dev Cert.TransformIdeal.nD)
    (hs : Cert.TransformReferenceIdeal.Whole.stepAt m' c = Cert.TransformIdeal.Parts.stepAt m c) :
    (Cert.TransformReferenceIdeal.Gen.V m' c Cert.TransformReferenceIdeal.main_v29 : (⟨3, ![48, 1, 256]⟩ : Shape).Idx → EReal)
      = (Cert.TransformIdeal.Gen.dats m 0 c).arrAt 8 Cert.TransformIdeal.cfg0.N := by
  funext j
  obtain ⟨u, a, rfl⟩ : ∃ (u : Fin 48) (a : Fin 256), j = ix3 u 0 a := ⟨j 0, j 2, by rw [eq_ix3 j, show j 1 = (0 : Fin 1) from Fin.ext (by have := (j 1).isLt; show (j 1).val = 0; change (j 1).val < 1 at this; omega)]; rfl⟩
  refine (Cert.TransformReferenceIdeal.Whole.V_rows m' c u a).trans ?_
  rw [hs]
  exact (Cert.TransformIdeal.Parts.result_rows m c u a).symm

theorem columns_eq (m : (ℓ : Loc Cert.TransformIdeal.nD Cert.TransformIdeal.τ Cert.TransformIdeal.sig) → Buf (Elt Ideal) ℓ)
    (m' : (ℓ : Loc Cert.TransformReferenceIdeal.nD Cert.TransformReferenceIdeal.τ Cert.TransformReferenceIdeal.sig) → Buf (Elt Ideal) ℓ) (c : Dev Cert.TransformIdeal.nD)
    (hs : Cert.TransformReferenceIdeal.Whole.stepAt m' c = Cert.TransformIdeal.Parts.stepAt m c) :
    (Cert.TransformReferenceIdeal.Gen.V m' c Cert.TransformReferenceIdeal.main_v31 : (⟨2, ![12288, 128]⟩ : Shape).Idx → EReal)
      = (Cert.TransformIdeal.Gen.dats m 0 c).arrAt 9 Cert.TransformIdeal.cfg0.N := by
  funext j
  obtain ⟨r, l, rfl⟩ : ∃ (r : Fin 12288) (l : Fin 128), j = ix2 r l := ⟨j 0, j 1, eq_ix2 j⟩
  refine (Cert.TransformReferenceIdeal.Whole.V_columns m' c r l).trans ?_
  rw [hs]
  exact (Cert.TransformIdeal.Parts.result_columns m c r l).symm

/-- The transform's kernel and its reference leave equal results. -/
theorem transform : algebraic_TransformIdeal_TransformReferenceIdeal (hTransformIdeal := Cert.TransformIdeal.Gen.facts) (hTransformReferenceIdeal := Cert.TransformReferenceIdeal.Gen.facts) :=
  fun m ρ m' ρ' _ hag => ⟨fun c => (Cert.TransformIdeal.Gen.dats m 0 c).arrAt 6 Cert.TransformIdeal.cfg0.N,
    fun c => (Cert.TransformIdeal.Gen.dats m 0 c).arrAt 7 Cert.TransformIdeal.cfg0.N,
    fun c => (Cert.TransformIdeal.Gen.dats m 0 c).arrAt 8 Cert.TransformIdeal.cfg0.N,
    fun c => (Cert.TransformIdeal.Gen.dats m 0 c).arrAt 9 Cert.TransformIdeal.cfg0.N,
    Cert.TransformIdeal.Value.run_blocks m ρ,
    (θ_run _ _ _).mono (fun _ h c => by
        obtain ⟨hs, hc⟩ := transform_eq m m' c (hag c).1 (hag c).2.1 (hag c).2.2.1 (hag c).2.2.2.1 (hag c).2.2.2.2
        exact ⟨(h c).1.trans (codes_eq m m' c hc), (h c).2.1.trans (fp8_eq m m' c hc), (h c).2.2.1.trans (rows_eq m m' c hs),
          (h c).2.2.2.1.trans (columns_eq m m' c hs), (h c).2.2.2.2⟩)
      (Cert.TransformReferenceIdeal.Whole.run m' ρ')⟩

theorem claim : Cert.Claim := ⟨Cert.Kernel.Gen.facts, Cert.KernelIdeal.Gen.facts, Cert.ReferenceIdeal.Gen.facts,
  Cert.Transform.Gen.facts, Cert.TransformIdeal.Gen.facts, Cert.TransformReferenceIdeal.Gen.facts,
  fun m ρ _ => Cert.Kernel.Gen.frame m ρ, fun m ρ _ => Cert.KernelIdeal.Gen.frame m ρ,
  fun m ρ _ => Cert.ReferenceIdeal.Gen.frame m ρ, fun m ρ _ => Cert.Transform.Gen.frame m ρ,
  fun m ρ _ => Cert.TransformIdeal.Gen.frame m ρ, fun m ρ _ => Cert.TransformReferenceIdeal.Gen.frame m ρ, trivial,
  fun m ρ m' ρ' _ hag => ⟨fun c => Cert.KernelIdeal.Value.G4 m c, Cert.KernelIdeal.Value.run m ρ,
    (θ_run _ _ _).mono (fun _ h c => ⟨(h c).1.trans (results_eq m m' c (hag c).1 (hag c).2.1 (hag c).2.2.1 (hag c).2.2.2), (h c).2⟩)
      (Cert.ReferenceIdeal.Value.run_blocks m' ρ')⟩,
  ⟨IdealRules.bf16_pair.bufferStatement .., IdealRules.bf16_pair.packStatement .., IdealRules.bf16_pair.statement .., IdealRules.bf16_pair.statement ..,
    IdealRules.bf16_pair.statement ..⟩,
  transform⟩

end Cert.Proof

end
